-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)) (v2 : (c : Dev Cert.Kernel3Ideal.nD) → Buf (Elt Ideal) ((c.tc : Thread Cert.Kernel3Ideal.nD Cert.Kernel3Ideal.τ).loc Cert.Kernel3Ideal.main_v28_2)) (v3 : (c : Dev Cert.Kernel3Ideal.nD) → Buf (Elt Ideal) ((c.tc : Thread Cert.Kernel3Ideal.nD Cert.Kernel3Ideal.τ).loc Cert.Kernel3Ideal.main_v28_3)) (v4 : (c : Dev Cert.Kernel3Ideal.nD) → Buf (Elt Ideal) ((c.tc : Thread Cert.Kernel3Ideal.nD Cert.Kernel3Ideal.τ).loc Cert.Kernel3Ideal.main_v28_4)) (v5 : (c : Dev Cert.Kernel3Ideal.nD) → Buf (Elt Ideal) ((c.tc : Thread Cert.Kernel3Ideal.nD Cert.Kernel3Ideal.τ).loc Cert.Kernel3Ideal.main_v28_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_v28_2) = v2 c
          ∧ r.2.mem ((c.tc : Thread Cert.Kernel3Ideal.nD Cert.Kernel3Ideal.τ).loc Cert.Kernel3Ideal.main_v28_3) = v3 c
          ∧ r.2.mem ((c.tc : Thread Cert.Kernel3Ideal.nD Cert.Kernel3Ideal.τ).loc Cert.Kernel3Ideal.main_v28_4) = v4 c
          ∧ r.2.mem ((c.tc : Thread Cert.Kernel3Ideal.nD Cert.Kernel3Ideal.τ).loc Cert.Kernel3Ideal.main_v28_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v102) = v0 c
          ∧ r.2.mem ((c.tc : Thread Cert.Reference3Ideal.nD Cert.Reference3Ideal.τ).loc Cert.Reference3Ideal.main_v105) = v1 c
          ∧ r.2.mem ((c.tc : Thread Cert.Reference3Ideal.nD Cert.Reference3Ideal.τ).loc Cert.Reference3Ideal.main_v106) = v2 c
          ∧ r.2.mem ((c.tc : Thread Cert.Reference3Ideal.nD Cert.Reference3Ideal.τ).loc Cert.Reference3Ideal.main_v107) = v3 c
          ∧ r.2.mem ((c.tc : Thread Cert.Reference3Ideal.nD Cert.Reference3Ideal.τ).loc Cert.Reference3Ideal.main_v108) = v4 c
          ∧ r.2.mem ((c.tc : Thread Cert.Reference3Ideal.nD Cert.Reference3Ideal.τ).loc Cert.Reference3Ideal.main_v109) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4112x512 : Shape := ⟨2, ![4112, 512]⟩
abbrev S4x128x128 : Shape := ⟨3, ![4, 128, 128]⟩
abbrev S4x128 : Shape := ⟨2, ![4, 128]⟩
abbrev S_ : Shape := ⟨0, ![]⟩

class Facts : Prop where
  bcast_S_S4112x512 : S_.BroadcastsInDim S4112x512 (![] : Fin 0 → Fin S4112x512.rank)
  reducesTo_S4112x512_S_d0_1 : S4112x512.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4112x512 .f32) (main_arg1 : FVec F S4x128x128 .f32) (main_arg2 : FVec F S4x128 .f32) (main_arg3 : FVec F S4112x512 .f32) : IVec S_ 1 :=
  let main_v0 : FVec F S4112x512 .f32 := Host.absf main_arg0
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  let main_c : IVec S_ 1 := constantI S_ 1 1#1
  let main_v3 : IVec S_ 1 := (fun x v => Host.reduce IntOp.andi x v reducesTo_S4112x512_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : FVec F S4x128 .f32 := Host.absf main_arg2
  let main_cst_2 : FVec F S_ .f32 := constant S_ .f32 0x7F800000#32
  let main_v9 : FVec F S4x128 .f32 := broadcastInDim S4x128 ![] bcast_S_S4x128 main_cst_2
  let main_v10 : IVec S4x128 1 := cmpf .olt main_v8 main_v9
  let main_c_3 : IVec S_ 1 := constantI S_ 1 1#1
  let main_v11 : IVec S_ 1 := (fun x v => Host.reduce IntOp.andi x v reducesTo_S4x128_S_d0_1 h_S_) main_v10 main_c_3
  let main_v12 : FVec F S4112x512 .f32 := Host.absf main_arg3
  let main_cst_4 : FVec F S_ .f32 := constant S_ .f32 0x7F800000#32
  let main_v13 : FVec F S4112x512 .f32 := broadcastInDim S4112x512 ![] bcast_S_S4112x512 main_cst_4
  let main_v14 : IVec S4112x512 1 := cmpf .olt main_v12 main_v13
  let main_c_5 : IVec S_ 1 := constantI S_ 1 1#1
  let main_v15 : IVec S_ 1 := (fun x v => Host.reduce IntOp.andi x v reducesTo_S4112x512_S_d0_1 h_S_) main_v14 main_c_5
  fn_part1 (F := F) main_v3 main_v7 main_v11 main_v15
-- ==== Pre_finite3.lean ====
abbrev S4352x1024 : Shape := ⟨2, ![4352, 1024]⟩
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4352x1024 : S_.BroadcastsInDim S4352x1024 (![] : Fin 0 → Fin S4352x1024.rank)
  reducesTo_S4352x1024_S_d0_1 : S4352x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S1024x2816 .f32) (main_arg6 : FVec F S2816x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S1024x2816 .f32 := Host.absf main_arg5
  let main_cst_8 : FVec F S_ .f32 := constant S_ .f32 0x7F800000#32
  let main_v21 : FVec F S1024x2816 .f32 := broadcastInDim S1024x2816 ![] bcast_S_S1024x2816 main_cst_8
  let main_v22 : IVec S1024x2816 1 := cmpf .olt main_v20 main_v21
  let main_c_9 : IVec S_ 1 := constantI S_ 1 1#1
  let main_v23 : IVec S_ 1 := (fun x v => Host.reduce IntOp.andi x v reducesTo_S1024x2816_S_d0_1 h_S_) main_v22 main_c_9
  let main_v24 : FVec F S2816x1024 .f32 := Host.absf main_arg6
  let main_cst_10 : FVec F S_ .f32 := constant S_ .f32 0x7F800000#32
  let main_v25 : FVec F S2816x1024 .f32 := broadcastInDim S2816x1024 ![] bcast_S_S2816x1024 main_cst_10
  let main_v26 : IVec S2816x1024 1 := cmpf .olt main_v24 main_v25
  let main_c_11 : IVec S_ 1 := constantI S_ 1 1#1
  let main_v27 : IVec S_ 1 := (fun x v => Host.reduce IntOp.andi x v reducesTo_S2816x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S4352x1024 .f32) (main_arg1 : FVec F S4096x1024 .f32) (main_arg2 : FVec F S1024 .f32) (main_arg3 : FVec F S1024 .f32) (main_arg4 : FVec F S1024x2816 .f32) (main_arg5 : FVec F S1024x2816 .f32) (main_arg6 : FVec F S2816x1024 .f32) : IVec S_ 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_c : IVec S_ 1 := constantI S_ 1 1#1
  let main_v3 : IVec S_ 1 := (fun x v => Host.reduce IntOp.andi x v reducesTo_S4352x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_arg6 main_v3 main_v7 main_v11 main_v15
-- ==== Kernel.lean ====
abbrev S4112x512 : Shape := ⟨2, ![4112, 512]⟩
abbrev S4x128x128 : Shape := ⟨3, ![4, 128, 128]⟩
abbrev S4x128 : Shape := ⟨2, ![4, 128]⟩
abbrev S_ : Shape := ⟨0, ![]⟩
abbrev S240x512 : Shape := ⟨2, ![240, 512]⟩
abbrev S4352x512 : Shape := ⟨2, ![4352, 512]⟩
abbrev S4x1x128 : Shape := ⟨3, ![4, 1, 128]⟩
abbrev S4352x128 : Shape := ⟨2, ![4352, 128]⟩
abbrev S1x128x128 : Shape := ⟨3, ![1, 128, 128]⟩
abbrev S1x1x128 : Shape := ⟨3, ![1, 1, 128]⟩
abbrev S4368x128 : Shape := ⟨2, ![4368, 128]⟩
abbrev S16x128 : Shape := ⟨2, ![16, 128]⟩
abbrev S128x128 : Shape := ⟨2, ![128, 128]⟩
abbrev S1x128 : Shape := ⟨2, ![1, 128]⟩
abbrev S272x128 : Shape := ⟨2, ![272, 128]⟩
abbrev S256x1 : Shape := ⟨2, ![256, 1]⟩
abbrev S256x128 : Shape := ⟨2, ![256, 128]⟩
abbrev S128 : Shape := ⟨1, ![128]⟩

abbrev nBuf : Space → Nat
  | .hbm => 14
  | .vmem => 16
  | .smem => 0
  | _ => 0

abbrev bufTy : (tb : Table) → Fin (tcTables nBuf tb) → BufTy
  | .hbm, ⟨0, _⟩ => ⟨S4112x512, .f32⟩
  | .hbm, ⟨1, _⟩ => ⟨S4x128x128, .f32⟩
  | .hbm, ⟨2, _⟩ => ⟨S4x128, .f32⟩
  | .hbm, ⟨3, _⟩ => ⟨S4112x512, .f32⟩
  | .hbm, ⟨4, _⟩ => ⟨S_, .f32⟩
  | .hbm, ⟨5, _⟩ => ⟨S240x512, .f32⟩
  | .hbm, ⟨6, _⟩ => ⟨S4352x512, .f32⟩
  | .hbm, ⟨7, _⟩ => ⟨S4352x512, .f32⟩
  | .hbm, ⟨8, _⟩ => ⟨S4x1x128, .f32⟩
  | .hbm, ⟨9, _⟩ => ⟨S4352x512, .f32⟩
  | .hbm, ⟨10, _⟩ => ⟨S4x128x128, .f32⟩
  | .hbm, ⟨11, _⟩ => ⟨S4x1x128, .f32⟩
  | .hbm, ⟨12, _⟩ => ⟨S4112x512, .f32⟩
  | .hbm, ⟨13, _⟩ => ⟨S4x128, .f32⟩
  | .local _ .vmem, ⟨0, _⟩ => ⟨S4352x128, .f32⟩
  | .local _ .vmem, ⟨1, _⟩ => ⟨S4352x128, .f32⟩
  | .local _ .vmem, ⟨2, _⟩ => ⟨S4352x128, .f32⟩
  | .local _ .vmem, ⟨3, _⟩ => ⟨S4352x128, .f32⟩
  | .local _ .vmem, ⟨4, _⟩ => ⟨S1x128x128, .f32⟩
  | .local _ .vmem, ⟨5, _⟩ => ⟨S1x128x128, .f32⟩
  | .local _ .vmem, ⟨6, _⟩ => ⟨S1x1x128, .f32⟩
  | .local _ .vmem, ⟨7, _⟩ => ⟨S1x1x128, .f32⟩
  | .local _ .vmem, ⟨8, _⟩ => ⟨S4352x128, .f32⟩
  | .local _ .vmem, ⟨9, _⟩ => ⟨S4352x128, .f32⟩
  | .local _ .vmem, ⟨10, _⟩ => ⟨S1x128x128, .f32⟩
  | .local _ .vmem, ⟨11, _⟩ => ⟨S1x128x128, .f32⟩
  | .local _ .vmem, ⟨12, _⟩ => ⟨S1x1x128, .f32⟩
  | .local _ .vmem, ⟨13, _⟩ => ⟨S1x1x128, .f32⟩
  | .local _ .vmem, ⟨14, _⟩ => ⟨S4368x128, .f32⟩
  | .local _ .vmem, ⟨15, _⟩ => ⟨S4368x128, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c17_i32 : BitVec 32 := 17#32
  let v22 : BitVec 32 := Scalar.addi c0_i32 c17_i32
  let c1_i32 : BitVec 32 := 1#32
  ⟨c0_i32, v22, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v24 : BitVec 32 := Scalar.muli arg10 c256_i32
  v24
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v24 : BitVec 32 := Scalar.muli arg10 c256_i32
  let v25 : BitVec 32 := v24
  let v26 : Index := Scalar.indexCast v25
  let c0_19 : Index := 0#32
  ![v26.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v24 : BitVec 32 := Scalar.muli arg10 c256_i32
  let v25 : BitVec 32 := v24
  let v69 : Index := Scalar.indexCast v25
  let c0_33 : Index := 0#32
  ![v69.toNat, 0]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v24 : BitVec 32 := Scalar.muli arg10 c256_i32
  let v25 : BitVec 32 := v24
  let v101 : Index := Scalar.indexCast v25
  let c0_55 : Index := 0#32
  ![v101.toNat, 0]
@[reducible] def k0_t2_loop : Scf.Loop 32 :=
  let c0_i32_15 : BitVec 32 := 0#32
  let c17_i32_16 : BitVec 32 := 17#32
  let v23 : BitVec 32 := Scalar.addi c0_i32_15 c17_i32_16
  let c1_i32_17 : BitVec 32 := 1#32
  ⟨c0_i32_15, v23, c1_i32_17⟩
def k0_mult2 (k0_t2 : Fin k0_t2_loop.trips) : BitVec 32 :=
  let c0_i32_15 : BitVec 32 := 0#32
  let c1_i32_17 : BitVec 32 := 1#32
  let arg10 : BitVec 32 := Scf.iv c0_i32_15 c1_i32_17 k0_t2
  let c256_i32 : BitVec 32 := 256#32
  let v24 : BitVec 32 := Scalar.muli arg10 c256_i32
  v24
def k0_off4 (k0_t2 : Fin k0_t2_loop.trips) : Fin 2 → Nat :=
  let c0_i32_15 : BitVec 32 := 0#32
  let c1_i32_17 : BitVec 32 := 1#32
  let arg10 : BitVec 32 := Scf.iv c0_i32_15 c1_i32_17 k0_t2
  let c256_i32 : BitVec 32 := 256#32
  let v24 : BitVec 32 := Scalar.muli arg10 c256_i32
  let v25 : BitVec 32 := v24
  let v26 : Index := Scalar.indexCast v25
  let c0_19 : Index := 0#32
  ![v26.toNat, 0]
def k0_off5 (k0_t2 : Fin k0_t2_loop.trips) : Fin 2 → Nat :=
  let c0_i32_15 : BitVec 32 := 0#32
  let c1_i32_17 : BitVec 32 := 1#32
  let arg10 : BitVec 32 := Scf.iv c0_i32_15 c1_i32_17 k0_t2
  let c256_i32 : BitVec 32 := 256#32
  let v24 : BitVec 32 := Scalar.muli arg10 c256_i32
  let v25 : BitVec 32 := v24
  let v28 : Index := Scalar.indexCast v25
  let c0_20 : Index := 0#32
  ![v28.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4352x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4352x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4112x512 : Shape := ⟨2, ![4112, 512]⟩
abbrev S4x128x128 : Shape := ⟨3, ![4, 128, 128]⟩
abbrev S4x128 : Shape := ⟨2, ![4, 128]⟩
abbrev S4112x4x128 : Shape := ⟨3, ![4112, 4, 128]⟩
abbrev S_ : Shape := ⟨0, ![]⟩
abbrev S4112 : Shape := ⟨1, ![4112]⟩
abbrev S4112x1x128 : Shape := ⟨3, ![4112, 1, 128]⟩
abbrev S4112x128 : Shape := ⟨2, ![4112, 128]⟩
abbrev S2x128 : Shape := ⟨2, ![2, 128]⟩
abbrev S4110x128 : Shape := ⟨2, ![4110, 128]⟩
abbrev S4112x1 : Shape := ⟨2, ![4112, 1]⟩
abbrev S4108x128 : Shape := ⟨2, ![4108, 128]⟩
abbrev S8x128 : Shape := ⟨2, ![8, 128]⟩
abbrev S4104x128 : Shape := ⟨2, ![4104, 128]⟩
abbrev S16x128 : Shape := ⟨2, ![16, 128]⟩
abbrev S4096x128 : Shape := ⟨2, ![4096, 128]⟩
abbrev S4x128x4112 : Shape := ⟨3, ![4, 128, 4112]⟩
abbrev S1x4x128 : Shape := ⟨3, ![1, 4, 128]⟩
abbrev S4x4112x128 : Shape := ⟨3, ![4, 4112, 128]⟩

abbrev nBuf : Space → Nat
  | .hbm => 188
  | .vmem => 0
  | .smem => 0
  | _ => 0

abbrev hbmTy0_0 (i : Nat) : BufTy := match i % 128 with
  | 0 => ⟨S4112x512, .f32⟩
  | 1 => ⟨S4x128x128, .f32⟩
  | 2 => ⟨S4x128, .f32⟩
  | 3 => ⟨S4112x512, .f32⟩
  | 4 => ⟨S4112x4x128, .f32⟩
  | 5 => ⟨S_, .f32⟩
  | 6 => ⟨S_, .f32⟩
  | 7 => ⟨S4112x4x128, .f32⟩
  | 8 => ⟨S4112, .f32⟩
  | 9 => ⟨S_, .f32⟩
  | 10 => ⟨S4112, .f32⟩
  | 11 => ⟨S4112, .f32⟩
  | 12 => ⟨S4112x1x128, .f32⟩
  | 13 => ⟨S4112x128, .f32⟩
  | 14 => ⟨S_, .f32⟩
  | 15 => ⟨S2x128, .f32⟩
  | 16 => ⟨S4110x128, .f32⟩
  | 17 => ⟨S4112x128, .f32⟩
  | 18 => ⟨S_, .f32⟩
  | 19 => ⟨S2x128, .f32⟩
  | 20 => ⟨S_, .f32⟩
  | 21 => ⟨S4112, .f32⟩
  | 22 => ⟨S4112, .f32⟩
  | 23 => ⟨S4112x1, .f32⟩
  | 24 => ⟨S4112x128, .f32⟩
  | 25 => ⟨S4112x128, .f32⟩
  | 26 => ⟨S4112x128, .f32⟩
  | 27 => ⟨S4112x1x128, .f32⟩
  | 28 => ⟨S4112x128, .f32⟩
  | 29 => ⟨S4112x128, .f32⟩
  | 30 => ⟨S4112x1x128, .f32⟩
  | 31 => ⟨S4112x128, .f32⟩
  | 32 => ⟨S_, .f32⟩
  | 33 => ⟨S4x128, .f32⟩
  | 34 => ⟨S4108x128, .f32⟩
  | 35 => ⟨S4112x128, .f32⟩
  | 36 => ⟨S_, .f32⟩
  | 37 => ⟨S4x128, .f32⟩
  | 38 => ⟨S_, .f32⟩
  | 39 => ⟨S4112, .f32⟩
  | 40 => ⟨S4112, .f32⟩
  | 41 => ⟨S4112x1, .f32⟩
  | 42 => ⟨S4112x128, .f32⟩
  | 43 => ⟨S4112x128, .f32⟩
  | 44 => ⟨S4112x128, .f32⟩
  | 45 => ⟨S4112x1x128, .f32⟩
  | 46 => ⟨S4112x128, .f32⟩
  | 47 => ⟨S4112x128, .f32⟩
  | 48 => ⟨S4112x1x128, .f32⟩
  | 49 => ⟨S4112x128, .f32⟩
  | 50 => ⟨S_, .f32⟩
  | 51 => ⟨S8x128, .f32⟩
  | 52 => ⟨S4104x128, .f32⟩
  | 53 => ⟨S4112x128, .f32⟩
  | 54 => ⟨S_, .f32⟩
  | 55 => ⟨S8x128, .f32⟩
  | 56 => ⟨S_, .f32⟩
  | 57 => ⟨S4112, .f32⟩
  | 58 => ⟨S4112, .f32⟩
  | 59 => ⟨S4112x1, .f32⟩
  | 60 => ⟨S4112x128, .f32⟩
  | 61 => ⟨S4112x128, .f32⟩
  | 62 => ⟨S4112x128, .f32⟩
  | 63 => ⟨S4112x1x128, .f32⟩
  | 64 => ⟨S4112x128, .f32⟩
  | 65 => ⟨S4112x128, .f32⟩
  | 66 => ⟨S4112x1x128, .f32⟩
  | 67 => ⟨S4112x128, .f32⟩
  | 68 => ⟨S_, .f32⟩
  | 69 => ⟨S16x128, .f32⟩
  | 70 => ⟨S4096x128, .f32⟩
  | 71 => ⟨S4112x128, .f32⟩
  | 72 => ⟨S_, .f32⟩
  | 73 => ⟨S16x128, .f32⟩
  | 74 => ⟨S_, .f32⟩
  | 75 => ⟨S4112, .f32⟩
  | 76 => ⟨S4112, .f32⟩
  | 77 => ⟨S4112x1, .f32⟩
  | 78 => ⟨S4112x128, .f32⟩
  | 79 => ⟨S4112x128, .f32⟩
  | 80 => ⟨S4112x128, .f32⟩
  | 81 => ⟨S4112x1x128, .f32⟩
  | 82 => ⟨S4112x128, .f32⟩
  | 83 => ⟨S4112x128, .f32⟩
  | 84 => ⟨S4112x1x128, .f32⟩
  | 85 => ⟨S4112x1x128, .f32⟩
  | 86 => ⟨S4112x1x128, .f32⟩
  | 87 => ⟨S4112x1x128, .f32⟩
  | 88 => ⟨S4112x4x128, .f32⟩
  | 89 => ⟨S4x128x4112, .f32⟩
  | 90 => ⟨S4112x4x128, .f32⟩
  | 91 => ⟨S1x4x128, .f32⟩
  | 92 => ⟨S4112x4x128, .f32⟩
  | 93 => ⟨S4112x4x128, .f32⟩
  | 94 => ⟨S4112x512, .f32⟩
  | 95 => ⟨S4112x4x128, .f32⟩
  | 96 => ⟨S4112x4x128, .f32⟩
  | 97 => ⟨S_, .f32⟩
  | 98 => ⟨S4x128, .f32⟩
  | 99 => ⟨S1x4x128, .f32⟩
  | 100 => ⟨S4112x4x128, .f32⟩
  | 101 => ⟨S4112x4x128, .f32⟩
  | 102 => ⟨S_, .f32⟩
  | 103 => ⟨S4x128, .f32⟩
  | 104 => ⟨S4x128x4112, .f32⟩
  | 105 => ⟨S4x4112x128, .f32⟩
  | 106 => ⟨S4112x4x128, .f32⟩
  | 107 => ⟨S4x128x128, .f32⟩
  | 108 => ⟨S4x128x128, .f32⟩
  | 109 => ⟨S4112x1x128, .f32⟩
  | 110 => ⟨S4112x128, .f32⟩
  | 111 => ⟨S4112x1x128, .f32⟩
  | 112 => ⟨S4112x128, .f32⟩
  | 113 => ⟨S4112x1x128, .f32⟩
  | 114 => ⟨S4112x128, .f32⟩
  | 115 => ⟨S4112x1x128, .f32⟩
  | 116 => ⟨S4112x128, .f32⟩
  | 117 => ⟨S4112x128, .f32⟩
  | 118 => ⟨S4112x1x128, .f32⟩
  | 119 => ⟨S_, .f32⟩
  | 120 => ⟨S4112x4x128, .f32⟩
  | 121 => ⟨S4112x128, .f32⟩
  | 122 => ⟨S4112x128, .f32⟩
  | 123 => ⟨S4112x128, .f32⟩
  | 124 => ⟨S16x128, .f32⟩
  | 125 => ⟨S4096x128, .f32⟩
  | 126 => ⟨S_, .f32⟩
  | 127 => ⟨S4112x128, .f32⟩
  | _ => ⟨S4112x512, .f32⟩

abbrev hbmTy0_1 (i : Nat) : BufTy := match i % 128 with
  | 0 => ⟨S4112x128, .f32⟩
  | 1 => ⟨S4112x1x128, .f32⟩
  | 2 => ⟨S_, .f32⟩
  | 3 => ⟨S4112x4x128, .f32⟩
  | 4 => ⟨S4112x128, .f32⟩
  | 5 => ⟨S4112x1x128, .f32⟩
  | 6 => ⟨S_, .f32⟩
  | 7 => ⟨S4112x4x128, .f32⟩
  | 8 => ⟨S4112x4x128, .f32⟩
  | 9 => ⟨S4112x128, .f32⟩
  | 10 => ⟨S4112x128, .f32⟩
  | 11 => ⟨S4112x128, .f32⟩
  | 12 => ⟨S8x128, .f32⟩
  | 13 => ⟨S4104x128, .f32⟩
  | 14 => ⟨S_, .f32⟩
  | 15 => ⟨S4112x128, .f32⟩
  | 16 => ⟨S4112x128, .f32⟩
  | 17 => ⟨S4112x1x128, .f32⟩
  | 18 => ⟨S_, .f32⟩
  | 19 => ⟨S4112x4x128, .f32⟩
  | 20 => ⟨S4112x4x128, .f32⟩
  | 21 => ⟨S4112x128, .f32⟩
  | 22 => ⟨S4112x1x128, .f32⟩
  | 23 => ⟨S_, .f32⟩
  | 24 => ⟨S4112x4x128, .f32⟩
  | 25 => ⟨S4112x4x128, .f32⟩
  | 26 => ⟨S4112x128, .f32⟩
  | 27 => ⟨S4112x128, .f32⟩
  | 28 => ⟨S4112x128, .f32⟩
  | 29 => ⟨S4x128, .f32⟩
  | 30 => ⟨S4108x128, .f32⟩
  | 31 => ⟨S_, .f32⟩
  | 32 => ⟨S4112x128, .f32⟩
  | 33 => ⟨S4112x128, .f32⟩
  | 34 => ⟨S4112x1x128, .f32⟩
  | 35 => ⟨S_, .f32⟩
  | 36 => ⟨S4112x4x128, .f32⟩
  | 37 => ⟨S4112x4x128, .f32⟩
  | 38 => ⟨S4112x128, .f32⟩
  | 39 => ⟨S4112x1x128, .f32⟩
  | 40 => ⟨S_, .f32⟩
  | 41 => ⟨S4112x4x128, .f32⟩
  | 42 => ⟨S4112x4x128, .f32⟩
  | 43 => ⟨S4112x128, .f32⟩
  | 44 => ⟨S4112x128, .f32⟩
  | 45 => ⟨S4112x128, .f32⟩
  | 46 => ⟨S2x128, .f32⟩
  | 47 => ⟨S4110x128, .f32⟩
  | 48 => ⟨S_, .f32⟩
  | 49 => ⟨S4112x128, .f32⟩
  | 50 => ⟨S4112x128, .f32⟩
  | 51 => ⟨S4112x1x128, .f32⟩
  | 52 => ⟨S_, .f32⟩
  | 53 => ⟨S4112x4x128, .f32⟩
  | 54 => ⟨S4112x4x128, .f32⟩
  | 55 => ⟨S_, .f32⟩
  | 56 => ⟨S_, .f32⟩
  | 57 => ⟨S4112x4x128, .f32⟩
  | 58 => ⟨S4112x4x128, .f32⟩
  | 59 => ⟨S4112x512, .f32⟩
  | _ => ⟨S4112x512, .f32⟩

abbrev hbmTy (i : Nat) : BufTy := match i / 128 with
  | 0 => hbmTy0_0 i
  | 1 => hbmTy0_1 i
  | _ => ⟨S4112x512, .f32⟩

abbrev bufTy : (tb : Table) → Fin (tcTables nBuf tb) → BufTy
  | .hbm, ⟨i, _⟩ => hbmTy i
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_12 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_13 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_14 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_15 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_16 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_17 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_18 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_19 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_20 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_21 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_22 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_23 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_24 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_25 : Ref sig .tc := ⟨.hbm, 180, rfl⟩
abbrev main_v148 : Ref sig .tc := ⟨.hbm, 181, rfl⟩
abbrev main_v149 : Ref sig .tc := ⟨.hbm, 182, rfl⟩
abbrev main_call1_call0_cst : Ref sig .tc := ⟨.hbm, 183, rfl⟩
abbrev main_call1_call0_v0 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩

abbrev nD : Nat := 1
abbrev τ : Topo := Topo.v7x

variable {F : FTy → Type} [FloatOps F]
-- ==== Kernel2.lean ====
abbrev S4352x1024 : Shape := ⟨2, ![4352, 1024]⟩
abbrev S4352x2816 : Shape := ⟨2, ![4352, 2816]⟩
abbrev S4352x8448 : Shape := ⟨2, ![4352, 8448]⟩
abbrev S8448x4352 : Shape := ⟨2, ![8448, 4352]⟩
abbrev S8x3x352x1024 : Shape := ⟨4, ![8, 3, 352, 1024]⟩
abbrev S1408x2176 : Shape := ⟨2, ![1408, 2176]⟩
abbrev S2176x1024 : Shape := ⟨2, ![2176, 1024]⟩
abbrev S4x1x352x1024 : Shape := ⟨4, ![4, 1, 352, 1024]⟩
abbrev S1408x1024 : Shape := ⟨2, ![1408, 1024]⟩
abbrev S352x1024 : Shape := ⟨2, ![352, 1024]⟩
abbrev S1x1x352x1024 : Shape := ⟨4, ![1, 1, 352, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S4352x2816, .f32⟩
  | .hbm, ⟨2, _⟩ => ⟨S4352x2816, .f32⟩
  | .hbm, ⟨3, _⟩ => ⟨S4352x2816, .f32⟩
  | .hbm, ⟨4, _⟩ => ⟨S4352x1024, .f32⟩
  | .hbm, ⟨5, _⟩ => ⟨S4352x8448, .f32⟩
  | .hbm, ⟨6, _⟩ => ⟨S8448x4352, .f32⟩
  | .hbm, ⟨7, _⟩ => ⟨S8448x4352, .bf16⟩
  | .hbm, ⟨8, _⟩ => ⟨S4352x1024, .bf16⟩
  | .hbm, ⟨9, _⟩ => ⟨S4352x1024, .bf16⟩
  | .hbm, ⟨10, _⟩ => ⟨S8x3x352x1024, .bf16⟩
  | .local _ .vmem, ⟨0, _⟩ => ⟨S1408x2176, .bf16⟩
  | .local _ .vmem, ⟨1, _⟩ => ⟨S1408x2176, .bf16⟩
  | .local _ .vmem, ⟨2, _⟩ => ⟨S2176x1024, .bf16⟩
  | .local _ .vmem, ⟨3, _⟩ => ⟨S2176x1024, .bf16⟩
  | .local _ .vmem, ⟨4, _⟩ => ⟨S2176x1024, .bf16⟩
  | .local _ .vmem, ⟨5, _⟩ => ⟨S2176x1024, .bf16⟩
  | .local _ .vmem, ⟨6, _⟩ => ⟨S4x1x352x1024, .bf16⟩
  | .local _ .vmem, ⟨7, _⟩ => ⟨S4x1x352x1024, .bf16⟩
  | .local _ .vmem, ⟨8, _⟩ => ⟨S1408x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 2], ![false, false]⟩

def k0_cond4 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c0_i32 : BitVec 32 := 0#32
  let v1 : BitVec 32 := Scalar.select v0 c0_i32 arg1
  let c0_i32_0 : BitVec 32 := 0#32
  let c0_i32_1 : BitVec 32 := 0#32
  ![v1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

abbrev stage0_0 : Fin 2 → Memref sig .tc .vmem S1408x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S4352x1024 : Shape := ⟨2, ![4352, 1024]⟩
abbrev S4352x2816 : Shape := ⟨2, ![4352, 2816]⟩
abbrev S_ : Shape := ⟨0, ![]⟩
abbrev S1024x2816 : Shape := ⟨2, ![1024, 2816]⟩
abbrev S2816x1024 : Shape := ⟨2, ![2816, 1024]⟩
abbrev S8x352x1024 : Shape := ⟨3, ![8, 352, 1024]⟩
abbrev S8x1x352x1024 : Shape := ⟨4, ![8, 1, 352, 1024]⟩
abbrev S8x3x352x1024 : Shape := ⟨4, ![8, 3, 352, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x2816, .f32⟩
  | .hbm, ⟨2, _⟩ => ⟨S4352x2816, .f32⟩
  | .hbm, ⟨3, _⟩ => ⟨S4352x2816, .f32⟩
  | .hbm, ⟨4, _⟩ => ⟨S4352x1024, .f32⟩
  | .hbm, ⟨5, _⟩ => ⟨S_, .f32⟩
  | .hbm, ⟨6, _⟩ => ⟨S1024x2816, .f32⟩
  | .hbm, ⟨7, _⟩ => ⟨S_, .f32⟩
  | .hbm, ⟨8, _⟩ => ⟨S2816x1024, .f32⟩
  | .hbm, ⟨9, _⟩ => ⟨S4352x2816, .f32⟩
  | .hbm, ⟨10, _⟩ => ⟨S4352x2816, .f32⟩
  | .hbm, ⟨11, _⟩ => ⟨S4352x1024, .f32⟩
  | .hbm, ⟨12, _⟩ => ⟨S1024x2816, .f32⟩
  | .hbm, ⟨13, _⟩ => ⟨S2816x1024, .f32⟩
  | .hbm, ⟨14, _⟩ => ⟨S2816x1024, .f32⟩
  | .hbm, ⟨15, _⟩ => ⟨S1024x2816, .f32⟩
  | .hbm, ⟨16, _⟩ => ⟨S2816x1024, .f32⟩
  | .hbm, ⟨17, _⟩ => ⟨S1024x2816, .f32⟩
  | .hbm, ⟨18, _⟩ => ⟨S2816x1024, .f32⟩
  | .hbm, ⟨19, _⟩ => ⟨S2816x1024, .f32⟩
  | .hbm, ⟨20, _⟩ => ⟨S8x352x1024, .f32⟩
  | .hbm, ⟨21, _⟩ => ⟨S8x352x1024, .f32⟩
  | .hbm, ⟨22, _⟩ => ⟨S8x352x1024, .f32⟩
  | .hbm, ⟨23, _⟩ => ⟨S8x1x352x1024, .f32⟩
  | .hbm, ⟨24, _⟩ => ⟨S8x1x352x1024, .f32⟩
  | .hbm, ⟨25, _⟩ => ⟨S8x1x352x1024, .f32⟩
  | .hbm, ⟨26, _⟩ => ⟨S8x3x352x1024, .f32⟩
  | .hbm, ⟨27, _⟩ => ⟨S8x3x352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel3.lean ====
abbrev S4352x1024 : Shape := ⟨2, ![4352, 1024]⟩
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x2816 : Shape := ⟨2, ![4352, 2816]⟩
abbrev S4352x5632 : Shape := ⟨2, ![4352, 5632]⟩
abbrev S8448x4352 : Shape := ⟨2, ![8448, 4352]⟩
abbrev S1x128 : Shape := ⟨2, ![1, 128]⟩
abbrev S256x1024 : Shape := ⟨2, ![256, 1024]⟩
abbrev S256x5632 : Shape := ⟨2, ![256, 5632]⟩
abbrev S8448x256 : Shape := ⟨2, ![8448, 256]⟩
abbrev S3 : Shape := ⟨1, ![3]⟩
abbrev S1 : Shape := ⟨1, ![1]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩
abbrev S1408x1024 : Shape := ⟨2, ![1408, 1024]⟩
abbrev S256x1408 : Shape := ⟨2, ![256, 1408]⟩
abbrev S1408x256 : Shape := ⟨2, ![1408, 256]⟩

abbrev nBuf : Space → Nat
  | .hbm => 52
  | .vmem => 22
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4352x1024, .f32⟩
  | .hbm, ⟨8, _⟩ => ⟨S_, .f32⟩
  | .hbm, ⟨9, _⟩ => ⟨S4352, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S_, .f32⟩
  | .hbm, ⟨15, _⟩ => ⟨S4352x1, .f32⟩
  | .hbm, ⟨16, _⟩ => ⟨S4352x1, .f32⟩
  | .hbm, ⟨17, _⟩ => ⟨S4352x1, .f32⟩
  | .hbm, ⟨18, _⟩ => ⟨S4352x1024, .f32⟩
  | .hbm, ⟨19, _⟩ => ⟨S4352x1024, .f32⟩
  | .hbm, ⟨20, _⟩ => ⟨S1x1024, .f32⟩
  | .hbm, ⟨21, _⟩ => ⟨S4352x1024, .f32⟩
  | .hbm, ⟨22, _⟩ => ⟨S4352x1024, .f32⟩
  | .hbm, ⟨23, _⟩ => ⟨S4352x2816, .f32⟩
  | .hbm, ⟨24, _⟩ => ⟨S4352x2816, .f32⟩
  | .hbm, ⟨25, _⟩ => ⟨S4352x2816, .f32⟩
  | .hbm, ⟨26, _⟩ => ⟨S4352x2816, .f32⟩
  | .hbm, ⟨27, _⟩ => ⟨S_, .f32⟩
  | .hbm, ⟨28, _⟩ => ⟨S4352x2816, .f32⟩
  | .hbm, ⟨29, _⟩ => ⟨S4352x2816, .f32⟩
  | .hbm, ⟨30, _⟩ => ⟨S_, .f32⟩
  | .hbm, ⟨31, _⟩ => ⟨S4352x2816, .f32⟩
  | .hbm, ⟨32, _⟩ => ⟨S4352x2816, .f32⟩
  | .hbm, ⟨33, _⟩ => ⟨S4352x2816, .f32⟩
  | .hbm, ⟨34, _⟩ => ⟨S4352x2816, .f32⟩
  | .hbm, ⟨35, _⟩ => ⟨S4352x1024, .f32⟩
  | .hbm, ⟨36, _⟩ => ⟨S4352x1024, .f32⟩
  | .hbm, ⟨37, _⟩ => ⟨S4352x5632, .f32⟩
  | .hbm, ⟨38, _⟩ => ⟨S4352x5632, .bf16⟩
  | .hbm, ⟨39, _⟩ => ⟨S1x1024, .f32⟩
  | .hbm, ⟨40, _⟩ => ⟨S1x1024, .f32⟩
  | .hbm, ⟨41, _⟩ => ⟨S2816x1024, .f32⟩
  | .hbm, ⟨42, _⟩ => ⟨S2816x1024, .bf16⟩
  | .hbm, ⟨43, _⟩ => ⟨S2816x1024, .f32⟩
  | .hbm, ⟨44, _⟩ => ⟨S2816x1024, .bf16⟩
  | .hbm, ⟨45, _⟩ => ⟨S2816x1024, .bf16⟩
  | .hbm, ⟨46, _⟩ => ⟨S4352x1024, .f32⟩
  | .hbm, ⟨47, _⟩ => ⟨S8448x4352, .bf16⟩
  | .hbm, ⟨48, _⟩ => ⟨S4352x1024, .bf16⟩
  | .hbm, ⟨49, _⟩ => ⟨S1x128, .f32⟩
  | .hbm, ⟨50, _⟩ => ⟨S1x1024, .f32⟩
  | .hbm, ⟨51, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x5632, .bf16⟩
  | .local _ .vmem, ⟨7, _⟩ => ⟨S256x5632, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S8448x256, .bf16⟩
  | .local _ .vmem, ⟨13, _⟩ => ⟨S8448x256, .bf16⟩
  | .local _ .vmem, ⟨14, _⟩ => ⟨S256x1024, .bf16⟩
  | .local _ .vmem, ⟨15, _⟩ => ⟨S256x1024, .bf16⟩
  | .local _ .vmem, ⟨16, _⟩ => ⟨S1x128, .f32⟩
  | .local _ .vmem, ⟨17, _⟩ => ⟨S1x1024, .f32⟩
  | .local _ .vmem, ⟨18, _⟩ => ⟨S1x1024, .f32⟩
  | .local _ .vmem, ⟨19, _⟩ => ⟨S2816x1024, .bf16⟩
  | .local _ .vmem, ⟨20, _⟩ => ⟨S2816x1024, .bf16⟩
  | .local _ .vmem, ⟨21, _⟩ => ⟨S2816x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_v28_2 : Ref sig .tc := ⟨.hbm, 48, rfl⟩
abbrev main_v28_3 : Ref sig .tc := ⟨.hbm, 49, rfl⟩
abbrev main_v28_4 : Ref sig .tc := ⟨.hbm, 50, rfl⟩
abbrev main_v28_5 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8448x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S4352x1024 : Shape := ⟨2, ![4352, 1024]⟩
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x2816 : Shape := ⟨2, ![4352, 2816]⟩
abbrev S4096 : Shape := ⟨1, ![4096]⟩
abbrev S4352x8448 : Shape := ⟨2, ![4352, 8448]⟩
abbrev S8448x4352 : Shape := ⟨2, ![8448, 4352]⟩
abbrev S1x128 : Shape := ⟨2, ![1, 128]⟩

abbrev nBuf : Space → Nat
  | .hbm => 159
  | .vmem => 0
  | .smem => 0
  | _ => 0

abbrev hbmTy0_0 (i : Nat) : BufTy := match i % 128 with
  | 0 => ⟨S4352x1024, .f32⟩
  | 1 => ⟨S4096x1024, .f32⟩
  | 2 => ⟨S1024, .f32⟩
  | 3 => ⟨S1024, .f32⟩
  | 4 => ⟨S1024x2816, .f32⟩
  | 5 => ⟨S1024x2816, .f32⟩
  | 6 => ⟨S2816x1024, .f32⟩
  | 7 => ⟨S4352x1024, .f32⟩
  | 8 => ⟨S_, .f32⟩
  | 9 => ⟨S4352, .f32⟩
  | 10 => ⟨S4352x1, .f32⟩
  | 11 => ⟨S_, .f32⟩
  | 12 => ⟨S4352x1, .f32⟩
  | 13 => ⟨S4352x1, .f32⟩
  | 14 => ⟨S_, .f32⟩
  | 15 => ⟨S4352x1, .f32⟩
  | 16 => ⟨S4352x1, .f32⟩
  | 17 => ⟨S4352x1, .f32⟩
  | 18 => ⟨S4352x1, .f32⟩
  | 19 => ⟨S_, .f32⟩
  | 20 => ⟨S4352x1, .f32⟩
  | 21 => ⟨S4352x1, .f32⟩
  | 22 => ⟨S4352x1024, .f32⟩
  | 23 => ⟨S4352x1024, .f32⟩
  | 24 => ⟨S1x1024, .f32⟩
  | 25 => ⟨S4352x1024, .f32⟩
  | 26 => ⟨S4352x1024, .f32⟩
  | 27 => ⟨S4352x2816, .f32⟩
  | 28 => ⟨S4352x2816, .f32⟩
  | 29 => ⟨S4352x2816, .f32⟩
  | 30 => ⟨S4352x2816, .f32⟩
  | 31 => ⟨S_, .f32⟩
  | 32 => ⟨S4352x2816, .f32⟩
  | 33 => ⟨S4352x2816, .f32⟩
  | 34 => ⟨S_, .f32⟩
  | 35 => ⟨S4352x2816, .f32⟩
  | 36 => ⟨S4352x2816, .f32⟩
  | 37 => ⟨S_, .f32⟩
  | 38 => ⟨S4352x2816, .f32⟩
  | 39 => ⟨S4352x2816, .f32⟩
  | 40 => ⟨S4352x2816, .f32⟩
  | 41 => ⟨S4352x2816, .f32⟩
  | 42 => ⟨S4352x2816, .f32⟩
  | 43 => ⟨S4352x1024, .f32⟩
  | 44 => ⟨S4352x1024, .f32⟩
  | 45 => ⟨S4352x1024, .f32⟩
  | 46 => ⟨S_, .f32⟩
  | 47 => ⟨S4352, .f32⟩
  | 48 => ⟨S4352x1, .f32⟩
  | 49 => ⟨S_, .f32⟩
  | 50 => ⟨S4352x1, .f32⟩
  | 51 => ⟨S4352x1, .f32⟩
  | 52 => ⟨S_, .f32⟩
  | 53 => ⟨S4352x1, .f32⟩
  | 54 => ⟨S4352x1, .f32⟩
  | 55 => ⟨S4352x1, .f32⟩
  | 56 => ⟨S4352x1, .f32⟩
  | 57 => ⟨S_, .f32⟩
  | 58 => ⟨S4352x1, .f32⟩
  | 59 => ⟨S4352x1, .f32⟩
  | 60 => ⟨S4352x1024, .f32⟩
  | 61 => ⟨S4352x1024, .f32⟩
  | 62 => ⟨S1x1024, .f32⟩
  | 63 => ⟨S4352x1024, .f32⟩
  | 64 => ⟨S4352x1024, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096, .f32⟩
  | 73 => ⟨S_, .f32⟩
  | 74 => ⟨S4096, .f32⟩
  | 75 => ⟨S4096, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S4096, .f32⟩
  | 84 => ⟨S_, .f32⟩
  | 85 => ⟨S4096, .f32⟩
  | 86 => ⟨S4096, .f32⟩
  | 87 => ⟨S4096x1024, .f32⟩
  | 88 => ⟨S4096x1024, .f32⟩
  | 89 => ⟨S_, .f32⟩
  | 90 => ⟨S4352x1024, .f32⟩
  | 91 => ⟨S4352x1024, .f32⟩
  | 92 => ⟨S_, .f32⟩
  | 93 => ⟨S1024, .f32⟩
  | 94 => ⟨S1x1024, .f32⟩
  | 95 => ⟨S4352x1024, .f32⟩
  | 96 => ⟨S4352x1024, .f32⟩
  | 97 => ⟨S_, .f32⟩
  | 98 => ⟨S1024, .f32⟩
  | 99 => ⟨S4352x1024, .f32⟩
  | 100 => ⟨S_, .f32⟩
  | 101 => ⟨S4352, .f32⟩
  | 102 => ⟨S4352x1, .f32⟩
  | 103 => ⟨S4352x1024, .f32⟩
  | 104 => ⟨S4352x1024, .f32⟩
  | 105 => ⟨S4352x1, .f32⟩
  | 106 => ⟨S_, .f32⟩
  | 107 => ⟨S4352x1, .f32⟩
  | 108 => ⟨S4352x1, .f32⟩
  | 109 => ⟨S_, .f32⟩
  | 110 => ⟨S4352, .f32⟩
  | 111 => ⟨S4352x1024, .f32⟩
  | 112 => ⟨S4352x1024, .f32⟩
  | 113 => ⟨S4352x1024, .f32⟩
  | 114 => ⟨S4352x1024, .f32⟩
  | 115 => ⟨S4352x1024, .f32⟩
  | 116 => ⟨S4352x2816, .f32⟩
  | 117 => ⟨S4352x2816, .f32⟩
  | 118 => ⟨S4352x2816, .f32⟩
  | 119 => ⟨S4352x2816, .f32⟩
  | 120 => ⟨S4352x2816, .f32⟩
  | 121 => ⟨S4352x2816, .f32⟩
  | 122 => ⟨S4352x2816, .f32⟩
  | 123 => ⟨S4352x1024, .f32⟩
  | 124 => ⟨S4352x1024, .f32⟩
  | 125 => ⟨S4352x1024, .f32⟩
  | 126 => ⟨S4352x1024, .f32⟩
  | 127 => ⟨S_, .f32⟩
  | _ => ⟨S4352x1024, .f32⟩

abbrev hbmTy0_1 (i : Nat) : BufTy := match i % 128 with
  | 0 => ⟨S1024, .f32⟩
  | 1 => ⟨S1x1024, .f32⟩
  | 2 => ⟨S4352x1024, .f32⟩
  | 3 => ⟨S4352x1024, .f32⟩
  | 4 => ⟨S_, .f32⟩
  | 5 => ⟨S1024, .f32⟩
  | 6 => ⟨S4352x1024, .f32⟩
  | 7 => ⟨S_, .f32⟩
  | 8 => ⟨S4352, .f32⟩
  | 9 => ⟨S4352x1, .f32⟩
  | 10 => ⟨S4352x1024, .f32⟩
  | 11 => ⟨S4352x1024, .f32⟩
  | 12 => ⟨S4352x1, .f32⟩
  | 13 => ⟨S_, .f32⟩
  | 14 => ⟨S4352x1, .f32⟩
  | 15 => ⟨S4352x1, .f32⟩
  | 16 => ⟨S_, .f32⟩
  | 17 => ⟨S4352, .f32⟩
  | 18 => ⟨S4352x1024, .f32⟩
  | 19 => ⟨S4352x1024, .f32⟩
  | 20 => ⟨S4352x1024, .f32⟩
  | 21 => ⟨S4352x1024, .f32⟩
  | 22 => ⟨S4352x1024, .f32⟩
  | 23 => ⟨S4352x1024, .f32⟩
  | 24 => ⟨S4352x8448, .f32⟩
  | 25 => ⟨S8448x4352, .f32⟩
  | 26 => ⟨S8448x4352, .bf16⟩
  | 27 => ⟨S4352x1024, .bf16⟩
  | 28 => ⟨S1x128, .f32⟩
  | 29 => ⟨S1x1024, .f32⟩
  | 30 => ⟨S1x1024, .f32⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v18_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v18_1 : Ref sig .tc := ⟨.hbm, 40, rfl⟩
abbrev main_v18_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_cst_12 : Ref sig .tc := ⟨.hbm, 80, rfl⟩
abbrev main_cst_13 : Ref sig .tc := ⟨.hbm, 81, rfl⟩
abbrev main_v48 : Ref sig .tc := ⟨.hbm, 82, rfl⟩
abbrev main_v49 : Ref sig .tc := ⟨.hbm, 83, rfl⟩
abbrev main_cst_14 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_15 : Ref sig .tc := ⟨.hbm, 89, rfl⟩
abbrev main_v54 : Ref sig .tc := ⟨.hbm, 90, rfl⟩
abbrev main_v55 : Ref sig .tc := ⟨.hbm, 91, rfl⟩
abbrev main_cst_16 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_17 : Ref sig .tc := ⟨.hbm, 97, rfl⟩
abbrev main_v60 : Ref sig .tc := ⟨.hbm, 98, rfl⟩
abbrev main_v61 : Ref sig .tc := ⟨.hbm, 99, rfl⟩
abbrev main_cst_18 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_19 : Ref sig .tc := ⟨.hbm, 106, rfl⟩
abbrev main_v67 : Ref sig .tc := ⟨.hbm, 107, rfl⟩
abbrev main_v68 : Ref sig .tc := ⟨.hbm, 108, rfl⟩
abbrev main_cst_20 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_21 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_22 : Ref sig .tc := ⟨.hbm, 132, rfl⟩
abbrev main_v87 : Ref sig .tc := ⟨.hbm, 133, rfl⟩
abbrev main_v88 : Ref sig .tc := ⟨.hbm, 134, rfl⟩
abbrev main_cst_23 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_24 : Ref sig .tc := ⟨.hbm, 141, rfl⟩
abbrev main_v94 : Ref sig .tc := ⟨.hbm, 142, rfl⟩
abbrev main_v95 : Ref sig .tc := ⟨.hbm, 143, rfl⟩
abbrev main_cst_25 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩

abbrev nD : Nat := 1
abbrev τ : Topo := Topo.v7x

variable {F : FTy → Type} [FloatOps F]
-- ==== Kernel4.lean ====
abbrev S4352x1024 : Shape := ⟨2, ![4352, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4352x5632 : Shape := ⟨2, ![4352, 5632]⟩
abbrev S256x1024 : Shape := ⟨2, ![256, 1024]⟩
abbrev S256x5632 : Shape := ⟨2, ![256, 5632]⟩
abbrev S3 : Shape := ⟨1, ![3]⟩
abbrev S1 : Shape := ⟨1, ![1]⟩
abbrev S_ : Shape := ⟨0, ![]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩

abbrev nBuf : Space → Nat
  | .hbm => 14
  | .vmem => 12
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S4352x5632, .bf16⟩
  | .hbm, ⟨12, _⟩ => ⟨S4352x1024, .bf16⟩
  | .hbm, ⟨13, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x5632, .bf16⟩
  | .local _ .vmem, ⟨4, _⟩ => ⟨S256x5632, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4352x1024 : Shape := ⟨2, ![4352, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x2816 : Shape := ⟨2, ![4352, 2816]⟩
abbrev S4352x5632 : Shape := ⟨2, ![4352, 5632]⟩

abbrev nBuf : Space → Nat
  | .hbm => 38
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4352x1024, .f32⟩
  | .hbm, ⟨6, _⟩ => ⟨S_, .f32⟩
  | .hbm, ⟨7, _⟩ => ⟨S4352, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S_, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S4352x1024, .f32⟩
  | .hbm, ⟨17, _⟩ => ⟨S4352x1024, .f32⟩
  | .hbm, ⟨18, _⟩ => ⟨S1x1024, .f32⟩
  | .hbm, ⟨19, _⟩ => ⟨S4352x1024, .f32⟩
  | .hbm, ⟨20, _⟩ => ⟨S4352x1024, .f32⟩
  | .hbm, ⟨21, _⟩ => ⟨S4352x2816, .f32⟩
  | .hbm, ⟨22, _⟩ => ⟨S4352x2816, .f32⟩
  | .hbm, ⟨23, _⟩ => ⟨S4352x2816, .f32⟩
  | .hbm, ⟨24, _⟩ => ⟨S4352x2816, .f32⟩
  | .hbm, ⟨25, _⟩ => ⟨S_, .f32⟩
  | .hbm, ⟨26, _⟩ => ⟨S4352x2816, .f32⟩
  | .hbm, ⟨27, _⟩ => ⟨S4352x2816, .f32⟩
  | .hbm, ⟨28, _⟩ => ⟨S_, .f32⟩
  | .hbm, ⟨29, _⟩ => ⟨S4352x2816, .f32⟩
  | .hbm, ⟨30, _⟩ => ⟨S4352x2816, .f32⟩
  | .hbm, ⟨31, _⟩ => ⟨S4352x2816, .f32⟩
  | .hbm, ⟨32, _⟩ => ⟨S4352x2816, .f32⟩
  | .hbm, ⟨33, _⟩ => ⟨S4352x1024, .f32⟩
  | .hbm, ⟨34, _⟩ => ⟨S4352x1024, .f32⟩
  | .hbm, ⟨35, _⟩ => ⟨S4352x5632, .f32⟩
  | .hbm, ⟨36, _⟩ => ⟨S4352x5632, .bf16⟩
  | .hbm, ⟨37, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel5.lean ====
abbrev S16x1024 : Shape := ⟨2, ![16, 1024]⟩
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S240x1024 : Shape := ⟨2, ![240, 1024]⟩
abbrev S256x1024 : Shape := ⟨2, ![256, 1024]⟩
abbrev S1x1024 : Shape := ⟨2, ![1, 1024]⟩
abbrev S4352x512 : Shape := ⟨2, ![4352, 512]⟩
abbrev S256x512 : Shape := ⟨2, ![256, 512]⟩
abbrev S256 : Shape := ⟨1, ![256]⟩
abbrev S256x1 : Shape := ⟨2, ![256, 1]⟩

abbrev nBuf : Space → Nat
  | .hbm => 11
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S4096x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S240x1024, .f32⟩
  | .hbm, ⟨6, _⟩ => ⟨S256x1024, .f32⟩
  | .hbm, ⟨7, _⟩ => ⟨S1x1024, .f32⟩
  | .hbm, ⟨8, _⟩ => ⟨S1024x1024, .bf16⟩
  | .hbm, ⟨9, _⟩ => ⟨S4352x512, .f32⟩
  | .hbm, ⟨10, _⟩ => ⟨S4352x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S1024x1024, .bf16⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16x1024 : Shape := ⟨2, ![16, 1024]⟩
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S240x1024 : Shape := ⟨2, ![240, 1024]⟩
abbrev S4352x1024 : Shape := ⟨2, ![4352, 1024]⟩
abbrev S4352 : Shape := ⟨1, ![4352]⟩
abbrev S4352x1 : Shape := ⟨2, ![4352, 1]⟩
abbrev S1x1024 : Shape := ⟨2, ![1, 1024]⟩
abbrev S4352x512 : Shape := ⟨2, ![4352, 512]⟩

abbrev nBuf : Space → Nat
  | .hbm => 26
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4096x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S240x1024, .f32⟩
  | .hbm, ⟨6, _⟩ => ⟨S4352x1024, .f32⟩
  | .hbm, ⟨7, _⟩ => ⟨S4352x1024, .f32⟩
  | .hbm, ⟨8, _⟩ => ⟨S_, .f32⟩
  | .hbm, ⟨9, _⟩ => ⟨S4352, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S_, .f32⟩
  | .hbm, ⟨15, _⟩ => ⟨S4352x1, .f32⟩
  | .hbm, ⟨16, _⟩ => ⟨S4352x1, .f32⟩
  | .hbm, ⟨17, _⟩ => ⟨S4352x1, .f32⟩
  | .hbm, ⟨18, _⟩ => ⟨S4352x1024, .f32⟩
  | .hbm, ⟨19, _⟩ => ⟨S4352x1024, .f32⟩
  | .hbm, ⟨20, _⟩ => ⟨S1x1024, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S4352x512, .f32⟩
  | .hbm, ⟨25, _⟩ => ⟨S4352x512, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel6.lean ====
abbrev S16x1024 : Shape := ⟨2, ![16, 1024]⟩
abbrev S4096x1024 : Shape := ⟨2, ![4096, 1024]⟩
abbrev S4352x512 : Shape := ⟨2, ![4352, 512]⟩
abbrev S512 : Shape := ⟨1, ![512]⟩
abbrev S1024x1024 : Shape := ⟨2, ![1024, 1024]⟩
abbrev S_ : Shape := ⟨0, ![]⟩
abbrev S240x1024 : Shape := ⟨2, ![240, 1024]⟩
abbrev S256x1024 : Shape := ⟨2, ![256, 1024]⟩
abbrev S1x512 : Shape := ⟨2, ![1, 512]⟩
abbrev S4352x1024 : Shape := ⟨2, ![4352, 1024]⟩
abbrev S256x512 : Shape := ⟨2, ![256, 512]⟩
abbrev S256 : Shape := ⟨1, ![256]⟩
abbrev S256x1 : Shape := ⟨2, ![256, 1]⟩
abbrev S512x1024 : Shape := ⟨2, ![512, 1024]⟩

abbrev nBuf : Space → Nat
  | .hbm => 14
  | .vmem => 12
  | .smem => 0
  | _ => 0

abbrev bufTy : (tb : Table) → Fin (tcTables nBuf tb) → BufTy
  | .hbm, ⟨0, _⟩ => ⟨S16x1024, .f32⟩
  | .hbm, ⟨1, _⟩ => ⟨S4096x1024, .f32⟩
  | .hbm, ⟨2, _⟩ => ⟨S4352x512, .f32⟩
  | .hbm, ⟨3, _⟩ => ⟨S4352x512, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S_, .f32⟩
  | .hbm, ⟨8, _⟩ => ⟨S240x1024, .f32⟩
  | .hbm, ⟨9, _⟩ => ⟨S256x1024, .f32⟩
  | .hbm, ⟨10, _⟩ => ⟨S1x512, .f32⟩
  | .hbm, ⟨11, _⟩ => ⟨S1x512, .f32⟩
  | .hbm, ⟨12, _⟩ => ⟨S1024x1024, .bf16⟩
  | .hbm, ⟨13, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S1x512, .f32⟩
  | .local _ .vmem, ⟨8, _⟩ => ⟨S1x512, .f32⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16x1024 : Shape := ⟨2, ![16, 1024]⟩
abbrev S4096x1024 : Shape := ⟨2, ![4096, 1024]⟩
abbrev S4352x512 : Shape := ⟨2, ![4352, 512]⟩
abbrev S512 : Shape := ⟨1, ![512]⟩
abbrev S1024x1024 : Shape := ⟨2, ![1024, 1024]⟩
abbrev S_ : Shape := ⟨0, ![]⟩
abbrev S240x1024 : Shape := ⟨2, ![240, 1024]⟩
abbrev S4352x1024 : Shape := ⟨2, ![4352, 1024]⟩
abbrev S4352 : Shape := ⟨1, ![4352]⟩
abbrev S4352x1 : Shape := ⟨2, ![4352, 1]⟩
abbrev S1x512 : Shape := ⟨2, ![1, 512]⟩

abbrev nBuf : Space → Nat
  | .hbm => 45
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4096x1024, .f32⟩
  | .hbm, ⟨2, _⟩ => ⟨S4352x512, .f32⟩
  | .hbm, ⟨3, _⟩ => ⟨S4352x512, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S_, .f32⟩
  | .hbm, ⟨8, _⟩ => ⟨S240x1024, .f32⟩
  | .hbm, ⟨9, _⟩ => ⟨S4352x1024, .f32⟩
  | .hbm, ⟨10, _⟩ => ⟨S4352x512, .f32⟩
  | .hbm, ⟨11, _⟩ => ⟨S_, .f32⟩
  | .hbm, ⟨12, _⟩ => ⟨S4352, .f32⟩
  | .hbm, ⟨13, _⟩ => ⟨S4352x1, .f32⟩
  | .hbm, ⟨14, _⟩ => ⟨S_, .f32⟩
  | .hbm, ⟨15, _⟩ => ⟨S4352x1, .f32⟩
  | .hbm, ⟨16, _⟩ => ⟨S4352x1, .f32⟩
  | .hbm, ⟨17, _⟩ => ⟨S_, .f32⟩
  | .hbm, ⟨18, _⟩ => ⟨S4352x1, .f32⟩
  | .hbm, ⟨19, _⟩ => ⟨S4352x1, .f32⟩
  | .hbm, ⟨20, _⟩ => ⟨S4352x1, .f32⟩
  | .hbm, ⟨21, _⟩ => ⟨S4352x512, .f32⟩
  | .hbm, ⟨22, _⟩ => ⟨S4352x512, .f32⟩
  | .hbm, ⟨23, _⟩ => ⟨S1x512, .f32⟩
  | .hbm, ⟨24, _⟩ => ⟨S4352x512, .f32⟩
  | .hbm, ⟨25, _⟩ => ⟨S4352x512, .f32⟩
  | .hbm, ⟨26, _⟩ => ⟨S4352x512, .f32⟩
  | .hbm, ⟨27, _⟩ => ⟨S_, .f32⟩
  | .hbm, ⟨28, _⟩ => ⟨S4352, .f32⟩
  | .hbm, ⟨29, _⟩ => ⟨S4352x1, .f32⟩
  | .hbm, ⟨30, _⟩ => ⟨S_, .f32⟩
  | .hbm, ⟨31, _⟩ => ⟨S4352x1, .f32⟩
  | .hbm, ⟨32, _⟩ => ⟨S4352x1, .f32⟩
  | .hbm, ⟨33, _⟩ => ⟨S_, .f32⟩
  | .hbm, ⟨34, _⟩ => ⟨S4352x1, .f32⟩
  | .hbm, ⟨35, _⟩ => ⟨S4352x1, .f32⟩
  | .hbm, ⟨36, _⟩ => ⟨S4352x1, .f32⟩
  | .hbm, ⟨37, _⟩ => ⟨S4352x512, .f32⟩
  | .hbm, ⟨38, _⟩ => ⟨S4352x512, .f32⟩
  | .hbm, ⟨39, _⟩ => ⟨S1x512, .f32⟩
  | .hbm, ⟨40, _⟩ => ⟨S4352x512, .f32⟩
  | .hbm, ⟨41, _⟩ => ⟨S4352x512, .f32⟩
  | .hbm, ⟨42, _⟩ => ⟨S4352x1024, .f32⟩
  | .hbm, ⟨43, _⟩ => ⟨S4352x1024, .f32⟩
  | .hbm, ⟨44, _⟩ => ⟨S4352x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Proof.PoolSpec.lean ====
/- The pool-backward body as functions of its input blocks, over any arithmetic: what each row tile contributes and what
   the three output blocks hold at the end. -/
module

public import proofs.«01_k».proof.Proof.Gen.KernelIdeal.Loops
public import proofs.«01_k».proof.Proof.Gen.KernelIdeal.Frame.Runs
public import Idealize.ShloMosaic.Lib.Pipeline.ValueKit
public import Idealize.ShloMosaic.Lib.WritesUnit

@[expose] public section

set_option maxRecDepth 16384

noncomputable section

namespace Cert.KernelIdeal.Pool

open Idealize.ShloMosaic Idealize.ShloMosaic.TcCoe Idealize.SL.Sem
open Cert.KernelIdeal Cert.KernelIdeal.Gen

variable {F : FTy → Type} [FloatOps F]

theorem trips1 : k0_t1_loop.trips = 17 := by decide +kernel
theorem trips2 : k0_t2_loop.trips = 17 := by decide +kernel

/-- Row tile `k` as a trip of the first loop. -/
def tr (k : Fin 17) : Fin k0_t1_loop.trips := ⟨k.val, by rw [trips1]; exact k.isLt⟩

/-- The group of grid point `i` as the body reads it. -/
def grp (i : grid0.Coords) : BitVec 32 := BitVec.ofNat 32 (i 0).val

/-- The padded rows: sixteen rows of zeros, then the block. -/
def vpad (x0 : Vec F S4352x128 .f32) : Vec F S4368x128 .f32 := fun y =>
  if h : (y (0 : Fin 2)).val < 16 then k0_pay1 (F := F) (ix2 ⟨(y (0 : Fin 2)).val, h⟩ (y (1 : Fin 2)))
  else k0_pay2 x0 (ix2 ⟨(y (0 : Fin 2)).val - 16, by
    have : (y (0 : Fin 2)).val < 4368 := (y (0 : Fin 2)).isLt
    omega⟩ (y (1 : Fin 2)))

/-- Rows `256 k … 256 k + 271` of a padded array. -/
def ext (X : Vec F S4368x128 .f32) (k : Fin 17) : Vec F S272x128 .f32 := fun y =>
  X (ix2 ⟨256 * k.val + (y (0 : Fin 2)).val, by
    have : (y (0 : Fin 2)).val < 272 := (y (0 : Fin 2)).isLt
    omega⟩ (y (1 : Fin 2)))

/-- Row tile `k` of a block. -/
def tile (X : Vec F S4352x128 .f32) (k : Fin 17) : Vec F S256x128 .f32 := fun y =>
  X (ix2 ⟨256 * k.val + (y (0 : Fin 2)).val, by
    have : (y (0 : Fin 2)).val < 256 := (y (0 : Fin 2)).isLt
    omega⟩ (y (1 : Fin 2)))

/-- The pooled rows of tile `k`. -/
def pT (i : grid0.Coords) (x0 : Vec F S4352x128 .f32) (k : Fin 17) : FVec F S256x128 .f32 :=
  k0_pay10 (grp i) (Scalar.shli 2#32 (grp i)) 0#32 1#32 (tr k) (ext (vpad x0) k)

/-- The reciprocal window counts of tile `k`. -/
def invT (i : grid0.Coords) (k : Fin 17) : FVec F S256x1 .f32 :=
  k0_pay9 (Scalar.shli 2#32 (grp i)) 0#32 1#32 (tr k)

/-- The pooled rows' cotangent of tile `k`. -/
def dpT (x1 : Vec F S4352x128 .f32) (x2 : Vec F S1x128x128 .f32) (x3 : Vec F S1x1x128 .f32) (k : Fin 17) : FVec F S256x128 .f32 :=
  k0_pay15 (tile x1 k) x3 x2

/-- The scale's gradient after the first `k` tiles. -/
def acc7 (i : grid0.Coords) (x0 x1 : Vec F S4352x128 .f32) (x2 : Vec F S1x128x128 .f32) : ℕ → Vec F S1x1x128 .f32
  | 0 => k0_pay5 (F := F)
  | k + 1 => if h : k < 17 then k0_pay13 (pT i x0 ⟨k, h⟩) x2 (tile x1 ⟨k, h⟩) (acc7 i x0 x1 x2 k) else acc7 i x0 x1 x2 k

/-- The weight's gradient after the first `k` tiles. -/
def acc6 (i : grid0.Coords) (x0 x1 : Vec F S4352x128 .f32) (x3 : Vec F S1x1x128 .f32) : ℕ → Vec F S1x128x128 .f32
  | 0 => k0_pay4 (F := F)
  | k + 1 => if h : k < 17 then k0_pay14 (pT i x0 ⟨k, h⟩) (tile x1 ⟨k, h⟩) x3 (acc6 i x0 x1 x3 k) else acc6 i x0 x1 x3 k

/-- The tile of row `r`, and its place in the tile. -/
def rowTile (r : ℕ) (h : r < 4352) : Fin 17 := ⟨r / 256, by omega⟩
def rowIn (r : ℕ) : Fin 256 := ⟨r % 256, by omega⟩

/-- The padded scaled cotangent: the tiles' rows, then sixteen rows of zeros. -/
def gpad (i : grid0.Coords) (x1 : Vec F S4352x128 .f32) (x2 : Vec F S1x128x128 .f32) (x3 : Vec F S1x1x128 .f32) : Vec F S4368x128 .f32 := fun y =>
  if h : (y (0 : Fin 2)).val < 4352 then
    k0_pay6 (dpT x1 x2 x3 (rowTile _ h)) (k0_pay16 (invT i (rowTile _ h))) (ix2 (rowIn (y (0 : Fin 2)).val) (y (1 : Fin 2)))
  else k0_pay3 (F := F) (ix2 ⟨(y (0 : Fin 2)).val - 4352, by
    have : (y (0 : Fin 2)).val < 4368 := (y (0 : Fin 2)).isLt
    omega⟩ (y (1 : Fin 2)))

/-- The first output block: the input's gradient. -/
def out4 (i : grid0.Coords) (x1 : Vec F S4352x128 .f32) (x2 : Vec F S1x128x128 .f32) (x3 : Vec F S1x1x128 .f32) : Vec F S4352x128 .f32 := fun y =>
  k0_pay8 i (ext (gpad i x1 x2 x3) (rowTile (y (0 : Fin 2)).val (y (0 : Fin 2)).isLt))
    (k0_pay7 (dpT x1 x2 x3 (rowTile (y (0 : Fin 2)).val (y (0 : Fin 2)).isLt))) (ix2 (rowIn (y (0 : Fin 2)).val) (y (1 : Fin 2)))

section Reads
variable {sig : RefSig} {κ : Kind} {sp : Space} {e : EltTy} {Val : EltTy → Type} {d : Fin 2 → ℕ}

/-- A load of whole rows from row `o` reads the rows there. -/
theorem readAt_rows (v : View sig κ sp (⟨2, d⟩ : Shape) e) (f : v.ty.Contents Val) {off size : Fin 2 → ℕ} {o : ℕ}
    (inb : ∀ a : Fin 2, off a + size a ≤ d a) (hoff : off = ![o, 0])
    (x : (Rect.unit (s := ⟨2, d⟩) off size inb).shape.Idx) (y : (⟨2, d⟩ : Shape).Idx)
    (h0 : (y (0 : Fin 2)).val = o + (x (0 : Fin 2)).val) (h1 : (y (1 : Fin 2)).val = (x (1 : Fin 2)).val) :
    v.readAt Val (Rect.unit (s := ⟨2, d⟩) off size inb).toLoadRect f x = v.read Val f y := by
  rw [View.readAt_apply]
  congr 1
  subst hoff
  funext a
  apply Fin.ext
  revert a
  refine Fin.forall_fin_two.mpr ⟨?_, ?_⟩
  · show o + 1 * (x (0 : Fin 2)).val = _
    rw [h0]; omega
  · show 0 + 1 * (x (1 : Fin 2)).val = _
    rw [h1]; omega

end Reads

end Cert.KernelIdeal.Pool
-- ==== Proof.PoolLoops.lean ====
/- What the two row-tile loops leave in the buffers they write, by induction on the trips. -/
module

public import proofs.«01_k».proof.Proof.PoolSpec
public import Idealize.ShloMosaic.Lib.VecWindow

@[expose] public section

set_option maxRecDepth 16384

noncomputable section

namespace Cert.KernelIdeal.Pool

open Idealize.ShloMosaic Idealize.ShloMosaic.TcCoe Idealize.SL.Sem
open Cert.KernelIdeal Cert.KernelIdeal.Gen

variable {F : FTy → Type} [FloatOps F]

section Loops
variable (𝒱 : Variants) (c : Dev nD) (bd : Option 𝒱.V) (i : grid0.Coords) (arg1 : Memref sig .tc .vmem S4352x128 .f32) (harg1 : arg1.IsWhole) (arg2 : Memref sig .tc .vmem S4352x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4352x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S4368x128 .f32) (harg8 : arg8.IsWhole) (arg9 : Memref sig .tc .vmem S4368x128 .f32) (harg9 : arg9.IsWhole)
variable (x0 x1 : Vec F S4352x128 .f32) (x2 : Vec F S1x128x128 .f32) (x3 : Vec F S1x1x128 .f32)
variable (X2 : BufTy.Contents (Elt F) arg2.view.ty) (X3 : BufTy.Contents (Elt F) arg3.view.ty) (X4 : BufTy.Contents (Elt F) arg4.view.ty) (X8 : BufTy.Contents (Elt F) arg8.view.ty)
  (h2 : arg2.view.read (Elt F) X2 = x1) (h3 : arg3.view.read (Elt F) X3 = x2) (h4 : arg4.view.read (Elt F) X4 = x3) (h8 : arg8.view.read (Elt F) X8 = vpad x0)

include h2 h3 h4 h8 in
/-- One trip of the first loop writes the tile's functions of the blocks. -/
theorem trip1_eq (k : Fin 17) (f5 : BufTy.Contents (Elt F) arg5.view.ty) (f6 : BufTy.Contents (Elt F) arg6.view.ty) (f7 : BufTy.Contents (Elt F) arg7.view.ty) (f9 : BufTy.Contents (Elt F) arg9.view.ty) :
    tripL_k0_t1 𝒱 c bd i arg1 harg1 arg2 harg2 arg3 harg3 arg4 harg4 arg5 harg5 arg6 harg6 arg7 harg7 arg8 harg8 arg9 harg9 (grp i) (Scalar.shli 2#32 (grp i)) X2 X3 X4 X8 (tr k) f5 f6 f7 f9
      = ([⟨Rect.unit (k0_off2 (tr k)) ![256, 128] (k0_off2_inb (tr k)), k0_pay7 (dpT x1 x2 x3 k)⟩],
        [⟨Rect.unit ![0, 0, 0] ![1, 128, 128] inb_S1x128x128_S1x128x128_0_0_0, k0_pay14 (pT i x0 k) (tile x1 k) x3 (arg6.view.read (Elt F) f6)⟩],
        [⟨Rect.unit ![0, 0, 0] ![1, 1, 128] inb_S1x1x128_S1x1x128_0_0_0, k0_pay13 (pT i x0 k) x2 (tile x1 k) (arg7.view.read (Elt F) f7)⟩],
        [⟨Rect.unit (k0_off3 (tr k)) ![256, 128] (k0_off3_inb (tr k)), k0_pay6 (dpT x1 x2 x3 k) (k0_pay16 (invT i k))⟩]) := by
  have e8 : View.readAt (Elt F) arg8.view (Rect.unit (k0_off1 (tr k)) ![272, 128] (k0_off1_inb (tr k))).toLoadRect X8 = ext (vpad x0) k := by
    funext x
    rw [readAt_rows arg8.view X8 (k0_off1_inb (tr k)) (k0_off1_eq (tr k)) x (ix2 ⟨256 * k.val + (x (0 : Fin 2)).val, by
      have : (x (0 : Fin 2)).val < 272 := (x (0 : Fin 2)).isLt
      omega⟩ (x (1 : Fin 2))) rfl rfl, h8]
    rfl
  have e2 : View.readAt (Elt F) arg2.view (Rect.unit (k0_off2 (tr k)) ![256, 128] (k0_off2_inb (tr k))).toLoadRect X2 = tile x1 k := by
    funext x
    rw [readAt_rows arg2.view X2 (k0_off2_inb (tr k)) (k0_off2_eq (tr k)) x (ix2 ⟨256 * k.val + (x (0 : Fin 2)).val, by
      have : (x (0 : Fin 2)).val < 256 := (x (0 : Fin 2)).isLt
      omega⟩ (x (1 : Fin 2))) rfl rfl, h2]
    rfl
  have e4 : View.readAt (Elt F) arg4.view (Rect.unit ![0, 0, 0] ![1, 1, 128] inb_S1x1x128_S1x1x128_0_0_0).toLoadRect X4 = x3 := (View.readAt_full arg4.view X4 _).trans h4
  have e3 : View.readAt (Elt F) arg3.view (Rect.unit ![0, 0, 0] ![1, 128, 128] inb_S1x128x128_S1x128x128_0_0_0).toLoadRect X3 = x2 := (View.readAt_full arg3.view X3 _).trans h3
  have e6 : View.readAt (Elt F) arg6.view (Rect.unit ![0, 0, 0] ![1, 128, 128] inb_S1x128x128_S1x128x128_0_0_0).toLoadRect f6 = arg6.view.read (Elt F) f6 := View.readAt_full arg6.view f6 _
  have e7 : View.readAt (Elt F) arg7.view (Rect.unit ![0, 0, 0] ![1, 1, 128] inb_S1x1x128_S1x1x128_0_0_0).toLoadRect f7 = arg7.view.read (Elt F) f7 := View.readAt_full arg7.view f7 _
  unfold tripL_k0_t1 trip_k0_t1 dpT pT
  dsimp only
  unfold trip_k0_t1.sl.r_1 trip_k0_t1.sl.r_2 trip_k0_t1.sl.r_3 trip_k0_t1.sl.r_4
  rw [e8, e2, e4, e3, e6, e7]
  rfl

/-- Row `y` of a tile store lies in the tile. -/
theorem row_split {r k : ℕ} (h : r < 256 * (k + 1)) (hk : 256 * k ≤ r) : r / 256 = k ∧ r % 256 = r - 256 * k := by
  omega

include h2 h3 h4 h8 in
/-- After `k` trips of the first loop: the first `256 k` rows of the two row buffers, the rest of the padded one, and the
    two accumulators. -/
theorem pb1_reads (G5 : BufTy.Contents (Elt F) arg5.view.ty) (G6 : BufTy.Contents (Elt F) arg6.view.ty) (G7 : BufTy.Contents (Elt F) arg7.view.ty) (G9 : BufTy.Contents (Elt F) arg9.view.ty)
    (h6 : arg6.view.read (Elt F) G6 = k0_pay4 (F := F)) (h7 : arg7.view.read (Elt F) G7 = k0_pay5 (F := F)) (k : ℕ) (hk : k ≤ 17) :
    (∀ y : S4352x128.Idx, (y (0 : Fin 2)).val < 256 * k →
        arg5.view.read (Elt F) (arg5.view.writes (Elt F) G5 (pb_k0_t1 𝒱 c bd i arg1 harg1 arg2 harg2 arg3 harg3 arg4 harg4 arg5 harg5 arg6 harg6 arg7 harg7 arg8 harg8 arg9 harg9 (grp i) (Scalar.shli 2#32 (grp i)) X2 X3 X4 X8 G5 G6 G7 G9 k).1) y
          = k0_pay7 (dpT x1 x2 x3 (rowTile (y (0 : Fin 2)).val (y (0 : Fin 2)).isLt)) (ix2 (rowIn (y (0 : Fin 2)).val) (y (1 : Fin 2))))
      ∧ arg6.view.read (Elt F) (arg6.view.writes (Elt F) G6 (pb_k0_t1 𝒱 c bd i arg1 harg1 arg2 harg2 arg3 harg3 arg4 harg4 arg5 harg5 arg6 harg6 arg7 harg7 arg8 harg8 arg9 harg9 (grp i) (Scalar.shli 2#32 (grp i)) X2 X3 X4 X8 G5 G6 G7 G9 k).2.1) = acc6 i x0 x1 x3 k
      ∧ arg7.view.read (Elt F) (arg7.view.writes (Elt F) G7 (pb_k0_t1 𝒱 c bd i arg1 harg1 arg2 harg2 arg3 harg3 arg4 harg4 arg5 harg5 arg6 harg6 arg7 harg7 arg8 harg8 arg9 harg9 (grp i) (Scalar.shli 2#32 (grp i)) X2 X3 X4 X8 G5 G6 G7 G9 k).2.2.1) = acc7 i x0 x1 x2 k
      ∧ (∀ (y : S4368x128.Idx) (h : (y (0 : Fin 2)).val < 4352), (y (0 : Fin 2)).val < 256 * k →
        arg9.view.read (Elt F) (arg9.view.writes (Elt F) G9 (pb_k0_t1 𝒱 c bd i arg1 harg1 arg2 harg2 arg3 harg3 arg4 harg4 arg5 harg5 arg6 harg6 arg7 harg7 arg8 harg8 arg9 harg9 (grp i) (Scalar.shli 2#32 (grp i)) X2 X3 X4 X8 G5 G6 G7 G9 k).2.2.2) y
          = k0_pay6 (dpT x1 x2 x3 (rowTile (y (0 : Fin 2)).val h)) (k0_pay16 (invT i (rowTile (y (0 : Fin 2)).val h))) (ix2 (rowIn (y (0 : Fin 2)).val) (y (1 : Fin 2))))
      ∧ (∀ y : S4368x128.Idx, 256 * k ≤ (y (0 : Fin 2)).val →
        arg9.view.read (Elt F) (arg9.view.writes (Elt F) G9 (pb_k0_t1 𝒱 c bd i arg1 harg1 arg2 harg2 arg3 harg3 arg4 harg4 arg5 harg5 arg6 harg6 arg7 harg7 arg8 harg8 arg9 harg9 (grp i) (Scalar.shli 2#32 (grp i)) X2 X3 X4 X8 G5 G6 G7 G9 k).2.2.2) y = arg9.view.read (Elt F) G9 y) := by
  induction k with
  | zero =>
    refine ⟨fun y h => absurd h (by omega), ?_, ?_, fun y _ h => absurd h (by omega), fun y _ => ?_⟩
    · rw [pb_k0_t1.eq_1]; exact h6
    · rw [pb_k0_t1.eq_1]; exact h7
    · rw [pb_k0_t1.eq_1]; rfl
  | succ k ih =>
    obtain ⟨i5, i6, i7, i9, j9⟩ := ih (by omega)
    have hk' : k < 17 := by omega
    have hs := pb_k0_t1_succ (F := F) 𝒱 c bd i arg1 harg1 arg2 harg2 arg3 harg3 arg4 harg4 arg5 harg5 arg6 harg6 arg7 harg7 arg8 harg8 arg9 harg9 (grp i) (Scalar.shli 2#32 (grp i)) X2 X3 X4 X8 G5 G6 G7 G9 (tr ⟨k, hk'⟩)
    rw [trip1_eq 𝒱 c bd i arg1 harg1 arg2 harg2 arg3 harg3 arg4 harg4 arg5 harg5 arg6 harg6 arg7 harg7 arg8 harg8 arg9 harg9 x0 x1 x2 x3 X2 X3 X4 X8 h2 h3 h4 h8 ⟨k, hk'⟩] at hs
    change pb_k0_t1 𝒱 c bd i arg1 harg1 arg2 harg2 arg3 harg3 arg4 harg4 arg5 harg5 arg6 harg6 arg7 harg7 arg8 harg8 arg9 harg9 (grp i) (Scalar.shli 2#32 (grp i)) X2 X3 X4 X8 G5 G6 G7 G9 (k + 1) = _ at hs
    rw [hs]
    refine ⟨fun y hy => ?_, ?_, ?_, fun y h hy => ?_, fun y hy => ?_⟩
    · by_cases hlt : (y (0 : Fin 2)).val < 256 * k
      · exact (View.read_writes_cons_rows_of_not_mem arg5.view G5 (k0_off2_inb (tr ⟨k, hk'⟩)) _ _ y (k0_off2_eq (tr ⟨k, hk'⟩)) rfl (Or.inl hlt)).trans (i5 y hlt)
      · have hq := row_split hy (Nat.le_of_not_lt hlt)
        have et : rowTile (y (0 : Fin 2)).val (y (0 : Fin 2)).isLt = ⟨k, hk'⟩ := Fin.ext hq.1
        refine (View.read_writes_cons_rows_of_mem arg5.view G5 (k0_off2_inb (tr ⟨k, hk'⟩)) _ _ y (ix2 (rowIn (y (0 : Fin 2)).val) (y (1 : Fin 2))) (k0_off2_eq (tr ⟨k, hk'⟩)) ?_ rfl).trans ?_
        · show (y (0 : Fin 2)).val = 256 * k + (y (0 : Fin 2)).val % 256
          omega
        · rw [et]
    · refine (View.read_writes_full arg6.view G6 _ _ _).trans ?_
      refine (congrArg (k0_pay14 (pT i x0 ⟨k, hk'⟩) (tile x1 ⟨k, hk'⟩) x3) i6).trans ?_
      rw [acc6, dif_pos hk']
    · refine (View.read_writes_full arg7.view G7 _ _ _).trans ?_
      refine (congrArg (k0_pay13 (pT i x0 ⟨k, hk'⟩) x2 (tile x1 ⟨k, hk'⟩)) i7).trans ?_
      rw [acc7, dif_pos hk']
    · by_cases hlt : (y (0 : Fin 2)).val < 256 * k
      · exact (View.read_writes_cons_rows_of_not_mem arg9.view G9 (k0_off3_inb (tr ⟨k, hk'⟩)) _ _ y (k0_off3_eq (tr ⟨k, hk'⟩)) rfl (Or.inl hlt)).trans (i9 y h hlt)
      · have hq := row_split hy (Nat.le_of_not_lt hlt)
        have et : rowTile (y (0 : Fin 2)).val h = ⟨k, hk'⟩ := Fin.ext hq.1
        refine (View.read_writes_cons_rows_of_mem arg9.view G9 (k0_off3_inb (tr ⟨k, hk'⟩)) _ _ y (ix2 (rowIn (y (0 : Fin 2)).val) (y (1 : Fin 2))) (k0_off3_eq (tr ⟨k, hk'⟩)) ?_ rfl).trans ?_
        · show (y (0 : Fin 2)).val = 256 * k + (y (0 : Fin 2)).val % 256
          omega
        · rw [et]
    · exact (View.read_writes_cons_rows_of_not_mem arg9.view G9 (k0_off3_inb (tr ⟨k, hk'⟩)) _ _ y (k0_off3_eq (tr ⟨k, hk'⟩)) rfl (Or.inr (by show 256 * k + 256 ≤ _; omega))).trans (j9 y (by omega))

/-- Row tile `k` as a trip of the second loop. -/
def tr2 (k : Fin 17) : Fin k0_t2_loop.trips := ⟨k.val, by rw [trips2]; exact k.isLt⟩

/-- One trip of the second loop adds the window sum of the padded rows to the tile's rows. -/
theorem trip2_eq (X9 : BufTy.Contents (Elt F) arg9.view.ty) (g : Vec F S4368x128 .f32) (h9 : arg9.view.read (Elt F) X9 = g) (k : Fin 17)
    (f5 : BufTy.Contents (Elt F) arg5.view.ty) (d : Vec F S256x128 .f32)
    (h5 : ∀ y : S4352x128.Idx, 256 * k.val ≤ (y (0 : Fin 2)).val → (hy : (y (0 : Fin 2)).val < 256 * k.val + 256) →
      arg5.view.read (Elt F) f5 y = d (ix2 ⟨(y (0 : Fin 2)).val - 256 * k.val, by omega⟩ (y (1 : Fin 2)))) :
    tripL_k0_t2 𝒱 c bd i arg1 harg1 arg2 harg2 arg3 harg3 arg4 harg4 arg5 harg5 arg6 harg6 arg7 harg7 arg8 harg8 arg9 harg9 X9 (tr2 k) f5
      = [⟨Rect.unit (k0_off5 (tr2 k)) ![256, 128] (k0_off5_inb (tr2 k)), k0_pay8 i (ext g k) d⟩] := by
  have e9 : View.readAt (Elt F) arg9.view (Rect.unit (k0_off4 (tr2 k)) ![272, 128] (k0_off4_inb (tr2 k))).toLoadRect X9 = ext g k := by
    funext x
    rw [readAt_rows arg9.view X9 (k0_off4_inb (tr2 k)) (k0_off4_eq (tr2 k)) x (ix2 ⟨256 * k.val + (x (0 : Fin 2)).val, by
      have : (x (0 : Fin 2)).val < 272 := (x (0 : Fin 2)).isLt
      omega⟩ (x (1 : Fin 2))) rfl rfl, h9]
    rfl
  have e5 : View.readAt (Elt F) arg5.view (Rect.unit (k0_off5 (tr2 k)) ![256, 128] (k0_off5_inb (tr2 k))).toLoadRect f5 = d := by
    funext x
    have hx : (x (0 : Fin 2)).val < 256 := (x (0 : Fin 2)).isLt
    rw [readAt_rows arg5.view f5 (k0_off5_inb (tr2 k)) (k0_off5_eq (tr2 k)) x (ix2 ⟨256 * k.val + (x (0 : Fin 2)).val, by omega⟩ (x (1 : Fin 2))) rfl rfl,
      h5 (ix2 ⟨256 * k.val + (x (0 : Fin 2)).val, by omega⟩ (x (1 : Fin 2))) (Nat.le_add_right _ _) (Nat.add_lt_add_left hx _)]
    congr 1
    funext a
    apply Fin.ext
    revert a
    refine Fin.forall_fin_two.mpr ⟨?_, rfl⟩
    show 256 * k.val + (x (0 : Fin 2)).val - 256 * k.val = _
    omega
  unfold tripL_k0_t2 trip_k0_t2
  dsimp only
  rw [e9, e5]

/-- After `k` trips of the second loop: the first `256 k` rows of the input's gradient are finished, the rest as before. -/
theorem pb2_reads (X9 : BufTy.Contents (Elt F) arg9.view.ty) (h9 : arg9.view.read (Elt F) X9 = gpad i x1 x2 x3) (G5 : BufTy.Contents (Elt F) arg5.view.ty)
    (h5 : ∀ y : S4352x128.Idx, arg5.view.read (Elt F) G5 y
      = k0_pay7 (dpT x1 x2 x3 (rowTile (y (0 : Fin 2)).val (y (0 : Fin 2)).isLt)) (ix2 (rowIn (y (0 : Fin 2)).val) (y (1 : Fin 2)))) (k : ℕ) (hk : k ≤ 17) :
    (∀ y : S4352x128.Idx, (y (0 : Fin 2)).val < 256 * k →
        arg5.view.read (Elt F) (arg5.view.writes (Elt F) G5 (pb_k0_t2 𝒱 c bd i arg1 harg1 arg2 harg2 arg3 harg3 arg4 harg4 arg5 harg5 arg6 harg6 arg7 harg7 arg8 harg8 arg9 harg9 X9 G5 k)) y = out4 i x1 x2 x3 y)
      ∧ (∀ y : S4352x128.Idx, 256 * k ≤ (y (0 : Fin 2)).val →
        arg5.view.read (Elt F) (arg5.view.writes (Elt F) G5 (pb_k0_t2 𝒱 c bd i arg1 harg1 arg2 harg2 arg3 harg3 arg4 harg4 arg5 harg5 arg6 harg6 arg7 harg7 arg8 harg8 arg9 harg9 X9 G5 k)) y = arg5.view.read (Elt F) G5 y) := by
  induction k with
  | zero =>
    refine ⟨fun y h => absurd h (by omega), fun y _ => ?_⟩
    rw [pb_k0_t2.eq_1]; rfl
  | succ k ih =>
    obtain ⟨i5, j5⟩ := ih (by omega)
    have hk' : k < 17 := by omega
    have hs := pb_k0_t2_succ (F := F) 𝒱 c bd i arg1 harg1 arg2 harg2 arg3 harg3 arg4 harg4 arg5 harg5 arg6 harg6 arg7 harg7 arg8 harg8 arg9 harg9 X9 G5 (tr2 ⟨k, hk'⟩)
    rw [trip2_eq 𝒱 c bd i arg1 harg1 arg2 harg2 arg3 harg3 arg4 harg4 arg5 harg5 arg6 harg6 arg7 harg7 arg8 harg8 arg9 harg9 X9 _ h9 ⟨k, hk'⟩ _ (k0_pay7 (dpT x1 x2 x3 ⟨k, hk'⟩)) (fun y hy hy' => by
      refine (j5 y hy).trans ((h5 y).trans ?_)
      have hq := row_split (r := (y (0 : Fin 2)).val) (k := k) (by have := hy'; simp only at this; omega) hy
      have et : rowTile (y (0 : Fin 2)).val (y (0 : Fin 2)).isLt = ⟨k, hk'⟩ := Fin.ext hq.1
      have er : rowIn (y (0 : Fin 2)).val = ⟨(y (0 : Fin 2)).val - 256 * k, by have := hy'; simp only at this; omega⟩ := Fin.ext hq.2
      rw [et, er])] at hs
    change pb_k0_t2 𝒱 c bd i arg1 harg1 arg2 harg2 arg3 harg3 arg4 harg4 arg5 harg5 arg6 harg6 arg7 harg7 arg8 harg8 arg9 harg9 X9 G5 (k + 1) = _ at hs
    rw [hs]
    refine ⟨fun y hy => ?_, fun y hy => ?_⟩
    · by_cases hlt : (y (0 : Fin 2)).val < 256 * k
      · exact (View.read_writes_cons_rows_of_not_mem arg5.view G5 (k0_off5_inb (tr2 ⟨k, hk'⟩)) _ _ y (k0_off5_eq (tr2 ⟨k, hk'⟩)) rfl (Or.inl hlt)).trans (i5 y hlt)
      · have hq := row_split hy (Nat.le_of_not_lt hlt)
        have et : rowTile (y (0 : Fin 2)).val (y (0 : Fin 2)).isLt = ⟨k, hk'⟩ := Fin.ext hq.1
        refine (View.read_writes_cons_rows_of_mem arg5.view G5 (k0_off5_inb (tr2 ⟨k, hk'⟩)) _ _ y (ix2 (rowIn (y (0 : Fin 2)).val) (y (1 : Fin 2))) (k0_off5_eq (tr2 ⟨k, hk'⟩)) ?_ rfl).trans ?_
        · show (y (0 : Fin 2)).val = 256 * k + (y (0 : Fin 2)).val % 256
          omega
        · unfold out4; rw [et]
    · exact (View.read_writes_cons_rows_of_not_mem arg5.view G5 (k0_off5_inb (tr2 ⟨k, hk'⟩)) _ _ y (k0_off5_eq (tr2 ⟨k, hk'⟩)) rfl (Or.inr (by show 256 * k + 256 ≤ _; omega))).trans (j5 y (by omega))

end Loops

end Cert.KernelIdeal.Pool
-- ==== Proof.PoolBody.lean ====
/- One grid point of the pool-backward call: what its three output blocks hold. -/
module

public import proofs.«01_k».proof.Proof.PoolLoops

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The padded rows after the two prologue stores. -/
theorem vpad_read (arg1 : Memref sig .tc .vmem S4352x128 .f32) (arg8 : Memref sig .tc .vmem S4368x128 .f32) (f0 : BufTy.Contents (Elt F) arg1.view.ty) (x0 : Vec F S4352x128 .f32)
    (h : arg1.view.read (Elt F) f0 = x0) (f : BufTy.Contents (Elt F) arg8.view.ty) :
    arg8.view.read (Elt F) (arg8.view.writes (Elt F) f
      [⟨Rect.unit ![16, 0] S4352x128.size inb_S4368x128_S4352x128_16_0, k0_pay2 (View.readAt (Elt F) arg1.view (Rect.unit ![0, 0] S4352x128.size inb_S4352x128_S4352x128_0_0).toLoadRect f0)⟩,
       ⟨Rect.unit ![0, 0] S16x128.size inb_S4368x128_S16x128_0_0, k0_pay1 (F := F)⟩]) = vpad x0 := by
  rw [View.readAt_full, h]
  funext y
  unfold vpad
  by_cases hy : (y (0 : Fin 2)).val < 16
  · rw [dif_pos hy]
    refine (View.read_writes_cons_rows_of_not_mem arg8.view f _ _ _ y rfl rfl (Or.inl hy)).trans ?_
    exact View.read_writes_cons_rows_of_mem arg8.view f _ _ _ y (ix2 ⟨(y (0 : Fin 2)).val, hy⟩ (y (1 : Fin 2))) rfl (Nat.zero_add _).symm rfl
  · rw [dif_neg hy]
    refine View.read_writes_cons_rows_of_mem arg8.view f _ _ _ y (ix2 ⟨(y (0 : Fin 2)).val - 16, _⟩ (y (1 : Fin 2))) rfl ?_ rfl
    show (y (0 : Fin 2)).val = 16 + ((y (0 : Fin 2)).val - 16)
    omega

/-- The rows past the last tile after the prologue store. -/
theorem gpad_tail (arg9 : Memref sig .tc .vmem S4368x128 .f32) (f : BufTy.Contents (Elt F) arg9.view.ty) (y : S4368x128.Idx) (hy : 4352 ≤ (y (0 : Fin 2)).val)
    (h : (y (0 : Fin 2)).val - 4352 < 16) :
    arg9.view.read (Elt F) (arg9.view.writes (Elt F) f [⟨Rect.unit ![4352, 0] S16x128.size inb_S4368x128_S16x128_4352_0, k0_pay3 (F := F)⟩]) y
      = k0_pay3 (F := F) (ix2 ⟨(y (0 : Fin 2)).val - 4352, h⟩ (y (1 : Fin 2))) := by
  refine View.read_writes_cons_rows_of_mem arg9.view f _ _ _ y (ix2 ⟨(y (0 : Fin 2)).val - 4352, _⟩ (y (1 : Fin 2))) rfl ?_ rfl
  show (y (0 : Fin 2)).val = 4352 + ((y (0 : Fin 2)).val - 4352)
  omega

set_option maxHeartbeats 1000000 in
/-- The body at grid point `i` leaves its inputs as they were and the three gradients in its output blocks, whatever the
    outputs and the scratch held before. -/
theorem body_run (c : Dev nD) (i : grid0.Coords) (arg1 : Memref sig .tc .vmem S4352x128 .f32) (harg1 : arg1.IsWhole) (arg2 : Memref sig .tc .vmem S4352x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S4352x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S4368x128 .f32) (harg8 : arg8.IsWhole) (arg9 : Memref sig .tc .vmem S4368x128 .f32) (harg9 : arg9.IsWhole)
    (x0 : Vec F S4352x128 .f32) (x1 : Vec F S4352x128 .f32) (x2 : Vec F S1x128x128 .f32) (x3 : Vec F S1x1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 i x1 x2 x3) ∗ owns (c : Thread nD τ) arg6 fullShare (acc6 i x0 x1 x3 17) ∗ owns (c : Thread nD τ) arg7 fullShare (acc7 i x0 x1 x2 17) ∗ (∃ d, owns (c : Thread nD τ) arg8 fullShare d) ∗ (∃ d, owns (c : Thread nD τ) arg9 fullShare d)) -∗ K ⟨⟩))
          ⊢ wp frame (wpE (defs₀ (F := F)) Variants.none c none) E (cc0_pool_backward i arg1 harg1 arg2 harg2 arg3 harg3 arg4 harg4 arg5 harg5 arg6 harg6 arg7 harg7 arg8 harg8 arg9 harg9) K := by
    simp only [cc0_pool_backward_eq_skeleton]; unfold cc0_pool_backward_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    sl_exec
    sl_step
    have h8 : ∀ f : BufTy.Contents (Elt F) arg8.view.ty, arg8.view.read (Elt F) (arg8.view.writes (Elt F) f (body_run.sl.HS0_2 c arg1 f0)) = vpad x0 := fun f => vpad_read arg1 arg8 f0 x0 hf0 f
    have h6 : ∀ f : BufTy.Contents (Elt F) arg6.view.ty, arg6.view.read (Elt F) (arg6.view.writes (Elt F) f (body_run.sl.H5_1 (F := F))) = k0_pay4 (F := F) := fun f => View.read_writes_full arg6.view f _ _ _
    have h7 : ∀ f : BufTy.Contents (Elt F) arg7.view.ty, arg7.view.read (Elt F) (arg7.view.writes (Elt F) f (body_run.sl.H6_1 (F := F))) = k0_pay5 (F := F) := fun f => View.read_writes_full arg7.view f _ _ _
    have hp := fun G5 G6 G7 G9 => pb1_reads Variants.none c none i arg1 harg1 arg2 harg2 arg3 harg3 arg4 harg4 arg5 harg5 arg6 harg6 arg7 harg7 arg8 harg8 arg9 harg9 x0 x1 x2 x3 f1 f2 f3 _ hf1 hf2 hf3 (h8 arg8.view.junk) G5 G6 G7 G9
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      rw [View.writes_append, View.writes_append]
      obtain ⟨i5, -, -, i9, j9⟩ := hp f4 _ _ (arg9.view.writes (Elt F) fs1 [⟨Rect.unit ![4352, 0] S16x128.size inb_S4368x128_S16x128_4352_0, k0_pay3⟩]) (h6 arg6.view.junk) (h7 arg7.view.junk) 17 le_rfl
      have ht : Scf.trips k0_t1_loop.lb k0_t1_loop.ub k0_t1_loop.st = 17 := trips1
      rw [ht]
      funext y
      refine (pb2_reads Variants.none c none i arg1 harg1 arg2 harg2 arg3 harg3 arg4 harg4 arg5 harg5 arg6 harg6 arg7 harg7 arg8 harg8 arg9 harg9 x1 x2 x3 _ ?_ _ ?_ 17 le_rfl).1 y (y (0 : Fin 2)).isLt
      · funext z
        unfold gpad
        by_cases hz : (z (0 : Fin 2)).val < 4352
        · rw [dif_pos hz]; exact i9 z hz hz
        · rw [dif_neg hz]
          exact (j9 z (Nat.le_of_not_lt hz)).trans (gpad_tail arg9 fs1 z (Nat.le_of_not_lt hz) _)
      · intro z
        exact i5 z (z (0 : Fin 2)).isLt
    isplitl [H5]
    · iexists _; isplitr; swap; · iexact H5
      ipureintro
      rw [View.writes_append]
      have ht : Scf.trips k0_t1_loop.lb k0_t1_loop.ub k0_t1_loop.st = 17 := trips1
      rw [ht]
      exact (hp _ _ _ _ (h6 arg6.view.junk) (h7 arg7.view.junk) 17 le_rfl).2.1
    isplitl [H6]
    · iexists _; isplitr; swap; · iexact H6
      ipureintro
      rw [View.writes_append]
      have ht : Scf.trips k0_t1_loop.lb k0_t1_loop.ub k0_t1_loop.st = 17 := trips1
      rw [ht]
      exact (hp _ _ _ _ (h6 arg6.view.junk) (h7 arg7.view.junk) 17 le_rfl).2.2.1
    isplitl [HS0]
    · iexists _, _; isplitr; swap; · iexact HS0
      ipureintro; rfl
    iexists _, _; isplitr; swap; · iexact HS1
    ipureintro; rfl

end Cert.KernelIdeal.Pool

end
-- ==== Proof.PoolRun.lean ====
/- The pool-backward program run: the pipeline's data, the body at every grid point, and the launch. -/
module

public import proofs.«01_k».proof.Proof.PoolBody
public import Idealize.ShloMosaic.Lib.Claim

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's data: inputs at their blocks after every point, outputs at the gradients of those blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (iblk m c 1 t) (iblk m c 2 t) (iblk m c 3 t)
    | ⟨5, _⟩ => acc6 (grid0.coords t) (iblk m c 0 t) (iblk m c 1 t) (iblk m c 3 t) 17
    | ⟨6, _⟩ => acc7 (grid0.coords t) (iblk m c 0 t) (iblk m c 1 t) (iblk m c 2 t) 17
  Φ _ := Pipeline.ΦA spec0 c
  q _ := fullShare
  owed _ := 0

/-- The data's arrays are those at the region's entry. -/
theorem dats_A (c : Dev nD) (w : Fin cfg0.W) : (dats m 0 c).A w = V m c (Pipeline.arrRef spec0 w) := by
  dsimp only [dats]

theorem dats_after4 (c : Dev nD) (t : Fin cfg0.N) :
    (dats m 0 c).after 4 t = out4 (grid0.coords t) (iblk m c 1 t) (iblk m c 2 t) (iblk m c 3 t) := by dsimp only [dats]
theorem dats_after5 (c : Dev nD) (t : Fin cfg0.N) :
    (dats m 0 c).after 5 t = acc6 (grid0.coords t) (iblk m c 0 t) (iblk m c 1 t) (iblk m c 3 t) 17 := by dsimp only [dats]
theorem dats_after6 (c : Dev nD) (t : Fin cfg0.N) :
    (dats m 0 c).after 6 t = acc7 (grid0.coords t) (iblk m c 0 t) (iblk m c 1 t) (iblk m c 2 t) 17 := by dsimp only [dats]

/-- Before every point the inputs' buffers hold their blocks. -/
theorem before_in (c : Dev nD) (t : Fin cfg0.N) :
    (∀ d, (dats m 0 c).before 0 t d = iblk m c 0 t) ∧ (∀ d, (dats m 0 c).before 1 t d = iblk m c 1 t)
      ∧ (∀ d, (dats m 0 c).before 2 t d = iblk m c 2 t) ∧ (∀ d, (dats m 0 c).before 3 t d = iblk m c 3 t) :=
  ⟨fun d => before0_0_of m (dats m 0 c) (dats_A m c 0) (fun _ => by dsimp only [dats]) t d,
    fun d => before0_1_of m (dats m 0 c) (dats_A m c 1) (fun _ => by dsimp only [dats]) t d,
    fun d => before0_2_of m (dats m 0 c) (dats_A m c 2) (fun _ => by dsimp only [dats]) t d,
    fun d => before0_3_of m (dats m 0 c) (dats_A m c 3) (fun _ => by dsimp only [dats]) t d⟩

/-- What the body starts from at point `t`, window by window. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it leaves there. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at point `t` takes the one to the other. -/
theorem body_sound (c : Dev nD) (t : Fin cfg0.N) :
    pre m c t ⊢ wp frame (wpE (defs₀ (F := F)) Variants.none c none) Set.univ (bodyAt0 t) (fun _ => post m c t) := by
  unfold pre post bodyAt0
  obtain ⟨b0, b1, b2, b3⟩ := before_in m c t
  simp only [b0, b1, b2, b3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq,
    dats_after4, dats_after5, dats_after6]
  iintro ⟨⟨⟨S0, S1⟩, G⟩, O, ⟨%_, A0⟩, ⟨%_, A1⟩, ⟨%_, A2⟩, ⟨%_, A3⟩, ⟨%_, A4⟩, ⟨%_, A5⟩, ⟨%_, A6⟩⟩
  iapply (body_run c (grid0.coords t) _ _ _ _ _ _ _ _ _ _ _ _ _ _ _ _ _ _ (iblk m c 0 t) (iblk m c 1 t) (iblk m c 2 t) (iblk m c 3 t) Set.univ _)
  isplitl [A0]; · iexact A0
  isplitl [A1]; · iexact A1
  isplitl [A2]; · iexact A2
  isplitl [A3]; · iexact A3
  isplitl [A4]; · iexists _; iexact A4
  isplitl [A5]; · iexists _; iexact A5
  isplitl [A6]; · iexists _; iexact A6
  isplitl [S0]; · iexact S0
  isplitl [S1]; · iexact S1
  iintro ⟨A0, A1, A2, A3, A4, A5, A6, S0, S1⟩
  isplitl [S0 S1 G]
  · isplitl [S0 S1]
    · isplitl [S0]
      · iexact S0
      iexact S1
    iexact G
  isplitl [O]; · iexact O
  isplitl [A0]; · iexact A0
  isplitl [A1]; · iexact A1
  isplitl [A2]; · iexact A2
  isplitl [A3]; · iexact A3
  isplitl [A4]; · iexact A4
  isplitl [A5]; · iexact A5
  iexact A6

/-- The table's row is the body on the point's buffers. -/
theorem row_eq (t : Fin cfg0.N) : defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

set_option backward.isDefEq.respectTransparency.types false in
set_option maxHeartbeats 800000 in
/-- The run: every array of the pipeline ends as the data says, and all counters at zero. -/
theorem run_zero : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_zero m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) (run_main m ρ)) ((θ_run defs _ _).mono (fun _ h => h.2) (run_zero m ρ))

end Cert.KernelIdeal.Pool

end
-- ==== Proof.PoolPre.lean ====
/- The precondition read as: every argument entry is a real. -/
module

public import proofs.«01_k».proof.Defs
public import Idealize.ShloMosaic.Lib.ReduceAll
public import Idealize.ShloMosaic.Lib.Pointwise.Tactic

@[expose] public section

noncomputable section

namespace Cert.Pool

open Idealize.ShloMosaic Idealize.SL.Sem

/-- The precondition's side conditions. -/
theorem pre_facts : Cert.Pre_finite.Facts where
  bcast_S_S4112x512 := by decide
  reducesTo_S4112x512_S_d0_1 := by decide
  h_S_ := by decide
  bcast_S_S4x128x128 := by decide
  reducesTo_S4x128x128_S_d0_1_2 := by decide
  bcast_S_S4x128 := by decide
  reducesTo_S4x128_S_d0_1 := by decide

/-- An entry whose absolute value is below infinity is a real. -/
theorem real_of_lt {s : Shape} (x : FVec Ideal s .f32) (b : FVec Ideal s .f32) (hb : ∀ j, b j = Ideal.ofBits .f32 0x7F800000#32) (j : s.Idx)
    (h : cmpf .olt (Host.absf x) b j = 1#1) : x j = (((x j : EReal).toReal : ℝ) : EReal) := by
  have ht : Ideal.ofBits .f32 0x7F800000#32 = (⊤ : EReal) := by simp [Ideal.ofBits, Ideal.ieee]
  have hlt : max (x j : EReal) (-(x j : EReal)) < ⊤ := by
    by_contra hc
    have e : cmpf .olt (Host.absf x) b j = Ideal.cmp .olt (max (x j : EReal) (-(x j : EReal))) (b j) := rfl
    rw [e, hb, ht] at h
    unfold Ideal.cmp at h
    simp [hc] at h
  refine (EReal.coe_toReal ?_ ?_).symm
  · rintro e
    rw [e] at hlt
    simp at hlt
  · rintro e
    rw [e] at hlt
    simp at hlt

theorem and_one {s : Shape} (x y : IVec s 1) (j : s.Idx) (h : andi x y j = 1#1) : x j = 1#1 ∧ y j = 1#1 := by
  have : ∀ a b : BitVec 1, IntOp.andi a b = 1#1 → a = 1#1 ∧ b = 1#1 := by decide
  exact this _ _ h

variable (x0 x3 : FVec Ideal Cert.Pre_finite.S4112x512 .f32) (x1 : FVec Ideal Cert.Pre_finite.S4x128x128 .f32) (x2 : FVec Ideal Cert.Pre_finite.S4x128 .f32)

/-- All four arguments are real. -/
theorem pre_real [Cert.Pre_finite.Facts] (h : Cert.Pre_finite.fn (F := Ideal) x0 x1 x2 x3 = fun _ => 1#1) :
    (∀ j, x0 j = (((x0 j : EReal).toReal : ℝ) : EReal)) ∧ (∀ j, x1 j = (((x1 j : EReal).toReal : ℝ) : EReal))
      ∧ (∀ j, x2 j = (((x2 j : EReal).toReal : ℝ) : EReal)) ∧ (∀ j, x3 j = (((x3 j : EReal).toReal : ℝ) : EReal)) := by
  have h := congrFun h (fun a => a.elim0)
  obtain ⟨h, h3⟩ := and_one _ _ _ h
  obtain ⟨h, h2⟩ := and_one _ _ _ h
  obtain ⟨h0, h1⟩ := and_one _ _ _ h
  haveI : Subsingleton Cert.Pre_finite.S_.Idx := ⟨fun a b => funext fun i => i.elim0⟩
  refine ⟨fun j => real_of_lt x0 _ (fun j => ?_) j (Host.reduce_andi_all _ _ _ _ _ h0 j), fun j => real_of_lt x1 _ (fun j => ?_) j (Host.reduce_andi_all _ _ _ _ _ h1 j),
    fun j => real_of_lt x2 _ (fun j => ?_) j (Host.reduce_andi_all _ _ _ _ _ h2 j), fun j => real_of_lt x3 _ (fun j => ?_) j (Host.reduce_andi_all _ _ _ _ _ h3 j)⟩
  all_goals rfl

end Cert.Pool

end
-- ==== Proof.PoolWin.lean ====
/- The window sums of the pooling gradient: a tree of rotations and additions is the sum of a window of rows. -/
module

public import proofs.«01_k».proof.Proof.PoolSpec
public import Idealize.ShloMosaic.Lib.Pointwise
public import Idealize.ShloMosaic.Lib.KernelVsHost
public import Idealize.ShloMosaic.PureOps.Ideal

@[expose] public section

noncomputable section

namespace Cert.KernelIdeal.Pool

open Idealize.ShloMosaic
open Cert.KernelIdeal Cert.KernelIdeal.Gen

/-- A finite sum of reals, as an extended real, is the sum of the terms. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A rotation read at a row: the row `n` above it, around the end. -/
theorem rot_row (n : BitVec 32) (W : ℕ) (hn : n.toNat = W) (hW : W < 272) (s : FVec Ideal S272x128 .f32)
    (h : S272x128.Rotates 0 none) (r q : Fin 272) (c : Fin 128) (hq : q.val = (r.val + 272 - W) % 272) :
    dynamicRotate (s := S272x128) 0 n none s h (ix2 r c) = s (ix2 q c) := by
  refine dynamicRotate_apply (s := S272x128) 0 n s h _ _ (Fin.forall_fin_two.mpr ⟨?_, ?_⟩)
  · rw [if_pos rfl]
    show q.val = (r.val + 272 - n.toNat % 272) % 272
    rw [hn, Nat.mod_eq_of_lt hW, hq]
  · rw [if_neg (by decide)]; rfl

/-- A window of trailing rows doubles when its rotation is added. -/
theorem lag_step (n : BitVec 32) (W : ℕ) (hn : n.toNat = W) (hW : W < 272) (s : FVec Ideal S272x128 .f32)
    (h : S272x128.Rotates 0 none) (c : Fin 128) (E : ℕ → ℝ)
    (hs : ∀ r : Fin 272, W ≤ r.val + 1 → s (ix2 r c) = ((∑ d ∈ Finset.range W, E (r.val - d) : ℝ) : EReal))
    (r : Fin 272) (hr : W + W ≤ r.val + 1) :
    addf s (dynamicRotate (s := S272x128) 0 n none s h) (ix2 r c) = ((∑ d ∈ Finset.range (W + W), E (r.val - d) : ℝ) : EReal) := by
  have hq : r.val - W < 272 := by omega
  show s (ix2 r c) + dynamicRotate (s := S272x128) 0 n none s h (ix2 r c) = _
  by_cases hW0 : W = 0
  · subst hW0
    rw [rot_row n 0 hn hW s h r r c (by omega), hs r (by omega)]
    simp
  rw [rot_row n W hn hW s h r ⟨r.val - W, hq⟩ c (by show r.val - W = _; omega), hs r (by omega), hs ⟨r.val - W, hq⟩ (by show W ≤ r.val - W + 1; omega),
    Finset.sum_range_add, EReal.coe_add]
  congr 2
  exact Finset.sum_congr rfl fun d _ => by rw [Nat.sub_sub]

/-- A window of leading rows doubles when its rotation is added. -/
theorem lead_step (n : BitVec 32) (W : ℕ) (hn : n.toNat = 272 - W) (hW0 : 0 < W) (hW : W < 272) (s : FVec Ideal S272x128 .f32)
    (h : S272x128.Rotates 0 none) (c : Fin 128) (E : ℕ → ℝ)
    (hs : ∀ r : Fin 272, r.val + W ≤ 272 → s (ix2 r c) = ((∑ d ∈ Finset.range W, E (r.val + d) : ℝ) : EReal))
    (r : Fin 272) (hr : r.val + (W + W) ≤ 272) :
    addf s (dynamicRotate (s := S272x128) 0 n none s h) (ix2 r c) = ((∑ d ∈ Finset.range (W + W), E (r.val + d) : ℝ) : EReal) := by
  have hq : r.val + W < 272 := by omega
  show s (ix2 r c) + dynamicRotate (s := S272x128) 0 n none s h (ix2 r c) = _
  rw [rot_row n (272 - W) hn (by omega) s h r ⟨r.val + W, hq⟩ c (by show r.val + W = _; omega), hs r (by omega), hs ⟨r.val + W, hq⟩ (by show r.val + W + W ≤ _; omega),
    Finset.sum_range_add, EReal.coe_add]
  congr 2
  exact Finset.sum_congr rfl fun d _ => by rw [Nat.add_assoc]

/-- The tree of trailing window sums, one doubling for every group up to `g`. -/
def lagTree (g : BitVec 32) (X : FVec Ideal S272x128 .f32) : FVec Ideal S272x128 .f32 :=
  have s1 := Scalar.select (Scalar.cmpi .sge g 0#32) (addf X (dynamicRotate 0 1#32 none X rotates_S272x128_d0)) X
  have s2 := Scalar.select (Scalar.cmpi .sge g 1#32) (addf s1 (dynamicRotate 0 2#32 none s1 rotates_S272x128_d0)) s1
  have s3 := Scalar.select (Scalar.cmpi .sge g 2#32) (addf s2 (dynamicRotate 0 4#32 none s2 rotates_S272x128_d0)) s2
  Scalar.select (Scalar.cmpi .sge g 3#32) (addf s3 (dynamicRotate 0 8#32 none s3 rotates_S272x128_d0)) s3

/-- The tree of leading window sums. -/
def leadTree (g : BitVec 32) (X : FVec Ideal S272x128 .f32) : FVec Ideal S272x128 .f32 :=
  have s1 := Scalar.select (Scalar.cmpi .sge g 0#32) (addf X (dynamicRotate 0 271#32 none X rotates_S272x128_d0)) X
  have s2 := Scalar.select (Scalar.cmpi .sge g 1#32) (addf s1 (dynamicRotate 0 270#32 none s1 rotates_S272x128_d0)) s1
  have s3 := Scalar.select (Scalar.cmpi .sge g 2#32) (addf s2 (dynamicRotate 0 268#32 none s2 rotates_S272x128_d0)) s2
  Scalar.select (Scalar.cmpi .sge g 3#32) (addf s3 (dynamicRotate 0 264#32 none s3 rotates_S272x128_d0)) s3

/-- The window of group `g`. -/
def win (g : Fin 4) : ℕ := 2 ^ (g.val + 1)

/-- The trailing tree is the sum of the last `win g` rows. -/
theorem lagTree_apply (g : Fin 4) (X : FVec Ideal S272x128 .f32) (c : Fin 128) (E : ℕ → ℝ)
    (hX : ∀ r : Fin 272, X (ix2 r c) = ((E r.val : ℝ) : EReal)) (r : Fin 272) (hr : 16 ≤ r.val) :
    lagTree (BitVec.ofNat 32 g.val) X (ix2 r c) = ((∑ d ∈ Finset.range (win g), E (r.val - d) : ℝ) : EReal) := by
  have h1 : ∀ r : Fin 272, 1 ≤ r.val + 1 → X (ix2 r c) = ((∑ d ∈ Finset.range 1, E (r.val - d) : ℝ) : EReal) := fun r _ => by
    rw [hX r]; simp
  have h2 := lag_step 1#32 1 rfl (by decide) X rotates_S272x128_d0 c E h1
  have h4 := lag_step 2#32 2 rfl (by decide) _ rotates_S272x128_d0 c E h2
  have h8 := lag_step 4#32 4 rfl (by decide) _ rotates_S272x128_d0 c E h4
  have h16 := lag_step 8#32 8 rfl (by decide) _ rotates_S272x128_d0 c E h8
  fin_cases g
  · exact h2 r (by omega)
  · exact h4 r (by omega)
  · exact h8 r (by omega)
  · exact h16 r (by omega)

/-- The leading tree is the sum of the next `win g` rows. -/
theorem leadTree_apply (g : Fin 4) (X : FVec Ideal S272x128 .f32) (c : Fin 128) (E : ℕ → ℝ)
    (hX : ∀ r : Fin 272, X (ix2 r c) = ((E r.val : ℝ) : EReal)) (r : Fin 272) (hr : r.val < 256) :
    leadTree (BitVec.ofNat 32 g.val) X (ix2 r c) = ((∑ d ∈ Finset.range (win g), E (r.val + d) : ℝ) : EReal) := by
  have h1 : ∀ r : Fin 272, r.val + 1 ≤ 272 → X (ix2 r c) = ((∑ d ∈ Finset.range 1, E (r.val + d) : ℝ) : EReal) := fun r _ => by
    rw [hX r]; simp
  have h2 := lead_step 271#32 1 rfl (by decide) (by decide) X rotates_S272x128_d0 c E h1
  have h4 := lead_step 270#32 2 rfl (by decide) (by decide) _ rotates_S272x128_d0 c E h2
  have h8 := lead_step 268#32 4 rfl (by decide) (by decide) _ rotates_S272x128_d0 c E h4
  have h16 := lead_step 264#32 8 rfl (by decide) (by decide) _ rotates_S272x128_d0 c E h8
  fin_cases g
  · exact h2 r (by omega)
  · exact h4 r (by omega)
  · exact h8 r (by omega)
  · exact h16 r (by omega)

/-- The pooled rows: the trailing window's sum times the reciprocal count, less the row. -/
theorem pay10_eq (g v0 a b : BitVec 32) (k : Fin k0_t1_loop.trips) (X : FVec Ideal S272x128 .f32) (r : Fin 256) (c : Fin 128) :
    k0_pay10 (F := Ideal) g v0 a b k X (ix2 r c)
      = lagTree g X (ix2 ⟨16 + r.val, by omega⟩ c) * k0_pay9 (F := Ideal) v0 a b k (ix2 r 0) - X (ix2 ⟨16 + r.val, by omega⟩ c) := by
  have e : k0_pay10 (F := Ideal) g v0 a b k X = subf (mulf (extractStridedSlice S256x128 ![16, 0] (lagTree g X) slices_S272x128_o16_0_S256x128)
      (broadcastTo S256x128 (k0_pay9 (F := Ideal) v0 a b k) broadcasts_S256x1_S256x128))
      (extractStridedSlice S256x128 ![16, 0] X slices_S272x128_o16_0_S256x128) := rfl
  rw [e]
  pointwise []

/-- A row's gradient so far, and the leading window's sum. -/
theorem pay8_eq (i : grid0.Coords) (X : FVec Ideal S272x128 .f32) (Y : FVec Ideal S256x128 .f32) (r : Fin 256) (c : Fin 128) :
    k0_pay8 (F := Ideal) i X Y (ix2 r c) = Y (ix2 r c) + leadTree (grp i) X (ix2 ⟨r.val, by omega⟩ c) := by
  have e : k0_pay8 (F := Ideal) i X Y = addf (shapeCast S256x128 Y shapeCasts_S256x128_S256x128)
      (extractStridedSlice S256x128 ![0, 0] (leadTree (grp i) X) slices_S272x128_o0_0_S256x128) := rfl
  rw [e]
  pointwise []

end Cert.KernelIdeal.Pool

end
-- ==== Proof.PoolTile.lean ====
/- The pooling gradient's tiles over finite arguments: every tile's entries as sums of reals. -/
module

public import proofs.«01_k».proof.Proof.PoolWin

@[expose] public section

noncomputable section

namespace Cert.KernelIdeal.Pool

open Idealize.ShloMosaic
open Cert.KernelIdeal Cert.KernelIdeal.Gen

/-- The number of rows in the window that ends at padded row `R`. -/
def cnt (g : Fin 4) (R : ℕ) : ℕ := max 1 (min (win g) (R - 239))

theorem cnt_pos (g : Fin 4) (R : ℕ) : 0 < cnt g R := lt_of_lt_of_le Nat.one_pos (le_max_left _ _)

/-- The count as the body computes it on words. -/
theorem cnt_word : ∀ (g : Fin 4) (k : Fin 17) (r : Fin 256),
    (Scalar.minsi (Scalar.shli 2#32 (BitVec.ofNat 32 g.val))
      (Scalar.maxsi 1#32 (BitVec.ofNat 32 k.val * 256#32 + BitVec.ofNat 32 r.val - 240#32 + 1#32))).toInt = (cnt g (256 * k.val + r.val) : ℤ) := by
  decide +kernel

/-- The reciprocal counts of tile `k`. -/
theorem invT_real (i : grid0.Coords) (g : Fin 4) (hi : (i 0).val = g.val) (k : Fin 17) (r : Fin 256) :
    invT (F := Ideal) i k (ix2 r 0) = ((1 / (cnt g (256 * k.val + r.val) : ℝ) : ℝ) : EReal) := by
  have e : invT (F := Ideal) i k (ix2 r 0) = Ideal.div 1 (((((Scalar.minsi (Scalar.shli 2#32 (BitVec.ofNat 32 (i 0).val))
      (Scalar.maxsi 1#32 (BitVec.ofNat 32 k.val * 256#32 + BitVec.ofNat 32 r.val - 240#32 + 1#32))).toInt : ℤ) : ℝ)) : EReal) := by
    unfold invT
    pointwise [k0_pay9, grp]
    rw [show Scf.iv 0#32 1#32 (tr k).val = BitVec.ofNat 32 k.val from by
      show 0#32 + BitVec.ofNat 32 k.val * 1#32 = _
      rw [BitVec.mul_one, BitVec.zero_add]]
    rfl
  have hc : ((cnt g (256 * k.val + r.val) : ℝ)) ≠ 0 := Nat.cast_ne_zero.mpr (Nat.pos_iff_ne_zero.mp (cnt_pos _ _))
  rw [e, hi, cnt_word, Int.cast_natCast, Ideal.div_coe hc, one_mul]

section Blocks
variable (i : grid0.Coords) (g : Fin 4) (hi : (i 0).val = g.val)
variable (a b : ℕ → Fin 128 → ℝ) (W : Fin 128 → Fin 128 → ℝ) (s : Fin 128 → ℝ)
variable (x0 x1 : Vec Ideal S4352x128 .f32) (x2 : Vec Ideal S1x128x128 .f32) (x3 : Vec Ideal S1x1x128 .f32)
variable (h0 : ∀ (R : Fin 4352) (c : Fin 128), x0 (ix2 R c) = ((a R.val c : ℝ) : EReal))
variable (h1 : ∀ (R : Fin 4352) (c : Fin 128), x1 (ix2 R c) = ((b R.val c : ℝ) : EReal))
variable (h2 : ∀ c d : Fin 128, x2 (ix3 0 c d) = ((W c d : ℝ) : EReal))
variable (h3 : ∀ d : Fin 128, x3 (ix3 0 0 d) = ((s d : ℝ) : EReal))

/-- The padded rows as reals. -/
def padA (a : ℕ → Fin 128 → ℝ) (ρ : ℕ) (c : Fin 128) : ℝ := if ρ < 16 then 0 else a (ρ - 16) c

/-- The pooled rows as reals. -/
def pK (g : Fin 4) (a : ℕ → Fin 128 → ℝ) (R : ℕ) (c : Fin 128) : ℝ :=
  (∑ d ∈ Finset.range (win g), padA a (R + 16 - d) c) * (1 / (cnt g R : ℝ)) - a R c

/-- The pooled rows' cotangent as reals. -/
def dpK (b : ℕ → Fin 128 → ℝ) (W : Fin 128 → Fin 128 → ℝ) (s : Fin 128 → ℝ) (R : ℕ) (c : Fin 128) : ℝ := ∑ d, b R d * s d * W c d

/-- The padded scaled cotangent as reals. -/
def gK (g : Fin 4) (b : ℕ → Fin 128 → ℝ) (W : Fin 128 → Fin 128 → ℝ) (s : Fin 128 → ℝ) (R : ℕ) (c : Fin 128) : ℝ :=
  if R < 4352 then dpK b W s R c * (1 / (cnt g R : ℝ)) else 0

include h0 in
theorem vpad_real (ρ : Fin 4368) (c : Fin 128) : vpad x0 (ix2 ρ c) = ((padA a ρ.val c : ℝ) : EReal) := by
  unfold vpad padA
  by_cases h : ρ.val < 16
  · rw [dif_pos (show ((ix2 ρ c : (⟨2, ![4368, 128]⟩ : Shape).Idx) 0).val < 16 from h), if_pos h]
    pointwise [k0_pay1]
    simp
  · rw [dif_neg (show ¬ ((ix2 ρ c : (⟨2, ![4368, 128]⟩ : Shape).Idx) 0).val < 16 from h), if_neg h]
    refine Eq.trans ?_ (h0 ⟨ρ.val - 16, by omega⟩ c)
    pointwise [k0_pay2]

include h0 hi in
theorem pT_real (k : Fin 17) (r : Fin 256) (c : Fin 128) :
    pT i x0 k (ix2 r c) = ((pK g a (256 * k.val + r.val) c : ℝ) : EReal) := by
  have hX : ∀ q : Fin 272, ext (vpad x0) k (ix2 q c) = ((padA a (256 * k.val + q.val) c : ℝ) : EReal) := fun q =>
    vpad_real a x0 h0 ⟨256 * k.val + q.val, by omega⟩ c
  unfold pT
  rw [pay10_eq, show grp i = BitVec.ofNat 32 g.val from by unfold grp; rw [hi],
    lagTree_apply g (ext (vpad x0) k) c (fun q => padA a (256 * k.val + q) c) hX _ (Nat.le_add_right _ _), hX]
  have hv := invT_real i g hi k r
  unfold invT at hv
  rw [show grp i = BitVec.ofNat 32 g.val from by unfold grp; rw [hi]] at hv
  rw [hv, ← EReal.coe_mul, ← EReal.coe_sub]
  congr 1
  unfold pK
  congr 1
  · congr 1
    refine Finset.sum_congr rfl fun d hd => ?_
    have hd16 : d < 16 := lt_of_lt_of_le (Finset.mem_range.mp hd) (by unfold win; exact Nat.pow_le_pow_right (by decide) (by omega : g.val + 1 ≤ 4))
    show padA a (256 * k.val + (16 + r.val - d)) c = _
    congr 1; omega
  · show padA a (256 * k.val + (16 + r.val)) c = _
    unfold padA
    rw [if_neg (by omega)]
    congr 1; omega

include h1 in
theorem tile_real (k : Fin 17) (r : Fin 256) (c : Fin 128) : tile x1 k (ix2 r c) = ((b (256 * k.val + r.val) c : ℝ) : EReal) :=
  h1 ⟨256 * k.val + r.val, by omega⟩ c

include h0 h1 h2 hi in
/-- The scale's gradient after `k` tiles. -/
theorem acc7_real (d : Fin 128) : ∀ k : ℕ, k ≤ 17 → acc7 i x0 x1 x2 k (ix3 0 0 d)
      = ((∑ R ∈ Finset.range (256 * k), b R d * ∑ c, pK g a R c * W c d : ℝ) : EReal)
  | 0, _ => by
    show k0_pay5 (F := Ideal) (ix3 0 0 d) = _
    pointwise [k0_pay5]
    simp
  | k + 1, hk => by
    have hk' : k < 17 := hk
    have ih := acc7_real d k (le_of_lt hk)
    rw [acc7, dif_pos hk']
    have e : ∀ (p y : FVec Ideal S256x128 .f32) (z : Vec Ideal S1x1x128 .f32), k0_pay13 (F := Ideal) p x2 y z (ix3 0 0 d)
        = z (ix3 0 0 d) + ∑ x, y (ix2 x d) * ∑ x_1, p (ix2 x x_1) * x2 (ix3 0 x_1 d) := fun p y z => by
      pointwise [k0_pay13, k0_pay11]
    rw [e, ih, Nat.mul_succ, Finset.sum_range_add, EReal.coe_add, Finset.sum_range (n := 256), coe_sum Finset.univ]
    congr 1
    refine Finset.sum_congr rfl fun r _ => ?_
    rw [tile_real b x1 h1 ⟨k, hk'⟩ r d, EReal.coe_mul, coe_sum]
    congr 1
    refine Finset.sum_congr rfl fun c _ => ?_
    rw [pT_real i g hi a x0 h0 ⟨k, hk'⟩ r c, h2, EReal.coe_mul]

include h0 h1 h3 hi in
/-- The weight's gradient after `k` tiles. -/
theorem acc6_real (c d : Fin 128) : ∀ k : ℕ, k ≤ 17 → acc6 i x0 x1 x3 k (ix3 0 c d)
      = ((∑ R ∈ Finset.range (256 * k), pK g a R c * (b R d * s d) : ℝ) : EReal)
  | 0, _ => by
    show k0_pay4 (F := Ideal) (ix3 0 c d) = _
    pointwise [k0_pay4]
    simp
  | k + 1, hk => by
    have hk' : k < 17 := hk
    have ih := acc6_real c d k (le_of_lt hk)
    rw [acc6, dif_pos hk']
    have e : ∀ (p y : FVec Ideal S256x128 .f32) (z : Vec Ideal S1x128x128 .f32), k0_pay14 (F := Ideal) p y x3 z (ix3 0 c d)
        = z (ix3 0 c d) + ∑ x, p (ix2 x c) * (y (ix2 x d) * x3 (ix3 0 0 d)) := fun p y z => by
      pointwise [k0_pay14, k0_pay12, k0_pay11]
    rw [e, ih, Nat.mul_succ, Finset.sum_range_add, EReal.coe_add, Finset.sum_range (n := 256), coe_sum Finset.univ]
    congr 1
    refine Finset.sum_congr rfl fun r _ => ?_
    rw [tile_real b x1 h1 ⟨k, hk'⟩ r d, pT_real i g hi a x0 h0 ⟨k, hk'⟩ r c, h3, EReal.coe_mul, EReal.coe_mul]

include h1 h2 h3 in
theorem dpT_real (k : Fin 17) (r : Fin 256) (c : Fin 128) :
    dpT x1 x2 x3 k (ix2 r c) = ((dpK b W s (256 * k.val + r.val) c : ℝ) : EReal) := by
  have e : ∀ y : FVec Ideal S256x128 .f32, k0_pay15 (F := Ideal) y x3 x2 (ix2 r c)
      = ∑ x, y (ix2 r x) * x3 (ix3 0 0 x) * x2 (ix3 0 c x) := fun y => by
    pointwise [k0_pay15, k0_pay12, k0_pay11]
  unfold dpT dpK
  rw [e, coe_sum]
  refine Finset.sum_congr rfl fun d _ => ?_
  rw [tile_real b x1 h1 k r d, h3, h2, EReal.coe_mul, EReal.coe_mul]

include h1 h2 h3 hi in
theorem gpad_real (R : Fin 4368) (c : Fin 128) : gpad i x1 x2 x3 (ix2 R c) = ((gK g b W s R.val c : ℝ) : EReal) := by
  unfold gpad gK
  by_cases h : R.val < 4352
  · have hR : 256 * (rowTile R.val h).val + (rowIn R.val).val = R.val := by
      show 256 * (R.val / 256) + R.val % 256 = _
      omega
    have e : ∀ (y : FVec Ideal S256x128 .f32) (z : FVec Ideal S256x1 .f32) (r : Fin 256), k0_pay6 (F := Ideal) y (k0_pay16 z) (ix2 r c)
        = y (ix2 r c) * z (ix2 r 0) := fun y z r => by
      pointwise [k0_pay6, k0_pay16]
    rw [dif_pos (show ((ix2 R c : (⟨2, ![4368, 128]⟩ : Shape).Idx) 0).val < 4352 from h), if_pos h]
    refine (e _ _ (rowIn R.val)).trans ?_
    rw [dpT_real b W s x1 x2 x3 h1 h2 h3, invT_real i g hi]
    rw [show 256 * (rowTile ((ix2 R c : (⟨2, ![4368, 128]⟩ : Shape).Idx) 0).val h).val + (rowIn R.val).val = R.val from hR, ← EReal.coe_mul]
  · rw [dif_neg (show ¬ ((ix2 R c : (⟨2, ![4368, 128]⟩ : Shape).Idx) 0).val < 4352 from h), if_neg h]
    pointwise [k0_pay3]
    simp

include h1 h2 h3 hi in
/-- The input's gradient. -/
theorem out4_real (R : Fin 4352) (c : Fin 128) : out4 i x1 x2 x3 (ix2 R c)
      = ((0 - dpK b W s R.val c + ∑ e ∈ Finset.range (win g), gK g b W s (R.val + e) c : ℝ) : EReal) := by
  have hR : 256 * (rowTile R.val R.isLt).val + (rowIn R.val).val = R.val := by
    show 256 * (R.val / 256) + R.val % 256 = _
    omega
  have e7 : ∀ (y : FVec Ideal S256x128 .f32) (r : Fin 256), k0_pay7 (F := Ideal) y (ix2 r c) = 0 - y (ix2 r c) := fun y r => by
    pointwise [k0_pay7]
  unfold out4
  refine (pay8_eq i _ _ (rowIn R.val) c).trans ?_
  rw [show grp i = BitVec.ofNat 32 g.val from by unfold grp; rw [hi],
    leadTree_apply g _ c (fun q => gK g b W s (256 * (rowTile R.val R.isLt).val + q) c)
      (fun q => gpad_real i g hi b W s x1 x2 x3 h1 h2 h3 ⟨256 * (rowTile R.val R.isLt).val + q.val, by have := (rowTile R.val R.isLt).isLt; omega⟩ c)
      _ (rowIn R.val).isLt, e7,
    show dpT x1 x2 x3 (rowTile ((ix2 R c : (⟨2, ![4352, 128]⟩ : Shape).Idx) 0).val R.isLt) (ix2 (rowIn R.val) c) = _ from
      dpT_real b W s x1 x2 x3 h1 h2 h3 (rowTile R.val R.isLt) (rowIn R.val) c, hR, EReal.coe_add, EReal.coe_sub, EReal.coe_zero]
  congr 2
  refine Finset.sum_congr rfl fun e _ => ?_
  show gK g b W s (256 * (rowTile R.val R.isLt).val + ((rowIn R.val).val + e)) c = _
  rw [← Nat.add_assoc, hR]

end Blocks

end Cert.KernelIdeal.Pool

end
-- ==== Proof.PoolArrays.lean ====
/- The pooling gradient's arrays after the run, over finite arguments: each result entry as a sum of reals. -/
module

public import proofs.«01_k».proof.Proof.PoolTile
public import proofs.«01_k».proof.Proof.PoolRun
public import Idealize.ShloMosaic.Lib.Pipeline.ValueKit

@[expose] public section

set_option maxRecDepth 16384

noncomputable section

namespace Cert.KernelIdeal.Pool

open Idealize.ShloMosaic Idealize.ShloMosaic.TcCoe Idealize.SL.Sem
open Cert.KernelIdeal Cert.KernelIdeal.Gen

variable (m : (ℓ : Loc nD τ sig) → Buf (Elt Ideal) ℓ)

/-- The windows' index maps: one column block, one matrix, one row per group. -/
theorem idx : ∀ t : Fin cfg0.N, (grid0.coords t 0).val = t.val ∧ t.val < 4 ∧ win0_0.index t = ![0, t.val] ∧ win0_1.index t = ![0, t.val]
    ∧ win0_2.index t = ![t.val, 0, 0] ∧ win0_3.index t = ![t.val, 0, 0] ∧ win0_4.index t = ![0, t.val]
    ∧ win0_5.index t = ![t.val, 0, 0] ∧ win0_6.index t = ![t.val, 0, 0] :=
  (by decide +kernel : ∀ t : Fin grid0.N, _)

/-- The point's group. -/
def gr (t : Fin cfg0.N) : Fin 4 := ⟨t.val, (idx t).2.1⟩

/-- Row `R`, lane `c` of group `g`'s columns of an array with 240 rows of zeros in front. -/
def rows (X : S4112x512.Idx → ℝ) (g : Fin 4) (R : ℕ) (c : Fin 128) : ℝ :=
  if h : 240 ≤ R ∧ R < 4352 then X (ix2 ⟨R - 240, by omega⟩ ⟨128 * g.val + c.val, by omega⟩) else 0

variable (c : Dev nD) (X0 X3 : S4112x512.Idx → ℝ) (X1 : S4x128x128.Idx → ℝ) (X2 : S4x128.Idx → ℝ)
variable (hm0 : ∀ j, m ((c : Thread nD τ).loc main_arg0) j = ((X0 j : ℝ) : EReal))
variable (hm1 : ∀ j, m ((c : Thread nD τ).loc main_arg1) j = ((X1 j : ℝ) : EReal))
variable (hm2 : ∀ j, m ((c : Thread nD τ).loc main_arg2) j = ((X2 j : ℝ) : EReal))
variable (hm3 : ∀ j, m ((c : Thread nD τ).loc main_arg3) j = ((X3 j : ℝ) : EReal))

theorem V_v1 (R : Fin 4352) (q : Fin 512) : (V m c main_v1 : FVec Ideal S4352x512 .f32) (ix2 R q)
      = if h : 240 ≤ R.val then (m ((c : Thread nD τ).loc main_arg0) : FVec Ideal S4112x512 .f32) (ix2 ⟨R.val - 240, by omega⟩ q) else (0 : EReal) := by
  have e : V m c main_v1 = concatenate S4352x512 0 [⟨S240x512, broadcastInDim S240x512 ![] bcast_S_S240x512 (constant (F := Ideal) S_ .f32 0x00000000#32)⟩,
      ⟨S4112x512, m ((c : Thread nD τ).loc main_arg0)⟩] concatenates_S240x512_S4112x512_S4352x512_d0 := by
    show StableHlo.after hostOps0 _ _ = _
    after_results
  rw [e]
  pointwise []
  by_cases h : R.val < 240
  · rw [dif_pos h, dif_neg (by omega)]
  · rw [dif_neg h, dif_pos (by omega)]

theorem V_v2 (R : Fin 4352) (q : Fin 512) : (V m c main_v2 : FVec Ideal S4352x512 .f32) (ix2 R q)
      = if h : 240 ≤ R.val then (m ((c : Thread nD τ).loc main_arg3) : FVec Ideal S4112x512 .f32) (ix2 ⟨R.val - 240, by omega⟩ q) else (0 : EReal) := by
  have e : V m c main_v2 = concatenate S4352x512 0 [⟨S240x512, broadcastInDim S240x512 ![] bcast_S_S240x512 (constant (F := Ideal) S_ .f32 0x00000000#32)⟩,
      ⟨S4112x512, m ((c : Thread nD τ).loc main_arg3)⟩] concatenates_S240x512_S4112x512_S4352x512_d0 := by
    show StableHlo.after hostOps0 _ _ = _
    after_results
  rw [e]
  pointwise []
  by_cases h : R.val < 240
  · rw [dif_pos h, dif_neg (by omega)]
  · rw [dif_neg h, dif_pos (by omega)]

theorem V_v3 (g : Fin 4) (b : Fin 128) : (V m c main_v3 : FVec Ideal S4x1x128 .f32) (ix3 g 0 b)
      = (m ((c : Thread nD τ).loc main_arg2) : FVec Ideal S4x128 .f32) (ix2 g b) := by
  have e : V m c main_v3 = shapeCast S4x1x128 (m ((c : Thread nD τ).loc main_arg2) : FVec Ideal S4x128 .f32) shapeCasts_S4x128_S4x1x128 := by
    show StableHlo.after hostOps0 _ _ = _
    after_results
    rfl
  rw [e]
  pointwise []

include hm0 in
theorem blk0 (t : Fin cfg0.N) (R : Fin 4352) (l : Fin 128) :
    (iblk m c 0 t : Vec Ideal S4352x128 .f32) (ix2 R l) = ((rows X0 (gr t) R.val l : ℝ) : EReal) := by
  have e : (iblk m c 0 t : Vec Ideal S4352x128 .f32) (ix2 R l)
      = (V m c main_v1 : FVec Ideal S4352x512 .f32) (ix2 R ⟨128 * (gr t).val + l.val, by omega⟩) := by
    unfold iblk
    blk_ext [idx t, gr]
  refine e.trans ((V_v1 m c R _).trans ?_)
  unfold rows
  by_cases h : 240 ≤ R.val
  · rw [dif_pos h, dif_pos ⟨h, R.isLt⟩]
    exact hm0 _
  · rw [dif_neg h, dif_neg (fun h' => h h'.1), EReal.coe_zero]

include hm3 in
theorem blk1 (t : Fin cfg0.N) (R : Fin 4352) (l : Fin 128) :
    (iblk m c 1 t : Vec Ideal S4352x128 .f32) (ix2 R l) = ((rows X3 (gr t) R.val l : ℝ) : EReal) := by
  have e : (iblk m c 1 t : Vec Ideal S4352x128 .f32) (ix2 R l)
      = (V m c main_v2 : FVec Ideal S4352x512 .f32) (ix2 R ⟨128 * (gr t).val + l.val, by omega⟩) := by
    unfold iblk
    blk_ext [idx t, gr]
  refine e.trans ((V_v2 m c R _).trans ?_)
  unfold rows
  by_cases h : 240 ≤ R.val
  · rw [dif_pos h, dif_pos ⟨h, R.isLt⟩]
    exact hm3 _
  · rw [dif_neg h, dif_neg (fun h' => h h'.1), EReal.coe_zero]

include hm1 in
theorem blk2 (t : Fin cfg0.N) (a b : Fin 128) :
    (iblk m c 2 t : Vec Ideal S1x128x128 .f32) (ix3 0 a b) = ((X1 (ix3 (gr t) a b) : ℝ) : EReal) := by
  have e : (iblk m c 2 t : Vec Ideal S1x128x128 .f32) (ix3 0 a b)
      = (m ((c : Thread nD τ).loc main_arg1) : FVec Ideal S4x128x128 .f32) (ix3 (gr t) a b) := by
    unfold iblk
    blk_ext [V, idx t, gr]
  exact e.trans (hm1 _)

include hm2 in
theorem blk3 (t : Fin cfg0.N) (b : Fin 128) :
    (iblk m c 3 t : Vec Ideal S1x1x128 .f32) (ix3 0 0 b) = ((X2 (ix2 (gr t) b) : ℝ) : EReal) := by
  have e : (iblk m c 3 t : Vec Ideal S1x1x128 .f32) (ix3 0 0 b)
      = (V m c main_v3 : FVec Ideal S4x1x128 .f32) (ix3 (gr t) 0 b) := by
    unfold iblk
    blk_ext [idx t, gr]
  exact e.trans ((V_v3 m c _ b).trans (hm2 _))

/-- The input's gradient at padded row `R`, lane `l` of group `g`. -/
def dvR (g : Fin 4) (R : ℕ) (l : Fin 128) : ℝ :=
  0 - dpK (rows X3 g) (fun a b => X1 (ix3 g a b)) (fun b => X2 (ix2 g b)) R l
    + ∑ e ∈ Finset.range (win g), gK g (rows X3 g) (fun a b => X1 (ix3 g a b)) (fun b => X2 (ix2 g b)) (R + e) l

/-- The weight's gradient. -/
def dwR (g : Fin 4) (a b : Fin 128) : ℝ :=
  ∑ R ∈ Finset.range (256 * 17), pK g (rows X0 g) R a * (rows X3 g R b * X2 (ix2 g b))

/-- The scale's gradient. -/
def dsR (g : Fin 4) (b : Fin 128) : ℝ :=
  ∑ R ∈ Finset.range (256 * 17), rows X3 g R b * ∑ a, pK g (rows X0 g) R a * X1 (ix3 g a b)

include hm1 hm2 hm3 in
theorem final4 : (dats m 0 c).arrAt 4 cfg0.N
    = (fun j : S4352x512.Idx => ((dvR X3 X1 X2 ⟨(j 1).val / 128, by have : (j 1).val < 512 := (j 1).isLt; omega⟩ (j 0).val ⟨(j 1).val % 128, by omega⟩ : ℝ) : EReal)) := by
  refine (dats m 0 c).arrAt_eq_of_covers 4 _ (by decide +kernel) fun t _ y => ?_
  blk_simp
  rw [dats_after4]
  obtain ⟨R, l, rfl⟩ : ∃ (R : Fin 4352) (l : Fin 128), y = ix2 R l := ⟨y 0, y 1, (ix2_eta (n0 := 4352) (n1 := 128) y).symm⟩
  refine (out4_real (grid0.coords t) (gr t) (idx t).1 (rows X3 (gr t)) _ _ _ _ _ (blk1 m c X3 hm3 t) (blk2 m c X1 hm1 t) (blk3 m c X2 hm2 t) R l).trans ?_
  have hl : l.val < 128 := l.isLt
  have h0 : win0_4.index t 0 = 0 := by simp [idx t]
  have h1 : win0_4.index t 1 = t.val := by simp [idx t]
  have eg : (⟨(win0_4.index t 1 * 128 + l.val) / 128, by rw [h1]; have := (idx t).2.1; omega⟩ : Fin 4) = gr t := Fin.ext (by show (_ + _) / 128 = t.val; rw [h1]; omega)
  have el : (⟨(win0_4.index t 1 * 128 + l.val) % 128, by omega⟩ : Fin 128) = l := Fin.ext (by show (_ + _) % 128 = l.val; rw [h1]; omega)
  have eR : win0_4.index t 0 * 4352 + R.val = R.val := by rw [h0]; omega
  show _ = ((dvR X3 X1 X2 ⟨(win0_4.index t 1 * 128 + l.val) / 128, _⟩ (win0_4.index t 0 * 4352 + R.val) ⟨(win0_4.index t 1 * 128 + l.val) % 128, _⟩ : ℝ) : EReal)
  rw [eg, el, eR]
  rfl

include hm0 hm2 hm3 in
theorem final5 : (dats m 0 c).arrAt 5 cfg0.N = (fun j : S4x128x128.Idx => ((dwR X0 X3 X2 (j 0) (j 1) (j 2) : ℝ) : EReal)) := by
  refine (dats m 0 c).arrAt_eq_of_covers 5 _ (by decide +kernel) fun t _ y => ?_
  blk_simp
  rw [dats_after5]
  obtain ⟨z, a, b, rfl⟩ : ∃ (z : Fin 1) (a : Fin 128) (b : Fin 128), y = ix3 z a b := ⟨y 0, y 1, y 2, (ix3_eta (n0 := 1) (n2 := 128) y).symm⟩
  have e : (win0_5.blk t).view.emb (ix3 z a b) = ix3 (gr t) a b := by
    blk_ext [idx t, gr]
  obtain rfl : z = 0 := Subsingleton.elim _ _
  refine (acc6_real (grid0.coords t) (gr t) (idx t).1 (rows X0 (gr t)) (rows X3 (gr t)) _ _ _ _ (blk0 m c X0 hm0 t) (blk1 m c X3 hm3 t) (blk3 m c X2 hm2 t) a b 17 le_rfl).trans ?_
  rw [e]
  rfl

include hm0 hm1 hm3 in
theorem final6 : (dats m 0 c).arrAt 6 cfg0.N = (fun j : S4x1x128.Idx => ((dsR X0 X3 X1 (j 0) (j 2) : ℝ) : EReal)) := by
  refine (dats m 0 c).arrAt_eq_of_covers 6 _ (by decide +kernel) fun t _ y => ?_
  blk_simp
  rw [dats_after6]
  obtain ⟨z, a, b, rfl⟩ : ∃ (z : Fin 1) (a : Fin 1) (b : Fin 128), y = ix3 z a b := ⟨y 0, y 1, y 2, (ix3_eta (n0 := 1) (n2 := 128) y).symm⟩
  have e : (win0_6.blk t).view.emb (ix3 z a b) = ix3 (gr t) 0 b := by
    blk_ext [idx t, gr]
  obtain rfl : z = 0 := Subsingleton.elim _ _
  obtain rfl : a = 0 := Subsingleton.elim _ _
  refine (acc7_real (grid0.coords t) (gr t) (idx t).1 (rows X0 (gr t)) (rows X3 (gr t)) _ _ _ _ (blk0 m c X0 hm0 t) (blk1 m c X3 hm3 t) (blk2 m c X1 hm1 t) b 17 le_rfl).trans ?_
  rw [e]
  rfl

/-- The lines after the region take the rows behind the padding. -/
theorem lines5 (V : Valuation τ sig (Elt Ideal)) : StableHlo.after hostOps1 V (Proc.devRef .tc main_v5)
    = extractStridedSlice S4112x512 ![240, 0] (V (Proc.devRef .tc main_v4_0) : FVec Ideal S4352x512 .f32) slices_S4352x512_S4112x512_240_0 := by
  after_results

/-- The lines after the region reshape the scale's gradient. -/
theorem lines6 (V : Valuation τ sig (Elt Ideal)) : StableHlo.after hostOps1 V (Proc.devRef .tc main_v6)
    = shapeCast S4x128 (V (Proc.devRef .tc main_v4_2) : FVec Ideal S4x1x128 .f32) shapeCasts_S4x1x128_S4x128 := by
  after_results
  rfl

theorem arrays_inj : Function.Injective (Pipeline.arrRef spec0) := by decide

include hm1 hm2 hm3 in
/-- The first result. -/
theorem tail5 (l : Fin 4112) (q : Fin 512) :
    (Pipeline.afterTail₀ cfgs (dats m) 0 (V0 m) [hostOps1] c main_v5 : FVec Ideal S4112x512 .f32) (ix2 l q)
      = ((dvR X3 X1 X2 ⟨q.val / 128, by omega⟩ (l.val + 240) ⟨q.val % 128, by omega⟩ : ℝ) : EReal) := by
  have e : Pipeline.afterTail₀ cfgs (dats m) 0 (V0 m) [hostOps1] c main_v5
      = extractStridedSlice S4112x512 ![240, 0] ((dats m 0 c).arrAt 4 cfg0.N : FVec Ideal S4352x512 .f32) slices_S4352x512_S4112x512_240_0 :=
    (lines5 (Pipeline.withArrays spec0 c (V0 m c) fun w => (dats m 0 c).arrAt w cfg0.N)).trans
      (congrArg (fun x : FVec Ideal S4352x512 .f32 => extractStridedSlice S4112x512 ![240, 0] x slices_S4352x512_S4112x512_240_0)
        (Pipeline.withArrays_arr spec0 arrays_inj c (V0 m c) (fun w => (dats m 0 c).arrAt w cfg0.N) 4))
  rw [e, final4 m c X3 X1 X2 hm1 hm2 hm3]
  pointwise []
  exact congrArg (fun R => ((dvR X3 X1 X2 ⟨q.val / 128, by omega⟩ R ⟨q.val % 128, by omega⟩ : ℝ) : EReal)) (Nat.add_comm 240 l.val)

include hm0 hm1 hm3 in
/-- The third result. -/
theorem tail6 (g : Fin 4) (b : Fin 128) :
    (Pipeline.afterTail₀ cfgs (dats m) 0 (V0 m) [hostOps1] c main_v6 : FVec Ideal S4x128 .f32) (ix2 g b) = ((dsR X0 X3 X1 g b : ℝ) : EReal) := by
  have e : Pipeline.afterTail₀ cfgs (dats m) 0 (V0 m) [hostOps1] c main_v6
      = shapeCast S4x128 ((dats m 0 c).arrAt 6 cfg0.N : FVec Ideal S4x1x128 .f32) shapeCasts_S4x1x128_S4x128 :=
    (lines6 (Pipeline.withArrays spec0 c (V0 m c) fun w => (dats m 0 c).arrAt w cfg0.N)).trans
      (congrArg (fun x : FVec Ideal S4x1x128 .f32 => shapeCast S4x128 x shapeCasts_S4x1x128_S4x128)
        (Pipeline.withArrays_arr spec0 arrays_inj c (V0 m c) (fun w => (dats m 0 c).arrAt w cfg0.N) 6))
  rw [e, final6 m c X0 X3 X1 hm0 hm1 hm3]
  pointwise []

end Cert.KernelIdeal.Pool

end
-- ==== Proof.PoolCum.lean ====
/- The running sums of the reference over finite arrays, read as sums of reals. -/
module

public import proofs.«01_k».proof.Proof.Gen.ReferenceIdeal
public import proofs.«01_k».proof.Proof.PoolWin

@[expose] public section

set_option maxRecDepth 16384

noncomputable section

namespace Cert.ReferenceIdeal.Pool

open Idealize.ShloMosaic Idealize.ShloMosaic.TcCoe Idealize.SL.Sem
open Cert.ReferenceIdeal Cert.ReferenceIdeal.Gen
open Cert.KernelIdeal.Pool (coe_sum)

/-- A left fold of additions is the sum over its list. -/
theorem fold_add {N : ℕ} (t : Fin N → EReal) (v : EReal) :
    (List.finRange N).foldl (fun r n => r + t n) v = v + ∑ n, t n := by
  have key : ∀ (l : List (Fin N)) (v : EReal), l.foldl (fun r n => r + t n) v = v + (l.map t).sum := by
    intro l
    induction l with
    | nil => intro v; simp
    | cons a l ih => intro v; rw [List.foldl_cons, ih, List.map_cons, List.sum_cons, add_assoc]
  rw [key, ← Fin.sum_univ_def]

/-- A windowed sum over the extended reals at an index: the initial value and the sum over the window's positions. -/
theorem window_sum {s t u : Shape} (window strides lo hi : Fin s.rank → Nat) (x : FVec Ideal s .f32) (z : FVec Ideal u .f32)
    (h : s.ReduceWindows window strides lo hi t) (hu : 0 < u.numel) (j : t.Idx) :
    Host.reduceWindowAdd window strides lo hi x z h hu j
      = (z (Shape.Idx.first hu) : EReal) + ∑ n : Fin (⟨s.rank, window⟩ : Shape).numel,
        (if hin : ∀ a, lo a ≤ (j (a.cast h.1.symm)).val * strides a + ((⟨s.rank, window⟩ : Shape).rowMajor.symm n a).val
            ∧ (j (a.cast h.1.symm)).val * strides a + ((⟨s.rank, window⟩ : Shape).rowMajor.symm n a).val - lo a < s.size a
          then (x (fun a => ⟨(j (a.cast h.1.symm)).val * strides a + ((⟨s.rank, window⟩ : Shape).rowMajor.symm n a).val - lo a, (hin a).2⟩) : EReal)
          else z (Shape.Idx.first hu)) := by
  unfold Host.reduceWindowAdd
  simp only [FloatOps.hostReduceWindowAdd, Ideal.hostReduceWindowAdd, Host.reduceWindow]
  exact fold_add _ _

/-- A window position of a column of extent 4112 is its first coordinate. -/
theorem win_pos (n : Fin (⟨3, ![4112, 1, 1]⟩ : Shape).numel) :
    (((⟨3, ![4112, 1, 1]⟩ : Shape).rowMajor.symm n) 0).val = n.val
      ∧ (((⟨3, ![4112, 1, 1]⟩ : Shape).rowMajor.symm n) 1).val = 0 ∧ (((⟨3, ![4112, 1, 1]⟩ : Shape).rowMajor.symm n) 2).val = 0 := by
  have h := Shape.rowMajor_val_three (((⟨3, ![4112, 1, 1]⟩ : Shape).rowMajor.symm n))
  rw [Equiv.apply_symm_apply] at h
  have h1 : (((⟨3, ![4112, 1, 1]⟩ : Shape).rowMajor.symm n) 1).val < 1 := (((⟨3, ![4112, 1, 1]⟩ : Shape).rowMajor.symm n) 1).isLt
  have h2 : (((⟨3, ![4112, 1, 1]⟩ : Shape).rowMajor.symm n) 2).val < 1 := (((⟨3, ![4112, 1, 1]⟩ : Shape).rowMajor.symm n) 2).isLt
  have h' : n.val = ((((⟨3, ![4112, 1, 1]⟩ : Shape).rowMajor.symm n) 0).val * 1 + (((⟨3, ![4112, 1, 1]⟩ : Shape).rowMajor.symm n) 1).val) * 1
    + (((⟨3, ![4112, 1, 1]⟩ : Shape).rowMajor.symm n) 2).val := h
  omega

theorem numel_win : (⟨3, ![4112, 1, 1]⟩ : Shape).numel = 4112 := by decide

/-- A sum over the window's positions is a sum over the first 4112 naturals. -/
theorem numel_cong (t : ℕ → ℝ) : ∑ n : Fin (⟨3, ![4112, 1, 1]⟩ : Shape).numel, t n.val = ∑ n ∈ Finset.range 4112, t n := by
  rw [Fin.sum_univ_eq_sum_range, numel_win]

variable (y : FVec Ideal S4112x4x128 .f32) (z : FVec Ideal S_ .f32) (hz : ∀ j, z j = 0) (f : ℕ → ℝ) (l : Fin 4112) (g : Fin 4) (c : Fin 128)
  (hy : ∀ r : Fin 4112, y (ix3 r g c) = ((f r.val : ℝ) : EReal))

include hz hy in
/-- The sum from the start up to row `l`. -/
theorem cum_apply (h : S4112x4x128.ReduceWindows ![4112, 1, 1] ![1, 1, 1] ![4111, 0, 0] ![0, 0, 0] S4112x4x128) (hu : 0 < S_.numel) :
    Host.reduceWindowAdd ![4112, 1, 1] ![1, 1, 1] ![4111, 0, 0] ![0, 0, 0] y z h hu (ix3 l g c)
      = ((∑ r ∈ Finset.range (l.val + 1), f r : ℝ) : EReal) := by
  have e : Host.reduceWindowAdd ![4112, 1, 1] ![1, 1, 1] ![4111, 0, 0] ![0, 0, 0] y z h hu (ix3 l g c)
      = z (Shape.Idx.first hu) + ∑ n : Fin (⟨3, ![4112, 1, 1]⟩ : Shape).numel, (((if 4111 ≤ l.val + n.val then f (l.val + n.val - 4111) else 0 : ℝ)) : EReal) := by
    refine (window_sum _ _ _ _ y z h hu _).trans (congrArg (_ + ·) (Finset.sum_congr rfl fun n _ => ?_))
    obtain ⟨p0, p1, p2⟩ := win_pos n
    replace p0 : (((⟨S4112x4x128.rank, ![4112, 1, 1]⟩ : Shape).rowMajor.symm n) (0 : Fin 3)).val = n.val := p0
    replace p1 : (((⟨S4112x4x128.rank, ![4112, 1, 1]⟩ : Shape).rowMajor.symm n) (1 : Fin 3)).val = 0 := p1
    replace p2 : (((⟨S4112x4x128.rank, ![4112, 1, 1]⟩ : Shape).rowMajor.symm n) (2 : Fin 3)).val = 0 := p2
    have hn : n.val < 4112 := lt_of_lt_of_eq n.isLt numel_win
    by_cases hc : 4111 ≤ l.val + n.val
    · rw [if_pos hc, dif_pos fun a => by
        match a with
        | ⟨0, _⟩ =>
          show 4111 ≤ l.val * 1 + (((⟨S4112x4x128.rank, ![4112, 1, 1]⟩ : Shape).rowMajor.symm n) (0 : Fin 3)).val ∧ l.val * 1 + (((⟨S4112x4x128.rank, ![4112, 1, 1]⟩ : Shape).rowMajor.symm n) (0 : Fin 3)).val - 4111 < 4112
          rw [p0]; omega
        | ⟨1, _⟩ =>
          show 0 ≤ g.val * 1 + (((⟨S4112x4x128.rank, ![4112, 1, 1]⟩ : Shape).rowMajor.symm n) (1 : Fin 3)).val ∧ g.val * 1 + (((⟨S4112x4x128.rank, ![4112, 1, 1]⟩ : Shape).rowMajor.symm n) (1 : Fin 3)).val - 0 < 4
          rw [p1]; omega
        | ⟨2, _⟩ =>
          show 0 ≤ c.val * 1 + (((⟨S4112x4x128.rank, ![4112, 1, 1]⟩ : Shape).rowMajor.symm n) (2 : Fin 3)).val ∧ c.val * 1 + (((⟨S4112x4x128.rank, ![4112, 1, 1]⟩ : Shape).rowMajor.symm n) (2 : Fin 3)).val - 0 < 128
          rw [p2]; omega]
      refine (congrArg y (funext fun a => Fin.ext ?_)).trans (hy ⟨l.val + n.val - 4111, by omega⟩)
      match a with
      | ⟨0, _⟩ =>
        show l.val * 1 + (((⟨S4112x4x128.rank, ![4112, 1, 1]⟩ : Shape).rowMajor.symm n) (0 : Fin 3)).val - 4111 = l.val + n.val - 4111
        rw [p0]; omega
      | ⟨1, _⟩ =>
        show g.val * 1 + (((⟨S4112x4x128.rank, ![4112, 1, 1]⟩ : Shape).rowMajor.symm n) (1 : Fin 3)).val - 0 = g.val
        rw [p1]; omega
      | ⟨2, _⟩ =>
        show c.val * 1 + (((⟨S4112x4x128.rank, ![4112, 1, 1]⟩ : Shape).rowMajor.symm n) (2 : Fin 3)).val - 0 = c.val
        rw [p2]; omega
    · rw [if_neg hc, dif_neg fun hin => hc (by
        have : 4111 ≤ l.val * 1 + (((⟨S4112x4x128.rank, ![4112, 1, 1]⟩ : Shape).rowMajor.symm n) (0 : Fin 3)).val := (hin (0 : Fin 3)).1
        rw [p0] at this; omega), hz, EReal.coe_zero]
  rw [e, hz, zero_add, ← coe_sum]
  refine congrArg (fun r : ℝ => (r : EReal)) ?_
  rw [numel_cong fun n => if 4111 ≤ l.val + n then f (l.val + n - 4111) else 0,
    show Finset.range 4112 = Finset.range ((4111 - l.val) + (l.val + 1)) from congrArg _ (by omega), Finset.sum_range_add,
    Finset.sum_eq_zero fun n hn => if_neg (by have := Finset.mem_range.mp hn; omega), zero_add]
  refine Finset.sum_congr rfl fun n hn => ?_
  rw [if_pos (by omega)]
  exact congrArg f (by omega)

include hz hy in
/-- The sum from row `l` to the end. -/
theorem rcum_apply (h : S4112x4x128.ReduceWindows ![4112, 1, 1] ![1, 1, 1] ![0, 0, 0] ![4111, 0, 0] S4112x4x128) (hu : 0 < S_.numel) :
    Host.reduceWindowAdd ![4112, 1, 1] ![1, 1, 1] ![0, 0, 0] ![4111, 0, 0] y z h hu (ix3 l g c)
      = ((∑ n ∈ Finset.range 4112, if l.val + n < 4112 then f (l.val + n) else 0 : ℝ) : EReal) := by
  have e : Host.reduceWindowAdd ![4112, 1, 1] ![1, 1, 1] ![0, 0, 0] ![4111, 0, 0] y z h hu (ix3 l g c)
      = z (Shape.Idx.first hu) + ∑ n : Fin (⟨3, ![4112, 1, 1]⟩ : Shape).numel, (((if l.val + n.val < 4112 then f (l.val + n.val) else 0 : ℝ)) : EReal) := by
    refine (window_sum _ _ _ _ y z h hu _).trans (congrArg (_ + ·) (Finset.sum_congr rfl fun n _ => ?_))
    obtain ⟨p0, p1, p2⟩ := win_pos n
    replace p0 : (((⟨S4112x4x128.rank, ![4112, 1, 1]⟩ : Shape).rowMajor.symm n) (0 : Fin 3)).val = n.val := p0
    replace p1 : (((⟨S4112x4x128.rank, ![4112, 1, 1]⟩ : Shape).rowMajor.symm n) (1 : Fin 3)).val = 0 := p1
    replace p2 : (((⟨S4112x4x128.rank, ![4112, 1, 1]⟩ : Shape).rowMajor.symm n) (2 : Fin 3)).val = 0 := p2
    have hn : n.val < 4112 := lt_of_lt_of_eq n.isLt numel_win
    by_cases hc : l.val + n.val < 4112
    · rw [if_pos hc, dif_pos fun a => by
        match a with
        | ⟨0, _⟩ =>
          show 0 ≤ l.val * 1 + (((⟨S4112x4x128.rank, ![4112, 1, 1]⟩ : Shape).rowMajor.symm n) (0 : Fin 3)).val ∧ l.val * 1 + (((⟨S4112x4x128.rank, ![4112, 1, 1]⟩ : Shape).rowMajor.symm n) (0 : Fin 3)).val - 0 < 4112
          rw [p0]; omega
        | ⟨1, _⟩ =>
          show 0 ≤ g.val * 1 + (((⟨S4112x4x128.rank, ![4112, 1, 1]⟩ : Shape).rowMajor.symm n) (1 : Fin 3)).val ∧ g.val * 1 + (((⟨S4112x4x128.rank, ![4112, 1, 1]⟩ : Shape).rowMajor.symm n) (1 : Fin 3)).val - 0 < 4
          rw [p1]; omega
        | ⟨2, _⟩ =>
          show 0 ≤ c.val * 1 + (((⟨S4112x4x128.rank, ![4112, 1, 1]⟩ : Shape).rowMajor.symm n) (2 : Fin 3)).val ∧ c.val * 1 + (((⟨S4112x4x128.rank, ![4112, 1, 1]⟩ : Shape).rowMajor.symm n) (2 : Fin 3)).val - 0 < 128
          rw [p2]; omega]
      refine (congrArg y (funext fun a => Fin.ext ?_)).trans (hy ⟨l.val + n.val, hc⟩)
      match a with
      | ⟨0, _⟩ =>
        show l.val * 1 + (((⟨S4112x4x128.rank, ![4112, 1, 1]⟩ : Shape).rowMajor.symm n) (0 : Fin 3)).val - 0 = l.val + n.val
        rw [p0]; omega
      | ⟨1, _⟩ =>
        show g.val * 1 + (((⟨S4112x4x128.rank, ![4112, 1, 1]⟩ : Shape).rowMajor.symm n) (1 : Fin 3)).val - 0 = g.val
        rw [p1]; omega
      | ⟨2, _⟩ =>
        show c.val * 1 + (((⟨S4112x4x128.rank, ![4112, 1, 1]⟩ : Shape).rowMajor.symm n) (2 : Fin 3)).val - 0 = c.val
        rw [p2]; omega
    · rw [if_neg hc, dif_neg fun hin => hc (by
        have : l.val * 1 + (((⟨S4112x4x128.rank, ![4112, 1, 1]⟩ : Shape).rowMajor.symm n) (0 : Fin 3)).val - 0 < 4112 := (hin (0 : Fin 3)).2
        rw [p0] at this; omega), hz, EReal.coe_zero]
  rw [e, hz, zero_add, ← coe_sum]
  exact congrArg (fun r : ℝ => (r : EReal)) <| numel_cong fun n => if l.val + n < 4112 then f (l.val + n) else 0

end Cert.ReferenceIdeal.Pool

end
-- ==== Proof.PoolRef.lean ====
/- The reference's pooled values and gradients over finite arguments, read as sums of reals. -/
module

public import proofs.«01_k».proof.Proof.Gen.ReferenceIdeal.Read
public import proofs.«01_k».proof.Proof.PoolCum

@[expose] public section

set_option maxRecDepth 16384

noncomputable section

namespace Cert.ReferenceIdeal.Pool

open Idealize.ShloMosaic Idealize.ShloMosaic.TcCoe Idealize.SL.Sem
open Cert.ReferenceIdeal Cert.ReferenceIdeal.Gen Cert.ReferenceIdeal.Read
open Cert.KernelIdeal.Pool (coe_sum win)

/-- Column `a` of group `g` of an array as a function of the row, zero past its last row. -/
def col (X : S4112x512.Idx → ℝ) (g : Fin 4) (a : Fin 128) (l : ℕ) : ℝ :=
  if h : l < 4112 then X (ix2 ⟨l, h⟩ ⟨128 * g.val + a.val, by omega⟩) else 0

/-- The reciprocal of the number of rows averaged at row `l`. -/
def rc (g : Fin 4) (l : ℕ) : ℝ := 1 / ((min (l + 1) (win g) : ℕ) : ℝ)

/-- The pooled value: the mean of the last rows less the row itself. -/
def pooled (X : S4112x512.Idx → ℝ) (g : Fin 4) (a : Fin 128) (l : ℕ) : ℝ :=
  (∑ d ∈ Finset.range (win g), if d ≤ l then col X g a (l - d) else 0) * rc g l - col X g a l

/-- The pooled value's gradient. -/
def dpool (X3 : S4112x512.Idx → ℝ) (X1 : S4x128x128.Idx → ℝ) (X2 : S4x128.Idx → ℝ) (g : Fin 4) (a : Fin 128) (l : ℕ) : ℝ :=
  ∑ d, col X3 g d l * X2 (ix2 g d) * X1 (ix3 g a d)

/-- A difference of two prefix sums is a window's sum. -/
theorem prefix_sub (f : ℕ → ℝ) (w l : ℕ) :
    (∑ r ∈ Finset.range (l + 1), f r) - (if l < w then 0 else ∑ r ∈ Finset.range (l - w + 1), f r)
      = ∑ d ∈ Finset.range w, if d ≤ l then f (l - d) else 0 := by
  by_cases h : l < w
  · rw [if_pos h, sub_zero, show Finset.range w = Finset.range ((l + 1) + (w - (l + 1))) from congrArg _ (by omega),
      Finset.sum_range_add (fun d => if d ≤ l then f (l - d) else 0),
      Finset.sum_eq_zero (s := Finset.range (w - (l + 1))) (fun x _ => if_neg (by omega)), add_zero, ← Finset.sum_range_reflect f (l + 1)]
    refine Finset.sum_congr rfl fun d hd => ?_
    have := Finset.mem_range.mp hd
    rw [if_pos (by omega)]
    exact congrArg f (by omega)
  · rw [if_neg h, show Finset.range (l + 1) = Finset.range ((l - w + 1) + w) from congrArg _ (by omega), Finset.sum_range_add, add_sub_cancel_left,
      ← Finset.sum_range_reflect (fun x => f (l - w + 1 + x)) w]
    refine Finset.sum_congr rfl fun d hd => ?_
    have := Finset.mem_range.mp hd
    rw [if_pos (by omega)]
    exact congrArg f (by omega)

/-- A sum of differences `w` apart keeps its first `w` terms. -/
theorem telescope (f : ℕ → ℝ) (w l N : ℕ) (hf : ∀ r, l + N ≤ r → f r = 0) :
    ∑ n ∈ Finset.range N, (f (l + n) - f (l + n + w)) = ∑ e ∈ Finset.range w, f (l + e) := by
  have h1 := Finset.sum_range_add (fun n => f (l + n)) w N
  have h2 := Finset.sum_range_add (fun n => f (l + n)) N w
  rw [Finset.sum_eq_zero (s := Finset.range w) (f := fun x => f (l + (N + x))) (fun x _ => hf _ (by omega)), add_zero, Nat.add_comm N w] at h2
  rw [Finset.sum_sub_distrib, sub_eq_iff_eq_add, ← h2, h1]
  refine congrArg _ (Finset.sum_congr rfl fun n _ => congrArg f (by omega))

/-- Dividing by the count is multiplying by its reciprocal. -/
theorem div_rc (x : ℝ) (g : Fin 4) (w : ℕ) (hw : win g = w) (l : ℕ) :
    Ideal.div ((x : ℝ) : EReal) (min (((l : ℝ) + 1 : ℝ) : EReal) ((w : ℝ) : EReal)) = ((x * rc g l : ℝ) : EReal) := by
  have hp : 0 < min (l + 1) w := by
    have : 0 < win g := Nat.pos_of_ne_zero (by unfold win; positivity)
    omega
  have e : min (((l : ℝ) + 1 : ℝ) : EReal) ((w : ℝ) : EReal) = (((min (l + 1) w : ℕ) : ℝ) : EReal) := by
    rw [← EReal.coe_strictMono.monotone.map_min]
    push_cast
    rfl
  rw [e, Ideal.div_coe (by positivity), ← EReal.coe_mul]
  unfold rc
  rw [hw]

variable (x0 x3 : FVec Ideal S4112x512 .f32) (x1 : FVec Ideal S4x128x128 .f32) (x2 : FVec Ideal S4x128 .f32)
variable (X0 X3 : S4112x512.Idx → ℝ) (X1 : S4x128x128.Idx → ℝ) (X2 : S4x128.Idx → ℝ)
variable (hm0 : ∀ j, x0 j = ((X0 j : ℝ) : EReal)) (hm1 : ∀ j, x1 j = ((X1 j : ℝ) : EReal))
variable (hm2 : ∀ j, x2 j = ((X2 j : ℝ) : EReal)) (hm3 : ∀ j, x3 j = ((X3 j : ℝ) : EReal))

include hm0 in
theorem r0 (l : Fin 4112) (g : Fin 4) (a : Fin 128) : val_main_v0 (F := Ideal) x0 (ix3 l g a) = ((col X0 g a l.val : ℝ) : EReal) := by
  pointwise [val_main_v0]
  rw [hm0]
  unfold col
  rw [dif_pos l.isLt]
  exact congrArg (fun q => ((X0 (ix2 l q) : ℝ) : EReal)) (Fin.ext (by show g.val * 128 + a.val = 128 * g.val + a.val; omega))

include hm3 in
theorem r76 (l : Fin 4112) (g : Fin 4) (a : Fin 128) : val_main_v76 (F := Ideal) x3 (ix3 l g a) = ((col X3 g a l.val : ℝ) : EReal) :=
  r0 x3 X3 hm3 l g a

include hm0 in
theorem r1 (l : Fin 4112) (g : Fin 4) (a : Fin 128) :
    val_main_v1 (F := Ideal) x0 (ix3 l g a) = ((∑ r ∈ Finset.range (l.val + 1), col X0 g a r : ℝ) : EReal) :=
  cum_apply _ _ (fun j => by pointwise [val_main_call0_call0_v0, val_main_call0_call0_cst]) (col X0 g a) l g a
    (fun r => r0 x0 X0 hm0 r g a) _ _

theorem r4 (l : Fin 4112) : val_main_v4 (F := Ideal) (ix1 l) = (((l.val : ℝ) + 1 : ℝ) : EReal) := by
  have e : ∀ n : Fin 4112, (BitVec.ofNat 32 n.val).toInt = (n.val : ℤ) := by decide +kernel
  pointwise [val_main_v4, val_main_v3, val_main_cst, val_main_v2]
  show (1 : EReal) + (((BitVec.ofNat 32 l.val).toInt : ℝ) : EReal) = _
  rw [e, Int.cast_natCast, add_comm, EReal.coe_add, EReal.coe_one]

theorem two : Ideal.ofBits .f32 0x40000000#32 = (((2 : ℕ) : ℝ) : EReal) := by
  rw [show (((2 : ℕ) : ℝ)) = (2 : ℝ) from by norm_num]
  simp [Ideal.ofBits, Ideal.ieee, -EReal.coe_mul]
  norm_num
theorem four : Ideal.ofBits .f32 0x40800000#32 = (((4 : ℕ) : ℝ) : EReal) := by
  rw [show (((4 : ℕ) : ℝ)) = (4 : ℝ) from by norm_num]
  simp [Ideal.ofBits, Ideal.ieee, -EReal.coe_mul]
  norm_num
theorem eight : Ideal.ofBits .f32 0x41000000#32 = (((8 : ℕ) : ℝ) : EReal) := by
  rw [show (((8 : ℕ) : ℝ)) = (8 : ℝ) from by norm_num]
  simp [Ideal.ofBits, Ideal.ieee, -EReal.coe_mul]
  norm_num
theorem sixteen : Ideal.ofBits .f32 0x41800000#32 = (((16 : ℕ) : ℝ) : EReal) := by
  rw [show (((16 : ℕ) : ℝ)) = (16 : ℝ) from by norm_num]
  simp [Ideal.ofBits, Ideal.ieee, -EReal.coe_mul]
  norm_num

/-- The pooled value from the two prefix sums. -/
theorem pool_close (g : Fin 4) (w : ℕ) (hw : win g = w) (l : ℕ) (f : ℕ → ℝ) (B : EReal)
    (hB : B = ((if l < w then 0 else ∑ r ∈ Finset.range (l - w + 1), f r : ℝ) : EReal)) :
    Ideal.div (((∑ r ∈ Finset.range (l + 1), f r : ℝ) : EReal) - B) (min (((l : ℝ) + 1 : ℝ) : EReal) ((w : ℝ) : EReal)) - ((f l : ℝ) : EReal)
      = (((∑ d ∈ Finset.range (win g), if d ≤ l then f (l - d) else 0) * rc g l - f l : ℝ) : EReal) := by
  rw [hB, ← EReal.coe_sub, div_rc _ g w hw, ← EReal.coe_sub, prefix_sub, hw]

include hm0 in
theorem r19 (l : Fin 4112) (a : Fin 128) : val_main_v19 (F := Ideal) x0 (ix2 l a) = ((pooled X0 0 a l.val : ℝ) : EReal) := by
  pointwise [val_main_v19, val_main_v18, val_main_v17, val_main_v16, val_main_v15, val_main_v14, val_main_v13, val_main_v12, val_main_v11, val_main_v10, val_main_v9, val_main_v8, val_main_v7, val_main_v6, val_main_v5, val_main_cst_0, val_main_cst_1, val_main_cst_2]
  rw [r0 x0 X0 hm0, r4, r1 x0 X0 hm0, two]
  refine pool_close 0 2 (by decide) l.val (col X0 0 a) _ ?_
  by_cases h : l.val < 2
  · rw [dif_pos h, if_pos h, EReal.coe_zero]
  · rw [dif_neg h, if_neg h, r1 x0 X0 hm0]

include hm0 in
theorem r34 (l : Fin 4112) (a : Fin 128) : val_main_v34 (F := Ideal) x0 (ix2 l a) = ((pooled X0 1 a l.val : ℝ) : EReal) := by
  pointwise [val_main_v34, val_main_v33, val_main_v32, val_main_v31, val_main_v30, val_main_v29, val_main_v28, val_main_v27, val_main_v26, val_main_v25, val_main_v24, val_main_v23, val_main_v22, val_main_v21, val_main_v20, val_main_cst_3, val_main_cst_4, val_main_cst_5]
  rw [r0 x0 X0 hm0, r4, r1 x0 X0 hm0, four]
  refine pool_close 1 4 (by decide) l.val (col X0 1 a) _ ?_
  by_cases h : l.val < 4
  · rw [dif_pos h, if_pos h, EReal.coe_zero]
  · rw [dif_neg h, if_neg h, r1 x0 X0 hm0]

include hm0 in
theorem r49 (l : Fin 4112) (a : Fin 128) : val_main_v49 (F := Ideal) x0 (ix2 l a) = ((pooled X0 2 a l.val : ℝ) : EReal) := by
  pointwise [val_main_v49, val_main_v48, val_main_v47, val_main_v46, val_main_v45, val_main_v44, val_main_v43, val_main_v42, val_main_v41, val_main_v40, val_main_v39, val_main_v38, val_main_v37, val_main_v36, val_main_v35, val_main_cst_6, val_main_cst_7, val_main_cst_8]
  rw [r0 x0 X0 hm0, r4, r1 x0 X0 hm0, eight]
  refine pool_close 2 8 (by decide) l.val (col X0 2 a) _ ?_
  by_cases h : l.val < 8
  · rw [dif_pos h, if_pos h, EReal.coe_zero]
  · rw [dif_neg h, if_neg h, r1 x0 X0 hm0]

include hm0 in
theorem r64 (l : Fin 4112) (a : Fin 128) : val_main_v64 (F := Ideal) x0 (ix2 l a) = ((pooled X0 3 a l.val : ℝ) : EReal) := by
  pointwise [val_main_v64, val_main_v63, val_main_v62, val_main_v61, val_main_v60, val_main_v59, val_main_v58, val_main_v57, val_main_v56, val_main_v55, val_main_v54, val_main_v53, val_main_v52, val_main_v51, val_main_v50, val_main_cst_9, val_main_cst_10, val_main_cst_11]
  rw [r0 x0 X0 hm0, r4, r1 x0 X0 hm0, sixteen]
  refine pool_close 3 16 (by decide) l.val (col X0 3 a) _ ?_
  by_cases h : l.val < 16
  · rw [dif_pos h, if_pos h, EReal.coe_zero]
  · rw [dif_neg h, if_neg h, r1 x0 X0 hm0]

include hm0 in
theorem r69 (l : Fin 4112) (g : Fin 4) (a : Fin 128) : val_main_v69 (F := Ideal) x0 (ix3 l g a) = ((pooled X0 g a l.val : ℝ) : EReal) := by
  match g with
  | 0 => pointwise [val_main_v69, val_main_v65]; exact r19 x0 X0 hm0 l a
  | 1 => pointwise [val_main_v69, val_main_v66]; exact r34 x0 X0 hm0 l a
  | 2 => pointwise [val_main_v69, val_main_v67]; exact r49 x0 X0 hm0 l a
  | 3 => pointwise [val_main_v69, val_main_v68]; exact r64 x0 X0 hm0 l a

include hm0 hm1 hm3 in
/-- The scale's gradient. -/
theorem r82 (g : Fin 4) (d : Fin 128) : val_main_v82 (F := Ideal) x0 x1 x3 (ix2 g d)
    = ((∑ l : Fin 4112, (∑ a, X1 (ix3 g a d) * pooled X0 g a l.val) * col X3 g d l.val : ℝ) : EReal) := by
  pointwise [val_main_v82, val_main_v79, val_main_v78, val_main_v77, val_main_v71, val_main_v70, val_main_cst_12, val_main_cst_13]
  rw [Finset.sum_const, Finset.card_univ, Fintype.card_fin, one_nsmul, coe_sum]
  refine Finset.sum_congr rfl fun l _ => ?_
  rw [r76 x3 X3 hm3, EReal.coe_mul, coe_sum]
  refine congrArg (· * _) (Finset.sum_congr rfl fun a _ => ?_)
  rw [hm1, r69 x0 X0 hm0, EReal.coe_mul]

include hm2 hm3 in
theorem r83 (g : Fin 4) (d : Fin 128) (l : Fin 4112) : val_main_v83 (F := Ideal) x2 x3 (ix3 g d l) = ((col X3 g d l.val * X2 (ix2 g d) : ℝ) : EReal) := by
  pointwise [val_main_v83, val_main_v81, val_main_v80, val_main_v72]
  rw [r76 x3 X3 hm3, hm2, EReal.coe_mul]

include hm0 hm2 hm3 in
/-- The weight's gradient. -/
theorem r87 (g : Fin 4) (a d : Fin 128) : val_main_v87 (F := Ideal) x0 x2 x3 (ix3 g a d)
    = ((∑ l : Fin 4112, (col X3 g d l.val * X2 (ix2 g d)) * pooled X0 g a l.val : ℝ) : EReal) := by
  pointwise [val_main_v87, val_main_v86]
  rw [coe_sum]
  refine Finset.sum_congr rfl fun l _ => ?_
  rw [r83 x3 x2 X3 X2 hm2 hm3, r69 x0 X0 hm0, ← EReal.coe_mul]

include hm1 hm2 hm3 in
theorem r85 (l : Fin 4112) (g : Fin 4) (a : Fin 128) : val_main_v85 (F := Ideal) x1 x2 x3 (ix3 l g a) = ((dpool X3 X1 X2 g a l.val : ℝ) : EReal) := by
  pointwise [val_main_v85, val_main_v84]
  unfold dpool
  rw [coe_sum]
  refine Finset.sum_congr rfl fun d _ => ?_
  rw [r83 x3 x2 X3 X2 hm2 hm3, hm1, ← EReal.coe_mul]

/-- The pooled value's gradient over the count, zero past the last row. -/
def gam (X3 : S4112x512.Idx → ℝ) (X1 : S4x128x128.Idx → ℝ) (X2 : S4x128.Idx → ℝ) (g : Fin 4) (a : Fin 128) (l : ℕ) : ℝ :=
  if l < 4112 then dpool X3 X1 X2 g a l * rc g l else 0

include hm1 hm2 hm3 in
theorem r95 (l : Fin 4112) (a : Fin 128) : val_main_v95 (F := Ideal) x1 x2 x3 (ix2 l a) = ((dpool X3 X1 X2 3 a l.val : ℝ) : EReal) := by
  pointwise [val_main_v95, val_main_v94]
  exact r85 x3 x1 x2 X3 X1 X2 hm1 hm2 hm3 l 3 a

include hm1 hm2 hm3 in
theorem r100 (l : Fin 4112) (a : Fin 128) : val_main_v100 (F := Ideal) x1 x2 x3 (ix2 l a) = ((gam X3 X1 X2 3 a l.val : ℝ) : EReal) := by
  pointwise [val_main_v100, val_main_v99, val_main_v60, val_main_v59, val_main_v58, val_main_v57, val_main_v56, val_main_v55, val_main_cst_11]
  rw [r4, sixteen, r95 x3 x1 x2 X3 X1 X2 hm1 hm2 hm3, div_rc _ 3 16 (by decide)]
  unfold gam
  rw [if_pos l.isLt]

include hm1 hm2 hm3 in
theorem r105 (l : Fin 4112) (a : Fin 128) : val_main_v105 (F := Ideal) x1 x2 x3 (ix2 l a)
    = ((gam X3 X1 X2 3 a l.val - gam X3 X1 X2 3 a (l.val + 16) : ℝ) : EReal) := by
  pointwise [val_main_v105, val_main_v104, val_main_v103, val_main_v101, val_main_cst_15]
  rw [r100 x3 x1 x2 X3 X1 X2 hm1 hm2 hm3, sub_eq_add_neg, EReal.coe_add]
  refine congrArg _ ?_
  by_cases h : l.val < 4096
  · rw [dif_pos h, r100 x3 x1 x2 X3 X1 X2 hm1 hm2 hm3, EReal.coe_neg]
    exact congrArg (fun R => -((gam X3 X1 X2 3 a R : ℝ) : EReal)) (Nat.add_comm 16 l.val)
  · rw [dif_neg h, gam, if_neg (show ¬ l.val + 16 < 4112 by omega), neg_zero, EReal.coe_zero]

include hm1 hm2 hm3 in
theorem r93 (l : Fin 4112) (a : Fin 128) : val_main_v93 (F := Ideal) x1 x2 x3 (ix2 l a) = ((dpool X3 X1 X2 2 a l.val : ℝ) : EReal) := by
  pointwise [val_main_v93, val_main_v92]
  exact r85 x3 x1 x2 X3 X1 X2 hm1 hm2 hm3 l 2 a

include hm1 hm2 hm3 in
theorem r113 (l : Fin 4112) (a : Fin 128) : val_main_v113 (F := Ideal) x1 x2 x3 (ix2 l a) = ((gam X3 X1 X2 2 a l.val : ℝ) : EReal) := by
  pointwise [val_main_v113, val_main_v112, val_main_v45, val_main_v44, val_main_v43, val_main_v42, val_main_v41, val_main_v40, val_main_cst_8]
  rw [r4, eight, r93 x3 x1 x2 X3 X1 X2 hm1 hm2 hm3, div_rc _ 2 8 (by decide)]
  unfold gam
  rw [if_pos l.isLt]

include hm1 hm2 hm3 in
theorem r118 (l : Fin 4112) (a : Fin 128) : val_main_v118 (F := Ideal) x1 x2 x3 (ix2 l a)
    = ((gam X3 X1 X2 2 a l.val - gam X3 X1 X2 2 a (l.val + 8) : ℝ) : EReal) := by
  pointwise [val_main_v118, val_main_v117, val_main_v116, val_main_v114, val_main_cst_18]
  rw [r113 x3 x1 x2 X3 X1 X2 hm1 hm2 hm3, sub_eq_add_neg, EReal.coe_add]
  refine congrArg _ ?_
  by_cases h : l.val < 4104
  · rw [dif_pos h, r113 x3 x1 x2 X3 X1 X2 hm1 hm2 hm3, EReal.coe_neg]
    exact congrArg (fun R => -((gam X3 X1 X2 2 a R : ℝ) : EReal)) (Nat.add_comm 8 l.val)
  · rw [dif_neg h, gam, if_neg (show ¬ l.val + 8 < 4112 by omega), neg_zero, EReal.coe_zero]

include hm1 hm2 hm3 in
theorem r91 (l : Fin 4112) (a : Fin 128) : val_main_v91 (F := Ideal) x1 x2 x3 (ix2 l a) = ((dpool X3 X1 X2 1 a l.val : ℝ) : EReal) := by
  pointwise [val_main_v91, val_main_v90]
  exact r85 x3 x1 x2 X3 X1 X2 hm1 hm2 hm3 l 1 a

include hm1 hm2 hm3 in
theorem r127 (l : Fin 4112) (a : Fin 128) : val_main_v127 (F := Ideal) x1 x2 x3 (ix2 l a) = ((gam X3 X1 X2 1 a l.val : ℝ) : EReal) := by
  pointwise [val_main_v127, val_main_v126, val_main_v30, val_main_v29, val_main_v28, val_main_v27, val_main_v26, val_main_v25, val_main_cst_5]
  rw [r4, four, r91 x3 x1 x2 X3 X1 X2 hm1 hm2 hm3, div_rc _ 1 4 (by decide)]
  unfold gam
  rw [if_pos l.isLt]

include hm1 hm2 hm3 in
theorem r132 (l : Fin 4112) (a : Fin 128) : val_main_v132 (F := Ideal) x1 x2 x3 (ix2 l a)
    = ((gam X3 X1 X2 1 a l.val - gam X3 X1 X2 1 a (l.val + 4) : ℝ) : EReal) := by
  pointwise [val_main_v132, val_main_v131, val_main_v130, val_main_v128, val_main_cst_21]
  rw [r127 x3 x1 x2 X3 X1 X2 hm1 hm2 hm3, sub_eq_add_neg, EReal.coe_add]
  refine congrArg _ ?_
  by_cases h : l.val < 4108
  · rw [dif_pos h, r127 x3 x1 x2 X3 X1 X2 hm1 hm2 hm3, EReal.coe_neg]
    exact congrArg (fun R => -((gam X3 X1 X2 1 a R : ℝ) : EReal)) (Nat.add_comm 4 l.val)
  · rw [dif_neg h, gam, if_neg (show ¬ l.val + 4 < 4112 by omega), neg_zero, EReal.coe_zero]

include hm1 hm2 hm3 in
theorem r89 (l : Fin 4112) (a : Fin 128) : val_main_v89 (F := Ideal) x1 x2 x3 (ix2 l a) = ((dpool X3 X1 X2 0 a l.val : ℝ) : EReal) := by
  pointwise [val_main_v89, val_main_v88]
  exact r85 x3 x1 x2 X3 X1 X2 hm1 hm2 hm3 l 0 a

include hm1 hm2 hm3 in
theorem r141 (l : Fin 4112) (a : Fin 128) : val_main_v141 (F := Ideal) x1 x2 x3 (ix2 l a) = ((gam X3 X1 X2 0 a l.val : ℝ) : EReal) := by
  pointwise [val_main_v141, val_main_v140, val_main_v15, val_main_v14, val_main_v13, val_main_v12, val_main_v11, val_main_v10, val_main_cst_2]
  rw [r4, two, r89 x3 x1 x2 X3 X1 X2 hm1 hm2 hm3, div_rc _ 0 2 (by decide)]
  unfold gam
  rw [if_pos l.isLt]

include hm1 hm2 hm3 in
theorem r146 (l : Fin 4112) (a : Fin 128) : val_main_v146 (F := Ideal) x1 x2 x3 (ix2 l a)
    = ((gam X3 X1 X2 0 a l.val - gam X3 X1 X2 0 a (l.val + 2) : ℝ) : EReal) := by
  pointwise [val_main_v146, val_main_v145, val_main_v144, val_main_v142, val_main_cst_24]
  rw [r141 x3 x1 x2 X3 X1 X2 hm1 hm2 hm3, sub_eq_add_neg, EReal.coe_add]
  refine congrArg _ ?_
  by_cases h : l.val < 4110
  · rw [dif_pos h, r141 x3 x1 x2 X3 X1 X2 hm1 hm2 hm3, EReal.coe_neg]
    exact congrArg (fun R => -((gam X3 X1 X2 0 a R : ℝ) : EReal)) (Nat.add_comm 2 l.val)
  · rw [dif_neg h, gam, if_neg (show ¬ l.val + 2 < 4112 by omega), neg_zero, EReal.coe_zero]

include hm1 hm2 hm3 in
theorem r139 (l : Fin 4112) (g : Fin 4) (a : Fin 128) : val_main_v139 (F := Ideal) x1 x2 x3 (ix3 l g a) = ((- dpool X3 X1 X2 g a l.val : ℝ) : EReal) := by
  match g with
  | 0 =>
    pointwise [val_main_v139, val_main_v138, val_main_v137, val_main_v136, val_main_v125, val_main_v124, val_main_v123, val_main_v122, val_main_v111, val_main_v110, val_main_v109, val_main_v108, val_main_v98, val_main_v97, val_main_v96, val_main_cst_14, val_main_cst_17, val_main_cst_20, val_main_cst_23]
    rw [r89 x3 x1 x2 X3 X1 X2 hm1 hm2 hm3, EReal.coe_neg]
  | 1 =>
    pointwise [val_main_v139, val_main_v138, val_main_v137, val_main_v136, val_main_v125, val_main_v124, val_main_v123, val_main_v122, val_main_v111, val_main_v110, val_main_v109, val_main_v108, val_main_v98, val_main_v97, val_main_v96, val_main_cst_14, val_main_cst_17, val_main_cst_20, val_main_cst_23]
    rw [r91 x3 x1 x2 X3 X1 X2 hm1 hm2 hm3, EReal.coe_neg]
  | 2 =>
    pointwise [val_main_v139, val_main_v138, val_main_v137, val_main_v136, val_main_v125, val_main_v124, val_main_v123, val_main_v122, val_main_v111, val_main_v110, val_main_v109, val_main_v108, val_main_v98, val_main_v97, val_main_v96, val_main_cst_14, val_main_cst_17, val_main_cst_20, val_main_cst_23]
    rw [r93 x3 x1 x2 X3 X1 X2 hm1 hm2 hm3, EReal.coe_neg]
  | 3 =>
    pointwise [val_main_v139, val_main_v138, val_main_v137, val_main_v136, val_main_v125, val_main_v124, val_main_v123, val_main_v122, val_main_v111, val_main_v110, val_main_v109, val_main_v108, val_main_v98, val_main_v97, val_main_v96, val_main_cst_14, val_main_cst_17, val_main_cst_20, val_main_cst_23]
    rw [r95 x3 x1 x2 X3 X1 X2 hm1 hm2 hm3, EReal.coe_neg]

include hm1 hm2 hm3 in
theorem r149 (l : Fin 4112) (g : Fin 4) (a : Fin 128) : val_main_v149 (F := Ideal) x1 x2 x3 (ix3 l g a)
    = ((gam X3 X1 X2 g a l.val - gam X3 X1 X2 g a (l.val + win g) : ℝ) : EReal) := by
  match g with
  | 0 =>
    pointwise [val_main_v149, val_main_v148, val_main_v147, val_main_v135, val_main_v134, val_main_v133, val_main_v121, val_main_v120, val_main_v119, val_main_v107, val_main_v106, val_main_cst_16, val_main_cst_19, val_main_cst_22, val_main_cst_25]
    exact r146 x3 x1 x2 X3 X1 X2 hm1 hm2 hm3 l a
  | 1 =>
    pointwise [val_main_v149, val_main_v148, val_main_v147, val_main_v135, val_main_v134, val_main_v133, val_main_v121, val_main_v120, val_main_v119, val_main_v107, val_main_v106, val_main_cst_16, val_main_cst_19, val_main_cst_22, val_main_cst_25]
    exact r132 x3 x1 x2 X3 X1 X2 hm1 hm2 hm3 l a
  | 2 =>
    pointwise [val_main_v149, val_main_v148, val_main_v147, val_main_v135, val_main_v134, val_main_v133, val_main_v121, val_main_v120, val_main_v119, val_main_v107, val_main_v106, val_main_cst_16, val_main_cst_19, val_main_cst_22, val_main_cst_25]
    exact r118 x3 x1 x2 X3 X1 X2 hm1 hm2 hm3 l a
  | 3 =>
    pointwise [val_main_v149, val_main_v148, val_main_v147, val_main_v135, val_main_v134, val_main_v133, val_main_v121, val_main_v120, val_main_v119, val_main_v107, val_main_v106, val_main_cst_16, val_main_cst_19, val_main_cst_22, val_main_cst_25]
    exact r105 x3 x1 x2 X3 X1 X2 hm1 hm2 hm3 l a

include hm1 hm2 hm3 in
/-- The sum of the differences from a row on is a window's sum. -/
theorem r150 (l : Fin 4112) (g : Fin 4) (a : Fin 128) : val_main_v150 (F := Ideal) x1 x2 x3 (ix3 l g a)
    = ((∑ e ∈ Finset.range (win g), gam X3 X1 X2 g a (l.val + e) : ℝ) : EReal) := by
  have hz : ∀ r, 4112 ≤ r → gam X3 X1 X2 g a r = 0 := fun r hr => if_neg (by omega)
  refine (rcum_apply _ _ (fun j => by pointwise [val_main_call1_call0_v0, val_main_call1_call0_cst])
    (fun r => gam X3 X1 X2 g a r - gam X3 X1 X2 g a (r + win g)) l g a (fun r => r149 x3 x1 x2 X3 X1 X2 hm1 hm2 hm3 r g a) _ _).trans ?_
  refine congrArg (fun r : ℝ => (r : EReal)) ((Finset.sum_congr rfl fun n _ => ?_).trans
    (telescope (gam X3 X1 X2 g a) (win g) l.val 4112 fun r hr => hz r (by omega)))
  by_cases h : l.val + n < 4112
  · rw [if_pos h]
  · rw [if_neg h, hz _ (by omega), hz _ (by omega), sub_zero]

include hm1 hm2 hm3 in
/-- The input's gradient. -/
theorem r152 (l : Fin 4112) (q : Fin 512) : val_main_v152 (F := Ideal) x1 x2 x3 (ix2 l q)
    = ((- dpool X3 X1 X2 ⟨q.val / 128, by omega⟩ ⟨q.val % 128, by omega⟩ l.val
      + ∑ e ∈ Finset.range (win ⟨q.val / 128, by omega⟩), gam X3 X1 X2 ⟨q.val / 128, by omega⟩ ⟨q.val % 128, by omega⟩ (l.val + e) : ℝ) : EReal) := by
  pointwise [val_main_v152, val_main_v151]
  rw [r139 x3 x1 x2 X3 X1 X2 hm1 hm2 hm3, r150 x3 x1 x2 X3 X1 X2 hm1 hm2 hm3, ← EReal.coe_add]

end Cert.ReferenceIdeal.Pool

end
-- ==== Proof.PoolMath.lean ====
/- The kernel's real sums are the reference's. -/
module

public import proofs.«01_k».proof.Proof.PoolArrays
public import proofs.«01_k».proof.Proof.PoolRef

@[expose] public section

set_option maxRecDepth 16384

noncomputable section

namespace Cert.Pool

open Idealize.ShloMosaic Cert.KernelIdeal.Pool Cert.ReferenceIdeal.Pool

variable (X0 X3 : Cert.KernelIdeal.S4112x512.Idx → ℝ) (X1 : Cert.KernelIdeal.S4x128x128.Idx → ℝ) (X2 : Cert.KernelIdeal.S4x128.Idx → ℝ) (g : Fin 4)

theorem rows_low (X : Cert.KernelIdeal.S4112x512.Idx → ℝ) (R : ℕ) (a : Fin 128) (h : R < 240) : rows X g R a = 0 :=
  dif_neg fun h' => by omega

theorem rows_col (X : Cert.KernelIdeal.S4112x512.Idx → ℝ) (l : ℕ) (a : Fin 128) : rows X g (240 + l) a = col X g a l := by
  unfold rows col
  by_cases h : l < 4112
  · rw [dif_pos h, dif_pos ⟨by omega, by omega⟩]
    exact congrArg (fun r => X (ix2 r _)) (Fin.ext (by show 240 + l - 240 = l; omega))
  · rw [dif_neg h, dif_neg (by omega)]

theorem win_pos' : 0 < win g ∧ win g ≤ 16 := by
  revert g
  decide

theorem cnt_rc (l : ℕ) : 1 / (cnt g (240 + l) : ℝ) = rc g l := by
  have h := (win_pos' g).1
  have e : cnt g (240 + l) = min (l + 1) (win g) := by
    unfold cnt
    omega
  rw [e]
  rfl

theorem pK_pooled (l : ℕ) (a : Fin 128) : pK g (rows X0 g) (240 + l) a = pooled X0 g a l := by
  unfold pK pooled
  rw [cnt_rc, rows_col]
  refine congrArg (fun r : ℝ => r * rc g l - col X0 g a l) (Finset.sum_congr rfl fun d hd => ?_)
  have hd' : d < 16 := lt_of_lt_of_le (Finset.mem_range.mp hd) (win_pos' g).2
  unfold padA
  rw [if_neg (by omega)]
  by_cases h : d ≤ l
  · rw [if_pos h, ← rows_col]
    exact congrArg (fun R => rows X0 g R a) (by omega)
  · rw [if_neg h, rows_low g X0 _ a (by omega)]

/-- A sum over the padded rows of terms zero on the padding is a sum over the rows. -/
theorem sum_rows (f : ℕ → ℝ) (hf : ∀ R, R < 240 → f R = 0) : ∑ R ∈ Finset.range (256 * 17), f R = ∑ l : Fin 4112, f (240 + l.val) := by
  rw [show Finset.range (256 * 17) = Finset.range (240 + 4112) from rfl, Finset.sum_range_add,
    Finset.sum_eq_zero fun R hR => hf R (Finset.mem_range.mp hR), zero_add, Finset.sum_range]

/-- The scale's gradient. -/
theorem ds_eq (b : Fin 128) : dsR X0 X3 X1 g b = ∑ l : Fin 4112, (∑ a, X1 (ix3 g a b) * pooled X0 g a l.val) * col X3 g b l.val := by
  unfold dsR
  rw [sum_rows _ fun R hR => by rw [rows_low g X3 R b hR, zero_mul]]
  refine Finset.sum_congr rfl fun l _ => ?_
  rw [rows_col, mul_comm]
  exact congrArg (· * _) (Finset.sum_congr rfl fun a _ => by rw [pK_pooled, mul_comm])

/-- The weight's gradient. -/
theorem dw_eq (a b : Fin 128) : dwR X0 X3 X2 g a b = ∑ l : Fin 4112, (col X3 g b l.val * X2 (ix2 g b)) * pooled X0 g a l.val := by
  unfold dwR
  rw [sum_rows _ fun R hR => by rw [rows_low g X3 R b hR, zero_mul, mul_zero]]
  refine Finset.sum_congr rfl fun l _ => ?_
  rw [rows_col, pK_pooled, mul_comm]

theorem dp_eq (l : ℕ) (a : Fin 128) :
    dpK (rows X3 g) (fun a b => X1 (ix3 g a b)) (fun b => X2 (ix2 g b)) (240 + l) a = dpool X3 X1 X2 g a l :=
  Finset.sum_congr rfl fun d _ => by rw [rows_col]

/-- The input's gradient. -/
theorem dv_eq (l : ℕ) (a : Fin 128) : dvR X3 X1 X2 g (l + 240) a
    = - dpool X3 X1 X2 g a l + ∑ e ∈ Finset.range (win g), gam X3 X1 X2 g a (l + e) := by
  unfold dvR
  rw [Nat.add_comm l 240, dp_eq, zero_sub]
  refine congrArg _ (Finset.sum_congr rfl fun e _ => ?_)
  unfold gK gam
  rw [Nat.add_assoc, dp_eq, cnt_rc]
  exact if_congr (by omega) rfl rfl

end Cert.Pool

end
-- ==== Proof.Transport.lean ====
/- The printed program and the program over the extended reals have the same text: one body, one table of bodies. -/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The two bodies are one. -/
theorem body_same : @Cert.Kernel.cc0_pool_backward F _ _ = @Cert.KernelIdeal.cc0_pool_backward F _ _ := rfl

/-- The two tables of bodies are one. -/
theorem table_same : Cert.Kernel.defs₀ (F := F) = Cert.KernelIdeal.defs₀ (F := F) := by
  unfold Cert.Kernel.defs₀ Cert.KernelIdeal.defs₀
  refine congrArg Defs.onTc ?_
  funext l a
  match l with
  | 0 => obtain ⟨t, s⟩ := a; rfl

/-- The two programs' tables are one. -/
theorem defs_same : Cert.Kernel.defs (F := F) = Cert.KernelIdeal.defs (F := F) :=
  congrArg (Pipeline.defs (Cert.KernelIdeal.pcfgs (F := F))) table_same

/-- The two programs are one. -/
theorem main_same : Cert.Kernel.main (F := F) = Cert.KernelIdeal.main (F := F) := rfl

end Cert.Proof

end
-- ==== Proof.WgradArray.lean ====
/- The feed-forward weight gradients' array after the run: each entry as the sum over all rows. -/
module

public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

namespace Cert.Kernel2Ideal.Wgrad

open Idealize.ShloMosaic Idealize.ShloMosaic.TcCoe Idealize.SL.Sem
open Cert.Kernel2Ideal Cert.Kernel2Ideal.Gen

variable (m : (ℓ : Loc nD τ sig) → Buf (Elt Ideal) ℓ)

/-- The windows' index maps, by the point's tile and half. -/
theorem idx : ∀ t : Fin cfg0.N, t.val < 12 ∧ win0_0.index t = ![t.val / 2, t.val % 2]
    ∧ win0_1.index t = ![if t.val < 8 then t.val % 2 else 0, 0] ∧ win0_2.index t = ![if t.val < 8 then 0 else t.val % 2, 0]
    ∧ win0_3.index t = ![t.val / 2 % 2, t.val / 4, 0, 0] :=
  (by decide +kernel : ∀ t : Fin grid0.N, _)

theorem pay_zero (j : S1408x1024.Idx) : k0_pay1 (F := Ideal) j = 0 := by pointwise [k0_pay1]

theorem pay_two (a : FVec Ideal S1408x1024 .f32) (x : FVec Ideal S1408x2176 .bf16) (y : FVec Ideal S2176x1024 .bf16) (j : S1408x1024.Idx) :
    k0_pay2 a x y j = a j + ∑ k : Fin 2176, x (ix2 (j 0) k) * y (ix2 k (j 1)) := by
  pointwise [k0_pay2]

theorem pay_three (a : FVec Ideal S1408x1024 .f32) (x : FVec Ideal S1408x2176 .bf16) (y : FVec Ideal S2176x1024 .bf16) (j : S1408x1024.Idx) :
    k0_pay3 a x y j = a j + ∑ k : Fin 2176, x (ix2 (j 0) k) * y (ix2 k (j 1)) := by
  pointwise [k0_pay3]

variable (c : Dev nD)

/-- The second factor's block: the first input's rows for the gate and up tiles, the second's for the down tiles. -/
def right (t : Fin cfg0.N) : FVec Ideal S2176x1024 .bf16 := if t.val < 8 then iblk m c 1 t else iblk m c 2 t

/-- The first factor's block. -/
def left (t : Fin cfg0.N) : FVec Ideal S1408x2176 .bf16 := iblk m c 0 t

/-- The product of a row of the first factor's block and a column of the second's. -/
def part (t : Fin cfg0.N) (R : Fin 1408) (d : Fin 1024) : Ideal .f32 := ∑ k : Fin 2176, left m c t (ix2 R k) * right m c t (ix2 k d)

/-- What the first half of a tile's rows leaves in the accumulator. -/
theorem first (t : Fin cfg0.N) (h : t.val % 2 = 0) (j : S1408x1024.Idx) :
    (outsAt0 m c t.val t.isLt).2 j = part m c t (j 0) (j 1) := by
  by_cases h1 : t.val < 8
  · have e : right m c t = iblk m c 1 t := if_pos h1
    rw [outsAt0_A m c t h h1 (by omega) (by omega)]
    frame_out
    rw [pay_two, pay_zero]; unfold part left; rw [e]
    exact zero_add _
  · have e : right m c t = iblk m c 2 t := if_neg h1
    rw [outsAt0_C m c t h h1 (by omega) (by omega)]
    frame_out
    rw [pay_three, pay_zero]; unfold part left; rw [e]
    exact zero_add _

theorem pay_four (v : FVec Ideal S352x1024 .f32) (j : S1x1x352x1024.Idx) :
    (k0_pay4 v j : Ideal .bf16) = v (ix2 (j 2) (j 3)) := by pointwise [k0_pay4]

theorem pay_five (v : FVec Ideal S352x1024 .f32) (j : S1x1x352x1024.Idx) :
    (k0_pay5 v j : Ideal .bf16) = v (ix2 (j 2) (j 3)) := by pointwise [k0_pay5]

theorem pay_six (v : FVec Ideal S352x1024 .f32) (j : S1x1x352x1024.Idx) :
    (k0_pay6 v j : Ideal .bf16) = v (ix2 (j 2) (j 3)) := by pointwise [k0_pay6]

theorem pay_seven (v : FVec Ideal S352x1024 .f32) (j : S1x1x352x1024.Idx) :
    (k0_pay7 v j : Ideal .bf16) = v (ix2 (j 2) (j 3)) := by pointwise [k0_pay7]

/-- A shard's rows of the accumulator, read after the accumulator was written whole. -/
theorem rows_read (T : S1408x1024.Idx → Ideal .f32) (o : ℕ) (inb inb') (i : S352x1024.Idx) (R : Fin 1408) (d : Fin 1024) (hR : R.val = o + (i 0).val)
    (hd : d.val = (i 1).val) :
    (View.whole cc0_scratch0).readCov (Val := Elt Ideal) [⟨Rect.unit (s := S1408x1024) ![0, 0] ![1408, 1024] inb, T⟩]
      (Rect.unit (s := S1408x1024) ![o, 0] ![352, 1024] inb').toLoadRect i = T (ix2 R d) := by
  rw [View.readCov_eq_canon']
  refine (congrFun (View.canon_cons_unit_lit (Val := Elt Ideal) (S := S1408x1024) (e := .f32) inb T [] (fun a => by fin_cases a <;> rfl)) _).trans ?_
  refine congrArg T (funext fun a => Fin.ext ?_)
  fin_cases a
  · show o + 1 * (i 0).val = R.val
    omega
  · show 0 + 1 * (i 1).val = d.val
    omega

/-- The output block's four shards, each written from its rows of the accumulator. -/
theorem tiles_read (T : S1408x1024.Idx → Ideal .f32) (y : S4x1x352x1024.Idx) (R : Fin 1408) (hR : R.val = 352 * (y 0).val + (y 2).val)
    (d : Fin 1024) (hd : d.val = (y 3).val) :
    View.canon (Val := Elt Ideal) (s := S4x1x352x1024) (e := .bf16)
      [⟨Rect.unit (s := S4x1x352x1024) ![3, 0, 0, 0] ![1, 1, 352, 1024] inb_S4x1x352x1024_S1x1x352x1024_3_0_0_0,
          k0_pay7 ((View.whole cc0_scratch0).readCov (Val := Elt Ideal) [⟨Rect.unit (s := S1408x1024) ![0, 0] ![1408, 1024] inb_S1408x1024_S1408x1024_0_0, T⟩]
            (Rect.unit (s := S1408x1024) ![1056, 0] ![352, 1024] inb_S1408x1024_S352x1024_1056_0).toLoadRect)⟩,
        ⟨Rect.unit (s := S4x1x352x1024) ![2, 0, 0, 0] ![1, 1, 352, 1024] inb_S4x1x352x1024_S1x1x352x1024_2_0_0_0,
          k0_pay6 ((View.whole cc0_scratch0).readCov (Val := Elt Ideal) [⟨Rect.unit (s := S1408x1024) ![0, 0] ![1408, 1024] inb_S1408x1024_S1408x1024_0_0, T⟩]
            (Rect.unit (s := S1408x1024) ![704, 0] ![352, 1024] inb_S1408x1024_S352x1024_704_0).toLoadRect)⟩,
        ⟨Rect.unit (s := S4x1x352x1024) ![1, 0, 0, 0] ![1, 1, 352, 1024] inb_S4x1x352x1024_S1x1x352x1024_1_0_0_0,
          k0_pay5 ((View.whole cc0_scratch0).readCov (Val := Elt Ideal) [⟨Rect.unit (s := S1408x1024) ![0, 0] ![1408, 1024] inb_S1408x1024_S1408x1024_0_0, T⟩]
            (Rect.unit (s := S1408x1024) ![352, 0] ![352, 1024] inb_S1408x1024_S352x1024_352_0).toLoadRect)⟩,
        ⟨Rect.unit (s := S4x1x352x1024) ![0, 0, 0, 0] ![1, 1, 352, 1024] inb_S4x1x352x1024_S1x1x352x1024_0_0_0_0,
          k0_pay4 ((View.whole cc0_scratch0).readCov (Val := Elt Ideal) [⟨Rect.unit (s := S1408x1024) ![0, 0] ![1408, 1024] inb_S1408x1024_S1408x1024_0_0, T⟩]
            (Rect.unit (s := S1408x1024) ![0, 0] ![352, 1024] inb_S1408x1024_S352x1024_0_0).toLoadRect)⟩] y = T (ix2 R d) := by
  canon_tiles y hy
  · rw [pay_seven]
    exact rows_read T _ _ _ _ R d (by show R.val = _ + (y 2).val; omega) (by show d.val = (y 3).val; omega)
  · rw [pay_six]
    exact rows_read T _ _ _ _ R d (by show R.val = _ + (y 2).val; omega) (by show d.val = (y 3).val; omega)
  · rw [pay_five]
    exact rows_read T _ _ _ _ R d (by show R.val = _ + (y 2).val; omega) (by show d.val = (y 3).val; omega)
  · rw [pay_four]
    exact rows_read T _ _ _ _ R d (by show R.val = _ + (y 2).val; omega) (by show d.val = (y 3).val; omega)

/-- What the second half leaves in the output block: both halves' sums, row `352 * s + r` of the tile at shard `s`. -/
theorem second (t : Fin cfg0.N) (h : t.val % 2 = 1) (y : S4x1x352x1024.Idx) (R : Fin 1408) (hR : R.val = 352 * (y 0).val + (y 2).val)
    (d : Fin 1024) (hd : d.val = (y 3).val) :
    (outsAt0 m c t.val t.isLt).1 y = part m c ⟨t.val - 1, by omega⟩ R d + part m c t R d := by
  have hf := first m c ⟨t.val - 1, by omega⟩ (by show (t.val - 1) % 2 = 0; omega)
  by_cases h1 : t.val < 8
  · have e : right m c t = iblk m c 1 t := if_pos h1
    rw [outsAt0_B m c t (by omega) h1 (by omega) h]
    frame_out
    refine (tiles_read _ y R hR d hd).trans ?_
    rw [pay_two]
    refine congrArg₂ (· + ·) ((congrFun (Memref.IsWhole.read_unread (m := Memref.whole cc0_scratch0) _ _) (ix2 R d)).trans (hf (ix2 R d))) ?_
    unfold part left
    rw [e]
    rfl
  · have e : right m c t = iblk m c 2 t := if_neg h1
    rw [outsAt0_D m c t (by omega) h1 (by omega) h]
    frame_out
    refine (tiles_read _ y R hR d hd).trans ?_
    rw [pay_three]
    refine congrArg₂ (· + ·) ((congrFun (Memref.IsWhole.read_unread (m := Memref.whole cc0_scratch0) _ _) (ix2 R d)).trans (hf (ix2 R d))) ?_
    unfold part left
    rw [e]
    rfl

/-- The transposed factor of part `p` at a row `r` and one of the part's columns `q`, over the step's arrays. -/
def tall (A1 A2 A3 : FVec Ideal S4352x2816 .f32) (p : Fin 3) (r : Fin 4352) (q : Fin 2816) : Ideal .f32 :=
  if p.val = 0 then A2 (ix2 r q) else if p.val = 1 then A3 (ix2 r q) else A1 (ix2 r q)

/-- The other factor of part `p`. -/
def wide (A0 A4 : FVec Ideal S4352x1024 .f32) (p : Fin 3) (r : Fin 4352) (d : Fin 1024) : Ideal .f32 :=
  if p.val < 2 then A0 (ix2 r d) else A4 (ix2 r d)

/-- The weight gradients: part `p`, unit `352 * s + r` of shard `s`, model coordinate `d`, summed over the rows. -/
def grad (A0 A4 : FVec Ideal S4352x1024 .f32) (A1 A2 A3 : FVec Ideal S4352x2816 .f32) (j : S8x3x352x1024.Idx) : Ideal .bf16 :=
  ∑ r : Fin 4352, tall A1 A2 A3 (j 1) r ⟨352 * (j 0).val + (j 2).val, by have h0 : (j 0).val < 8 := (j 0).isLt; have h2 : (j 2).val < 352 := (j 2).isLt; omega⟩
    * wide A0 A4 (j 1) r (j 3)

theorem V_v2 (C : Fin 8448) (r : Fin 4352) (p : Fin 3) (q : Fin 2816) (h : C.val = 2816 * p.val + q.val) :
    (V m c main_v2 : FVec Ideal S8448x4352 .bf16) (ix2 C r)
      = tall (m ((c : Thread nD τ).loc main_arg1)) (m ((c : Thread nD τ).loc main_arg2)) (m ((c : Thread nD τ).loc main_arg3)) p r q := by
  have e : (V m c main_v2 : FVec Ideal S8448x4352 .bf16) = truncf (F := Ideal) (φ := .f32) .bf16 (transpose S8448x4352 [1, 0] (concatenate S4352x8448 1 [⟨S4352x2816, (m ((c : Thread nD τ).loc main_arg2) : FVec Ideal S4352x2816 .f32)⟩,
      ⟨S4352x2816, (m ((c : Thread nD τ).loc main_arg3) : FVec Ideal S4352x2816 .f32)⟩, ⟨S4352x2816, (m ((c : Thread nD τ).loc main_arg1) : FVec Ideal S4352x2816 .f32)⟩]
      concatenates_S4352x2816_S4352x2816_S4352x2816_S4352x8448_d1) transposes_S4352x8448_S8448x4352_1_0) bitsLt_bf16_f32 := by
    show StableHlo.after hostOps0 _ _ = _
    after_results
    rfl
  rw [e]
  pointwise []
  have hq : q.val < 2816 := q.isLt
  have hp : p.val < 3 := p.isLt
  unfold tall
  by_cases h0 : p.val = 0
  · rw [dif_pos (by omega), if_pos h0]
    exact congrArg (fun x => (m ((c : Thread nD τ).loc main_arg2) : FVec Ideal S4352x2816 .f32) (ix2 r x)) (Fin.ext (by show C.val = q.val; omega))
  · by_cases h1 : p.val = 1
    · rw [dif_neg (by omega), dif_pos (by omega), if_neg h0, if_pos h1]
      exact congrArg (fun x => (m ((c : Thread nD τ).loc main_arg3) : FVec Ideal S4352x2816 .f32) (ix2 r x)) (Fin.ext (by show C.val - 2816 = q.val; omega))
    · rw [dif_neg (by omega), dif_neg (by omega), if_neg h0, if_neg h1]
      exact congrArg (fun x => (m ((c : Thread nD τ).loc main_arg1) : FVec Ideal S4352x2816 .f32) (ix2 r x)) (Fin.ext (by show C.val - 2816 - 2816 = q.val; omega))

theorem V_v3 (r : Fin 4352) (d : Fin 1024) :
    (V m c main_v3 : FVec Ideal S4352x1024 .bf16) (ix2 r d) = (m ((c : Thread nD τ).loc main_arg0) : FVec Ideal S4352x1024 .f32) (ix2 r d) := by
  have e : (V m c main_v3 : FVec Ideal S4352x1024 .bf16) = truncf (F := Ideal) (φ := .f32) .bf16 (m ((c : Thread nD τ).loc main_arg0) : FVec Ideal S4352x1024 .f32) bitsLt_bf16_f32 := by
    show StableHlo.after hostOps0 _ _ = _
    after_results
  rw [e]
  pointwise []

theorem V_v4 (r : Fin 4352) (d : Fin 1024) :
    (V m c main_v4 : FVec Ideal S4352x1024 .bf16) (ix2 r d) = (m ((c : Thread nD τ).loc main_arg4) : FVec Ideal S4352x1024 .f32) (ix2 r d) := by
  have e : (V m c main_v4 : FVec Ideal S4352x1024 .bf16) = truncf (F := Ideal) (φ := .f32) .bf16 (m ((c : Thread nD τ).loc main_arg4) : FVec Ideal S4352x1024 .f32) bitsLt_bf16_f32 := by
    show StableHlo.after hostOps0 _ _ = _
    after_results
  rw [e]
  pointwise []

theorem left_eq (t : Fin cfg0.N) (R : Fin 1408) (k : Fin 2176) (C : Fin 8448) (r : Fin 4352) (hC : C.val = 1408 * (t.val / 2) + R.val)
    (hr : r.val = 2176 * (t.val % 2) + k.val) : left m c t (ix2 R k) = (V m c main_v2 : FVec Ideal S8448x4352 .bf16) (ix2 C r) := by
  unfold left iblk
  blk_ext [idx t]

theorem right_eq (t : Fin cfg0.N) (k : Fin 2176) (d : Fin 1024) (p : Fin 3) (hp : p.val = t.val / 4) (r : Fin 4352)
    (hr : r.val = 2176 * (t.val % 2) + k.val) :
    right m c t (ix2 k d) = wide (m ((c : Thread nD τ).loc main_arg0)) (m ((c : Thread nD τ).loc main_arg4)) p r d := by
  unfold right wide
  have h8 : (t.val < 8) = (p.val < 2) := propext (by omega)
  by_cases h : p.val < 2
  · rw [if_pos h, if_pos (by omega), ← V_v3 m c]
    have e : (iblk m c 1 t : FVec Ideal S2176x1024 .bf16) (ix2 k d) = (V m c main_v3 : FVec Ideal S4352x1024 .bf16) (ix2 r d) := by
      have h1 : t.val < 8 := by omega
      unfold iblk
      blk_ext [idx t]
      split <;> omega
    exact e
  · rw [if_neg h, if_neg (by omega), ← V_v4 m c]
    have e : (iblk m c 2 t : FVec Ideal S2176x1024 .bf16) (ix2 k d) = (V m c main_v4 : FVec Ideal S4352x1024 .bf16) (ix2 r d) := by
      have h1 : ¬ t.val < 8 := by omega
      unfold iblk
      blk_ext [idx t]
      split <;> omega
    exact e

/-- A half's product over the step's arrays. -/
theorem part_eq (t : Fin cfg0.N) (R : Fin 1408) (d : Fin 1024) (p : Fin 3) (hp : p.val = t.val / 4) (q : Fin 2816)
    (hq : q.val = 1408 * (t.val / 2 % 2) + R.val) :
    part m c t R d = ∑ k : Fin 2176,
      tall (m ((c : Thread nD τ).loc main_arg1)) (m ((c : Thread nD τ).loc main_arg2)) (m ((c : Thread nD τ).loc main_arg3)) p ⟨2176 * (t.val % 2) + k.val, by omega⟩ q
        * wide (m ((c : Thread nD τ).loc main_arg0)) (m ((c : Thread nD τ).loc main_arg4)) p ⟨2176 * (t.val % 2) + k.val, by omega⟩ d := by
  refine Finset.sum_congr rfl fun k _ => ?_
  have ht := (idx t).1
  rw [left_eq m c t R k ⟨2816 * p.val + q.val, by omega⟩ ⟨2176 * (t.val % 2) + k.val, by omega⟩ (by show 2816 * p.val + q.val = _; omega) rfl,
    V_v2 m c _ _ p q rfl, right_eq m c t k d p hp ⟨2176 * (t.val % 2) + k.val, by omega⟩ rfl]

/-- A sum over the rows by halves. -/
theorem halves (f : Fin 4352 → EReal) : ∑ r, f r = (∑ k : Fin 2176, f ⟨2176 * 0 + k.val, by omega⟩) + ∑ k : Fin 2176, f ⟨2176 * 1 + k.val, by omega⟩ := by
  refine (Fin.sum_univ_add (a := 2176) (b := 2176) f).trans (congrArg₂ (· + ·) ?_ ?_)
  · exact Finset.sum_congr rfl fun k _ => congrArg f (Fin.ext (by simp))
  · exact Finset.sum_congr rfl fun k _ => congrArg f (Fin.ext (by simp [Nat.add_comm]))

/-- The array after the run. -/
theorem final : (dats m 0 c).arrAt 3 cfg0.N = grad (m ((c : Thread nD τ).loc main_arg0)) (m ((c : Thread nD τ).loc main_arg4))
    (m ((c : Thread nD τ).loc main_arg1)) (m ((c : Thread nD τ).loc main_arg2)) (m ((c : Thread nD τ).loc main_arg3)) := by
  refine (dats m 0 c).arrAt_eq_of_covers 3 _ (by decide +kernel) fun t hf y => ?_
  have ht1 : t.val % 2 = 1 := (by decide +kernel : ∀ t : Fin grid0.N, (cfg0.win 3).flush t = true → t.val % 2 = 1) t hf
  have ht := (idx t).1
  blk_simp
  rw [after0_3]
  obtain ⟨s, z, i, d, rfl⟩ : ∃ (s : Fin 4) (z : Fin 1) (i : Fin 352) (d : Fin 1024), y = ix4 s z i d :=
    ⟨y 0, y 1, y 2, y 3, (ix4_eta (n0 := 4) (n1 := 1) (n2 := 352) (n3 := 1024) y).symm⟩
  have e : (win0_3.blk t).view.emb (ix4 s z i d) = ix4 (⟨4 * (t.val / 2 % 2) + s.val, by omega⟩ : Fin 8) (⟨t.val / 4, by omega⟩ : Fin 3) i d := by
    blk_ext [idx t]
  rw [e]
  refine (second m c t ht1 (ix4 s z i d) ⟨352 * s.val + i.val, by omega⟩ rfl d rfl).trans ?_
  unfold grad
  rw [halves, part_eq m c t _ d ⟨t.val / 4, by omega⟩ rfl ⟨352 * (4 * (t.val / 2 % 2) + s.val) + i.val, by omega⟩ (by show 352 * (4 * (t.val / 2 % 2) + s.val) + i.val = 1408 * (t.val / 2 % 2) + (352 * s.val + i.val); omega),
    part_eq m c ⟨t.val - 1, lt_of_le_of_lt (Nat.sub_le _ _) t.isLt⟩ _ d ⟨t.val / 4, by omega⟩ (by show t.val / 4 = (t.val - 1) / 4; omega) ⟨352 * (4 * (t.val / 2 % 2) + s.val) + i.val, by omega⟩ (by show 352 * (4 * (t.val / 2 % 2) + s.val) + i.val = 1408 * ((t.val - 1) / 2 % 2) + (352 * s.val + i.val); omega)]
  simp only [show (t.val - 1) % 2 = 0 by omega, ht1]
  rfl

end Cert.Kernel2Ideal.Wgrad
-- ==== Proof.WgradRef.lean ====
/- The reference's feed-forward weight gradients, read as sums over the rows. -/
module

public import proofs.«01_k».proof.Proof.Gen.Reference2Ideal.Read
public import proofs.«01_k».proof.Proof.WgradArray

@[expose] public section

set_option maxRecDepth 16384

noncomputable section

namespace Cert.Reference2Ideal.Wgrad

open Idealize.ShloMosaic Idealize.ShloMosaic.TcCoe Idealize.SL.Sem
open Cert.Reference2Ideal Cert.Reference2Ideal.Gen Cert.Reference2Ideal.Read
open Cert.Kernel2Ideal.Wgrad (grad tall wide)

variable (A0 A4 : FVec Ideal S4352x1024 .f32) (A1 A2 A3 : FVec Ideal S4352x2816 .f32)

/-- The gate's and up's gradient at a unit and a model coordinate. -/
theorem v11 (q : Fin 2816) (d : Fin 1024) : val_main_v11 (F := Ideal) A0 A2 (ix2 q d) = ∑ r : Fin 4352, A2 (ix2 r q) * A0 (ix2 r d) := by
  pointwise [val_main_v11, val_main_v10, val_main_v9]

theorem v12 (q : Fin 2816) (d : Fin 1024) : val_main_v12 (F := Ideal) A0 A3 (ix2 q d) = ∑ r : Fin 4352, A3 (ix2 r q) * A0 (ix2 r d) := by
  pointwise [val_main_v12, val_main_v8, val_main_v7]

theorem v6 (q : Fin 2816) (d : Fin 1024) : val_main_v6 (F := Ideal) A1 A4 (ix2 q d) = ∑ r : Fin 4352, A4 (ix2 r d) * A1 (ix2 r q) := by
  pointwise [val_main_v6, val_main_v5]

/-- The reference's result. -/
theorem result (j : S8x3x352x1024.Idx) : val_main_v20 (F := Ideal) A0 A1 A2 A3 A4 j = grad A0 A4 A1 A2 A3 j := by
  obtain ⟨s, p, i, d, rfl⟩ : ∃ (s : Fin 8) (p : Fin 3) (i : Fin 352) (d : Fin 1024), j = ix4 s p i d :=
    ⟨j 0, j 1, j 2, j 3, (ix4_eta (n0 := 8) (n1 := 3) (n2 := 352) (n3 := 1024) j).symm⟩
  pointwise [val_main_v20, val_main_v19, val_main_v16, val_main_v17, val_main_v18, val_main_v13, val_main_v14, val_main_v15]
  have hp : p.val < 3 := p.isLt
  have e : ∀ h, (⟨s.val * 352 + i.val, h⟩ : Fin 2816) = ⟨352 * s.val + i.val, by omega⟩ := fun _ => Fin.ext (by show s.val * 352 + i.val = 352 * s.val + i.val; omega)
  show _ = ∑ r : Fin 4352, tall A1 A2 A3 p r ⟨352 * s.val + i.val, _⟩ * wide A0 A4 p r d
  unfold tall wide
  by_cases h0 : p.val = 0
  · rw [dif_pos (by omega), v11, e]
    simp only [if_pos h0, if_pos (show p.val < 2 by omega)]
  · by_cases h1 : p.val = 1
    · rw [dif_neg (by omega), dif_pos (by omega), v12, e]
      simp only [if_neg h0, if_pos h1, if_pos (show p.val < 2 by omega)]
    · rw [dif_neg (by omega), dif_neg (by omega), v6, e]
      simp only [if_neg h0, if_neg h1, if_neg (show ¬ p.val < 2 by omega)]
      exact Finset.sum_congr rfl fun r _ => mul_comm _ _

end Cert.Reference2Ideal.Wgrad
-- ==== Proof.WgradClaims.lean ====
/- The claims of the feed-forward weight gradients: both programs run, and they compute the same result. -/
module

public import proofs.«01_k».proof.Defs
public import proofs.«01_k».proof.Proof.Gen.Kernel2
public import proofs.«01_k».proof.Proof.Gen.Reference2Ideal
public import proofs.«01_k».proof.Proof.Gen.Reference2Ideal.Run
public import proofs.«01_k».proof.Proof.WgradRef

@[expose] public section

noncomputable section

namespace Cert.Wgrad

open Idealize.ShloMosaic Idealize.SL.Sem

section Same
variable {F : FTy → Type} [FloatOps F]

/-- The two bodies are one. -/
theorem body_same : @Cert.Kernel2.cc0_ffn_wgrad F _ _ = @Cert.Kernel2Ideal.cc0_ffn_wgrad F _ _ := rfl

/-- The two tables of bodies are one. -/
theorem table_same : Cert.Kernel2.defs₀ (F := F) = Cert.Kernel2Ideal.defs₀ (F := F) := by
  unfold Cert.Kernel2.defs₀ Cert.Kernel2Ideal.defs₀
  refine congrArg Defs.onTc ?_
  funext l a
  match l with
  | 0 => obtain ⟨t, s⟩ := a; rfl

/-- The two programs' tables are one. -/
theorem defs_same : Cert.Kernel2.defs (F := F) = Cert.Kernel2Ideal.defs (F := F) :=
  congrArg (Pipeline.defs (Cert.Kernel2Ideal.pcfgs (F := F))) table_same

/-- The two programs are one. -/
theorem main_same : Cert.Kernel2.main (F := F) = Cert.Kernel2Ideal.main (F := F) := rfl

end Same

/-- The printed program runs. -/
theorem kernel_runs : Cert.quiescent_Kernel2 (hKernel2 := Cert.Kernel2.Gen.facts) := by
  intro m g _
  rw [main_same, defs_same]
  exact Cert.Kernel2Ideal.Gen.frame (F := Bits) m g

/-- The program over the extended reals runs. -/
theorem ideal_runs : Cert.quiescent_Kernel2Ideal (hKernel2Ideal := Cert.Kernel2Ideal.Gen.facts) := fun m g _ =>
  Cert.Kernel2Ideal.Gen.frame (F := Ideal) m g

/-- The reference runs. -/
theorem reference_runs : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- From any arguments the kernel and the reference end with the same result. -/
theorem values : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 3 Cert.Kernel2Ideal.cfg0.N,
    (θ_run (Cert.Kernel2Ideal.defs (F := Ideal)) _ _).mono (fun r h c => ⟨(h.1 c).1 3, h.2.1 c⟩)
      (θ_run_and (Cert.Kernel2Ideal.Gen.run_main m g) (Cert.Kernel2Ideal.Gen.frame m g)),
    (θ_run _ _ _).mono (fun r h c => ?_) (Cert.Reference2Ideal.Value.run (F := Ideal) m' g')⟩
  obtain ⟨a0, a1, a2, a3, a4⟩ := hargs c
  refine ⟨(h c).1.trans ((Cert.Reference2Ideal.Read.val_main_v20_eq _ _ _ _ _).trans (funext fun j => ?_)), (h c).2⟩
  refine (Cert.Reference2Ideal.Wgrad.result _ _ _ _ _ j).trans ((congrFun ?_ j).trans (congrFun (Cert.Kernel2Ideal.Wgrad.final m c) j).symm)
  rw [a0, a1, a2, a3, a4]

end Cert.Wgrad

end
-- ==== Proof.FfnArray.lean ====
/- The feed-forward block's arrays after the run. -/
module

public import proofs.«01_k».proof.Proof.Gen.Kernel4Ideal.Frame
public import Idealize.ShloMosaic.Lib.Pipeline.ValueKit
public import Idealize.ShloMosaic.Lib.Pipeline.ReadBack

@[expose] public section

set_option maxRecDepth 16384

noncomputable section

namespace Cert.Kernel4Ideal.Ffn

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- The windows' index maps. -/
theorem idx : ∀ t : Fin cfg0.N, t.val < 17 ∧ win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- An array covered by one write of it is that write. -/
theorem canon_whole {S : Shape} {e : EltTy} (X : S.Idx → Elt Ideal e) : View.canon (Val := Elt Ideal) [⟨Rect.whole S, X⟩] = X :=
  funext fun j => by
    have h := View.canon_cons_emb (Val := Elt Ideal) (Rect.whole S) X [] j
    rwa [Rect.emb_whole_apply] at h

/-- A part of a buffer read after the buffer was written whole. -/
theorem cov_whole {S : Shape} {e : EltTy} (v : View sig .tc .vmem S e) (X : S.Idx → Elt Ideal e) (r : Rect S) :
    v.readCov (Val := Elt Ideal) [⟨Rect.whole S, X⟩] r.toLoadRect = View.ld X r := by
  rw [View.readCov_eq_canon', canon_whole]

/-- The weights' buffers hold the weights from the first point on. -/
theorem weights : ∀ (n : ℕ) (h : n < cfg0.N), (outsAt0 m c n h).2.2.2.1 = V m c main_v2
    ∧ (outsAt0 m c n h).2.2.2.2.1 = V m c main_v4 ∧ (outsAt0 m c n h).2.2.2.2.2 = V m c main_v5
  | 0, h => by
    have e := outsAt0_A m c ⟨0, h⟩ rfl
    refine ⟨?_, ?_, ?_⟩
    · rw [e]
      frame_out
      exact canon_whole _
    · rw [e]
      frame_out
      exact canon_whole _
    · rw [e]
      frame_out
      exact canon_whole _
  | n + 1, h => by
    have h17 : n + 1 < 17 := (idx ⟨n + 1, h⟩).1
    have e := outsAt0_B m c ⟨n + 1, h⟩ (by show ¬ (n + 1) % 17 = 0; omega)
    obtain ⟨i0, i1, i2⟩ := weights n (Nat.lt_of_succ_lt h)
    refine ⟨?_, ?_, ?_⟩
    · rw [e]
      frame_out
      unfold sout0_B_0
      exact i0
    · rw [e]
      frame_out
      unfold sout0_B_1
      exact i1
    · rw [e]
      frame_out
      unfold sout0_B_2
      exact i2

/-- A row after the root-mean-square normalisation. -/
def nrm (x g : Fin 1024 → Ideal .f32) (k : Fin 1024) : Ideal .f32 :=
  x k * Ideal.rsqrt (Ideal.div (∑ k : Fin 1024, x k * x k) (Ideal.ofBits FTy.f32 1149239296#32) + Ideal.ofBits FTy.f32 897988541#32) * g k

/-- A normalised row times a row of a weight. -/
def dot (n : Fin 1024 → Ideal .f32) (w : Fin 2816 → Fin 1024 → Ideal .f32) (q : Fin 2816) : Ideal .f32 := ∑ k : Fin 1024, n k * w q k

/-- The gate's and up's projections of a row, one after the other. -/
def both (n : Fin 1024 → Ideal .f32) (w0 w1 : Fin 2816 → Fin 1024 → Ideal .f32) (q : Fin 5632) : Ideal .f32 :=
  if h : q.val < 2816 then dot n w0 ⟨q.val, h⟩ else dot n w1 ⟨q.val - 2816, by omega⟩

theorem both_low (n : Fin 1024 → Ideal .f32) (w0 w1 : Fin 2816 → Fin 1024 → Ideal .f32) (q : Fin 5632) (q' : Fin 2816) (h : q.val = q'.val) :
    both n w0 w1 q = dot n w0 q' := by
  unfold both
  rw [dif_pos (by omega)]
  exact congrArg (dot n w0) (Fin.ext h)

theorem both_high (n : Fin 1024 → Ideal .f32) (w0 w1 : Fin 2816 → Fin 1024 → Ideal .f32) (q : Fin 5632) (q' : Fin 2816) (h : q.val = 2816 + q'.val) :
    both n w0 w1 q = dot n w1 q' := by
  unfold both
  rw [dif_neg (by omega)]
  exact congrArg (dot n w1) (Fin.ext (by show q.val - 2816 = q'.val; omega))

/-- The hidden unit of a row: the gate through silu, times up. -/
def hid (n : Fin 1024 → Ideal .f32) (w0 w1 : Fin 2816 → Fin 1024 → Ideal .f32) (q : Fin 2816) : Ideal .f32 :=
  dot n w0 q * Ideal.div 1 (1 + Ideal.exp (0 - dot n w0 q)) * dot n w1 q

/-- The block's result of a row: the row and the hidden units' projection. -/
def ffn (x n : Fin 1024 → Ideal .f32) (w0 w1 w2 : Fin 2816 → Fin 1024 → Ideal .f32) (d : Fin 1024) : Ideal .f32 :=
  x d + ∑ q : Fin 2816, hid n w0 w1 q * w2 q d

/-- A row of a block. -/
def row (X : FVec Ideal S256x1024 .f32) (R : Fin 256) (k : Fin 1024) : Ideal .f32 := X (ix2 R k)

/-- The gain's row. -/
def gain (g : FVec Ideal S1x1024 .f32) (k : Fin 1024) : Ideal .f32 := g (ix2 0 k)

/-- A weight by its rows. -/
def rows (W : FVec Ideal S2816x1024 .bf16) (q : Fin 2816) (k : Fin 1024) : Ideal .f32 := W (ix2 q k)

theorem pay_six (X : FVec Ideal S256x1024 .f32) (g : FVec Ideal S1x1024 .f32) (j : S256x1024.Idx) :
    (k0_pay6 X g j : Ideal .bf16) = nrm (row X (j 0)) (gain g) (j 1) := by
  obtain ⟨R, d, rfl⟩ : ∃ (R : Fin 256) (d : Fin 1024), j = ix2 R d := ⟨j 0, j 1, (ix2_eta (n0 := 256) (n1 := 1024) j).symm⟩
  refine Eq.trans ?_ (show X (ix2 R d) * Ideal.rsqrt (Ideal.div (∑ k : Fin 1024, X (ix2 R k) * X (ix2 R k)) (Ideal.ofBits FTy.f32 1149239296#32)
    + Ideal.ofBits FTy.f32 897988541#32) * g (ix2 0 d) = _ from rfl)
  pointwise [k0_pay6]

theorem pay_nine (X : FVec Ideal S256x1024 .f32) (g : FVec Ideal S1x1024 .f32) (w : FVec Ideal S1408x1024 .bf16) (j : S256x1408.Idx) :
    (k0_pay9 X g w j : Ideal .bf16) = ∑ k : Fin 1024, nrm (row X (j 0)) (gain g) k * w (ix2 (j 1) k) := by
  pointwise [k0_pay9, k0_pay7, pay_six]

theorem pay_ten (X : FVec Ideal S256x1024 .f32) (g : FVec Ideal S1x1024 .f32) (w : FVec Ideal S1408x1024 .bf16) (j : S256x1408.Idx) :
    (k0_pay10 X g w j : Ideal .bf16) = ∑ k : Fin 1024, nrm (row X (j 0)) (gain g) k * w (ix2 (j 1) k) := by
  pointwise [k0_pay10, k0_pay8, pay_six]

theorem pay_three (X : FVec Ideal S256x1024 .f32) (g : FVec Ideal S1x1024 .f32) (w : FVec Ideal S1408x1024 .bf16) (j : S256x1408.Idx) :
    (k0_pay3 (k0_pay6 X g) w j : Ideal .bf16) = ∑ k : Fin 1024, nrm (row X (j 0)) (gain g) k * w (ix2 (j 1) k) := by
  pointwise [k0_pay3, k0_pay1, pay_six]

theorem pay_four (X : FVec Ideal S256x1024 .f32) (g : FVec Ideal S1x1024 .f32) (w : FVec Ideal S1408x1024 .bf16) (j : S256x1408.Idx) :
    (k0_pay4 (k0_pay6 X g) w j : Ideal .bf16) = ∑ k : Fin 1024, nrm (row X (j 0)) (gain g) k * w (ix2 (j 1) k) := by
  pointwise [k0_pay4, k0_pay2, pay_six]

/-- A sum over the hidden units, in the two halves the point takes them in. -/
theorem halves (f : Fin 2816 → Ideal .f32) :
    (∑ q : Fin 1408, f ⟨0 + q.val, by omega⟩) + (∑ q : Fin 1408, f ⟨1408 + q.val, by omega⟩) = ∑ q : Fin 2816, f q := by
  refine ((Fin.sum_univ_add (a := 1408) (b := 1408) f).trans (congrArg₂ (· + ·) ?_ ?_)).symm
  · exact Finset.sum_congr rfl fun q _ => congrArg f (Fin.ext (by simp))
  · exact Finset.sum_congr rfl fun q _ => congrArg f (Fin.ext (by simp [Nat.add_comm]))

/-- A half of a weight's rows, as the point reads it. -/
def Half (o : ℕ) (ho : o + 1408 ≤ 2816) (L : FVec Ideal S1408x1024 .bf16) (W : FVec Ideal S2816x1024 .bf16) : Prop :=
  ∀ (q : Fin 1408) (k : Fin 1024), L (ix2 q k) = rows W ⟨o + q.val, by omega⟩ k

section Form
variable (X : FVec Ideal S256x1024 .f32) (g : FVec Ideal S1x1024 .f32) (W0 W1 W2 : FVec Ideal S2816x1024 .bf16)
  (a0 a1 b0 b1 c0 c1 : FVec Ideal S1408x1024 .bf16)
  (ha0 : Half 0 (by omega) a0 W0) (ha1 : Half 1408 (by omega) a1 W0) (hb0 : Half 0 (by omega) b0 W1) (hb1 : Half 1408 (by omega) b1 W1)
  (hc0 : Half 0 (by omega) c0 W2) (hc1 : Half 1408 (by omega) c1 W2)

include ha0 ha1 hb0 hb1 hc0 hc1 in
/-- The point's result, from the halves of the weights. -/
theorem form_four (j : S256x1024.Idx) :
    (k0_pay5 X (k0_pay6 X g) (k0_pay7 X g a0) (k0_pay8 X g b0) (k0_pay11 X g a0) k0_pay12 c0 a1 b1 c1 j : Ideal .f32)
      = ffn (row X (j 0)) (nrm (row X (j 0)) (gain g)) (rows W0) (rows W1) (rows W2) (j 1) := by
  obtain ⟨R, d, rfl⟩ : ∃ (R : Fin 256) (d : Fin 1024), j = ix2 R d := ⟨j 0, j 1, (ix2_eta (n0 := 256) (n1 := 1024) j).symm⟩
  show _ = ffn (row X R) (nrm (row X R) (gain g)) (rows W0) (rows W1) (rows W2) d
  refine (show _ = X (ix2 R d) + (∑ q : Fin 1408, hid (nrm (row X R) (gain g)) (rows W0) (rows W1) ⟨0 + q.val, by omega⟩ * rows W2 ⟨0 + q.val, by omega⟩ d)
      + (∑ q : Fin 1408, hid (nrm (row X R) (gain g)) (rows W0) (rows W1) ⟨1408 + q.val, by omega⟩ * rows W2 ⟨1408 + q.val, by omega⟩ d) from ?_).trans ?_
  · pointwise [k0_pay5, k0_pay1, k0_pay2, k0_pay7, k0_pay8, k0_pay11, k0_pay12, pay_six]
    unfold Half at *
    simp only [ha0, ha1, hb0, hb1, hc0, hc1, hid, dot, Nat.zero_add]
  · rw [add_assoc]
    exact congrArg (X (ix2 R d) + ·) (halves fun q => hid (nrm (row X R) (gain g)) (rows W0) (rows W1) q * rows W2 q d)

/-- The projections' block: its four parts, each written from its half of a weight. -/
theorem tiles (f : Fin 256 → Fin 5632 → Ideal .f32) (Q0 Q1 Q2 Q3 : S256x1408.Idx → Ideal .bf16)
    (h0 : ∀ R (q : Fin 1408), Q0 (ix2 R q) = f R ⟨0 + q.val, by omega⟩) (h1 : ∀ R (q : Fin 1408), Q1 (ix2 R q) = f R ⟨1408 + q.val, by omega⟩)
    (h2 : ∀ R (q : Fin 1408), Q2 (ix2 R q) = f R ⟨2816 + q.val, by omega⟩) (h3 : ∀ R (q : Fin 1408), Q3 (ix2 R q) = f R ⟨4224 + q.val, by omega⟩) (y : S256x5632.Idx) :
    View.canon (Val := Elt Ideal) (s := S256x5632) (e := .bf16)
      [⟨Rect.unit (s := S256x5632) ![0, 4224] ![256, 1408] inb_S256x5632_S256x1408_0_4224, Q3⟩,
        ⟨Rect.unit (s := S256x5632) ![0, 1408] ![256, 1408] inb_S256x5632_S256x1408_0_1408, Q1⟩,
        ⟨Rect.unit (s := S256x5632) ![0, 2816] ![256, 1408] inb_S256x5632_S256x1408_0_2816, Q2⟩,
        ⟨Rect.unit (s := S256x5632) ![0, 0] ![256, 1408] inb_S256x5632_S256x1408_0_0, Q0⟩] y = f (y 0) (y 1) := by
  canon_tiles y hy
  · exact (congrArg Q3 (ix2_eta (n0 := 256) (n1 := 1408) y)).symm.trans ((h3 _ _).trans (congrArg₂ f (Fin.ext hy0.symm) (Fin.ext hy1.symm)))
  · exact (congrArg Q1 (ix2_eta (n0 := 256) (n1 := 1408) y)).symm.trans ((h1 _ _).trans (congrArg₂ f (Fin.ext hy0.symm) (Fin.ext hy1.symm)))
  · exact (congrArg Q2 (ix2_eta (n0 := 256) (n1 := 1408) y)).symm.trans ((h2 _ _).trans (congrArg₂ f (Fin.ext hy0.symm) (Fin.ext hy1.symm)))
  · exact (congrArg Q0 (ix2_eta (n0 := 256) (n1 := 1408) y)).symm.trans ((h0 _ _).trans (congrArg₂ f (Fin.ext hy0.symm)
      (Fin.ext ((Nat.zero_add _).trans hy1.symm))))

include ha0 ha1 hb0 hb1 in
/-- The projections' block, from the halves of the weights. -/
theorem form_two (y : S256x5632.Idx) :
    View.canon (Val := Elt Ideal) (s := S256x5632) (e := .bf16)
      [⟨Rect.unit (s := S256x5632) ![0, 4224] ![256, 1408] inb_S256x5632_S256x1408_0_4224, k0_pay4 (F := Ideal) (k0_pay6 (F := Ideal) X g) b1⟩,
        ⟨Rect.unit (s := S256x5632) ![0, 1408] ![256, 1408] inb_S256x5632_S256x1408_0_1408, k0_pay3 (F := Ideal) (k0_pay6 (F := Ideal) X g) a1⟩,
        ⟨Rect.unit (s := S256x5632) ![0, 2816] ![256, 1408] inb_S256x5632_S256x1408_0_2816, k0_pay10 (F := Ideal) X g b0⟩,
        ⟨Rect.unit (s := S256x5632) ![0, 0] ![256, 1408] inb_S256x5632_S256x1408_0_0, k0_pay9 (F := Ideal) X g a0⟩] y
      = both (nrm (row X (y 0)) (gain g)) (rows W0) (rows W1) (y 1) := by
  refine tiles (fun R q => both (nrm (row X R) (gain g)) (rows W0) (rows W1) q) _ _ _ _ (fun R q => ?_) (fun R q => ?_) (fun R q => ?_) (fun R q => ?_) y
  · refine (pay_nine X g a0 (ix2 R q)).trans ((Finset.sum_congr rfl fun k _ => congrArg (_ * ·) (ha0 q k)).trans ?_)
    exact (both_low _ _ _ _ ⟨0 + q.val, by omega⟩ rfl).symm
  · refine (pay_three X g a1 (ix2 R q)).trans ((Finset.sum_congr rfl fun k _ => congrArg (_ * ·) (ha1 q k)).trans ?_)
    exact (both_low _ _ _ _ ⟨1408 + q.val, by omega⟩ rfl).symm
  · refine (pay_ten X g b0 (ix2 R q)).trans ((Finset.sum_congr rfl fun k _ => congrArg (_ * ·) (hb0 q k)).trans ?_)
    exact (both_high _ _ _ _ ⟨0 + q.val, by omega⟩ (by show 2816 + q.val = 2816 + (0 + q.val); omega)).symm
  · refine (pay_four X g b1 (ix2 R q)).trans ((Finset.sum_congr rfl fun k _ => congrArg (_ * ·) (hb1 q k)).trans ?_)
    exact (both_high _ _ _ _ ⟨1408 + q.val, by omega⟩ (by show 4224 + q.val = 2816 + (1408 + q.val); omega)).symm

end Form

/-- The half of a weight's rows that starts at row `o`. -/
theorem half_ld (o : ℕ) (ho : o + 1408 ≤ 2816) (inb) (W W' : FVec Ideal S2816x1024 .bf16) (e : W' = W) :
    Half o ho (View.ld (Val := Elt Ideal) (e' := .bf16) W' (Rect.unit (s := S2816x1024) ![o, 0] ![1408, 1024] inb)) W := by
  subst e
  intro q k
  refine congrArg W' (funext fun a => Fin.ext ?_)
  fin_cases a
  · show o + 1 * q.val = o + q.val
    omega
  · show 0 + 1 * k.val = k.val
    omega

/-- The rows' block. -/
def xs (t : Fin cfg0.N) : FVec Ideal S256x1024 .f32 := iblk m c 0 t

/-- The gain's block. -/
def gs (t : Fin cfg0.N) : FVec Ideal S1x1024 .f32 := iblk m c 1 t

theorem out2 (t : Fin cfg0.N) (y : S256x5632.Idx) : (outsAt0 m c t.val t.isLt).1 y
    = both (nrm (row (xs m c t) (y 0)) (gain (gs m c t))) (rows (V m c main_v2)) (rows (V m c main_v4)) (y 1) := by
  by_cases h : t.val % 17 = 0
  · rw [outsAt0_A m c t h]
    frame_out
    rw [cov_whole, cov_whole, cov_whole, cov_whole]
    exact form_two (xs m c t) (gs m c t) (V m c main_v2) (V m c main_v4) _ _ _ _ (half_ld _ _ _ _ _ rfl) (half_ld _ _ _ _ _ rfl)
      (half_ld _ _ _ _ _ rfl) (half_ld _ _ _ _ _ rfl) y
  · obtain ⟨e0, e1, e2⟩ := weights m c (t.val - 1) (lt_of_le_of_lt (Nat.sub_le _ _) t.isLt)
    rw [outsAt0_B m c t h]
    frame_out
    exact form_two (xs m c t) (gs m c t) (V m c main_v2) (V m c main_v4) _ _ _ _ (half_ld _ _ _ _ _ ((Memref.IsWhole.read_unread (m := Memref.whole cc0_scratch0) _ _).trans e0)) (half_ld _ _ _ _ _ ((Memref.IsWhole.read_unread (m := Memref.whole cc0_scratch0) _ _).trans e0))
      (half_ld _ _ _ _ _ ((Memref.IsWhole.read_unread (m := Memref.whole cc0_scratch1) _ _).trans e1)) (half_ld _ _ _ _ _ ((Memref.IsWhole.read_unread (m := Memref.whole cc0_scratch1) _ _).trans e1)) y

theorem out3 (t : Fin cfg0.N) (y : S256x1024.Idx) : (outsAt0 m c t.val t.isLt).2.1 y
    = nrm (row (xs m c t) (y 0)) (gain (gs m c t)) (y 1) := by
  by_cases h : t.val % 17 = 0
  · rw [outsAt0_A m c t h]
    frame_out
    exact pay_six (xs m c t) (gs m c t) y
  · rw [outsAt0_B m c t h]
    frame_out
    exact pay_six (xs m c t) (gs m c t) y

theorem out4 (t : Fin cfg0.N) (y : S256x1024.Idx) : (outsAt0 m c t.val t.isLt).2.2.1 y
    = ffn (row (xs m c t) (y 0)) (nrm (row (xs m c t) (y 0)) (gain (gs m c t))) (rows (V m c main_v2)) (rows (V m c main_v4)) (rows (V m c main_v5)) (y 1) := by
  by_cases h : t.val % 17 = 0
  · rw [outsAt0_A m c t h]
    frame_out
    rw [cov_whole, cov_whole, cov_whole, cov_whole, cov_whole, cov_whole]
    exact form_four (xs m c t) (gs m c t) (V m c main_v2) (V m c main_v4) (V m c main_v5) _ _ _ _ _ _ (half_ld _ _ _ _ _ rfl) (half_ld _ _ _ _ _ rfl)
      (half_ld _ _ _ _ _ rfl) (half_ld _ _ _ _ _ rfl) (half_ld _ _ _ _ _ rfl) (half_ld _ _ _ _ _ rfl) y
  · obtain ⟨e0, e1, e2⟩ := weights m c (t.val - 1) (lt_of_le_of_lt (Nat.sub_le _ _) t.isLt)
    rw [outsAt0_B m c t h]
    frame_out
    exact form_four (xs m c t) (gs m c t) (V m c main_v2) (V m c main_v4) (V m c main_v5) _ _ _ _ _ _ (half_ld _ _ _ _ _ ((Memref.IsWhole.read_unread (m := Memref.whole cc0_scratch0) _ _).trans e0)) (half_ld _ _ _ _ _ ((Memref.IsWhole.read_unread (m := Memref.whole cc0_scratch0) _ _).trans e0))
      (half_ld _ _ _ _ _ ((Memref.IsWhole.read_unread (m := Memref.whole cc0_scratch1) _ _).trans e1)) (half_ld _ _ _ _ _ ((Memref.IsWhole.read_unread (m := Memref.whole cc0_scratch1) _ _).trans e1)) (half_ld _ _ _ _ _ ((Memref.IsWhole.read_unread (m := Memref.whole cc0_scratch2) _ _).trans e2)) (half_ld _ _ _ _ _ ((Memref.IsWhole.read_unread (m := Memref.whole cc0_scratch2) _ _).trans e2)) y

/-- A row of the step's array. -/
def hrow (H : FVec Ideal S4352x1024 .f32) (r : Fin 4352) (k : Fin 1024) : Ideal .f32 := H (ix2 r k)

/-- The gain. -/
def grow (G : FVec Ideal S1024 .f32) (k : Fin 1024) : Ideal .f32 := G (ix1 k)

/-- A weight by its columns. -/
def cols (W : FVec Ideal S1024x2816 .f32) (q : Fin 2816) (k : Fin 1024) : Ideal .f32 := W (ix2 k q)

/-- The down projection's weight by its rows. -/
def down (W : FVec Ideal S2816x1024 .f32) (q : Fin 2816) (k : Fin 1024) : Ideal .f32 := W (ix2 q k)

/-- The projections of all rows. -/
def projections (H : FVec Ideal S4352x1024 .f32) (G : FVec Ideal S1024 .f32) (Wg Wu : FVec Ideal S1024x2816 .f32) (j : S4352x5632.Idx) : Ideal .bf16 :=
  both (nrm (hrow H (j 0)) (grow G)) (cols Wg) (cols Wu) (j 1)

/-- All rows after the normalisation. -/
def normed (H : FVec Ideal S4352x1024 .f32) (G : FVec Ideal S1024 .f32) (j : S4352x1024.Idx) : Ideal .bf16 := nrm (hrow H (j 0)) (grow G) (j 1)

/-- The block's result of all rows. -/
def block (H : FVec Ideal S4352x1024 .f32) (G : FVec Ideal S1024 .f32) (Wg Wu : FVec Ideal S1024x2816 .f32) (Wd : FVec Ideal S2816x1024 .f32)
    (j : S4352x1024.Idx) : Ideal .f32 :=
  ffn (hrow H (j 0)) (nrm (hrow H (j 0)) (grow G)) (cols Wg) (cols Wu) (down Wd) (j 1)

theorem rows_v2 : rows (V m c main_v2) = cols (m ((c : Thread nD τ).loc main_arg2)) := by
  funext q k
  have e : (V m c main_v2 : FVec Ideal S2816x1024 .bf16) = truncf (F := Ideal) (φ := .f32) .bf16
      (transpose S2816x1024 [1, 0] (m ((c : Thread nD τ).loc main_arg2) : FVec Ideal S1024x2816 .f32) transposes_S1024x2816_S2816x1024_1_0) bitsLt_bf16_f32 := by
    show StableHlo.after hostOps0 _ _ = _
    after_results
  unfold rows cols
  rw [e]
  pointwise []

theorem rows_v4 : rows (V m c main_v4) = cols (m ((c : Thread nD τ).loc main_arg3)) := by
  funext q k
  have e : (V m c main_v4 : FVec Ideal S2816x1024 .bf16) = truncf (F := Ideal) (φ := .f32) .bf16
      (transpose S2816x1024 [1, 0] (m ((c : Thread nD τ).loc main_arg3) : FVec Ideal S1024x2816 .f32) transposes_S1024x2816_S2816x1024_1_0) bitsLt_bf16_f32 := by
    show StableHlo.after hostOps0 _ _ = _
    after_results
  unfold rows cols
  rw [e]
  pointwise []

theorem rows_v5 : rows (V m c main_v5) = down (m ((c : Thread nD τ).loc main_arg4)) := by
  funext q k
  have e : (V m c main_v5 : FVec Ideal S2816x1024 .bf16) = truncf (F := Ideal) (φ := .f32) .bf16
      (m ((c : Thread nD τ).loc main_arg4) : FVec Ideal S2816x1024 .f32) bitsLt_bf16_f32 := by
    show StableHlo.after hostOps0 _ _ = _
    after_results
  unfold rows down
  rw [e]
  pointwise []

theorem gain_eq (t : Fin cfg0.N) : gain (gs m c t) = grow (m ((c : Thread nD τ).loc main_arg1)) := by
  funext k
  have e : (V m c main_v0 : FVec Ideal S1x1024 .f32) = shapeCast S1x1024 (m ((c : Thread nD τ).loc main_arg1) : FVec Ideal S1024 .f32) rfl := by
    show StableHlo.after hostOps0 _ _ = _
    after_results
    rfl
  have b : gs m c t (ix2 0 k) = (V m c main_v0 : FVec Ideal S1x1024 .f32) (ix2 0 k) := by
    unfold gs iblk
    blk_ext [idx t]
  unfold gain grow
  rw [b, e]
  pointwise []

theorem row_eq (t : Fin cfg0.N) (R : Fin 256) (r : Fin 4352) (h : r.val = 256 * t.val + R.val) :
    row (xs m c t) R = hrow (m ((c : Thread nD τ).loc main_arg0)) r := by
  funext k
  have e : (V m c main_arg0 : FVec Ideal S4352x1024 .f32) = (m ((c : Thread nD τ).loc main_arg0) : FVec Ideal S4352x1024 .f32) := by
    show StableHlo.after hostOps0 _ _ = _
    after_results
  have b : xs m c t (ix2 R k) = (V m c main_arg0 : FVec Ideal S4352x1024 .f32) (ix2 r k) := by
    unfold xs iblk
    blk_ext [idx t]
  unfold row hrow
  rw [b, e]

/-- The projections' array after the run. -/
theorem final2 : (dats m 0 c).arrAt 2 cfg0.N = projections (m ((c : Thread nD τ).loc main_arg0)) (m ((c : Thread nD τ).loc main_arg1))
    (m ((c : Thread nD τ).loc main_arg2)) (m ((c : Thread nD τ).loc main_arg3)) := by
  refine (dats m 0 c).arrAt_eq_of_covers 2 _ (by decide +kernel) fun t hf y => ?_
  have ht := (idx t).1
  blk_simp
  rw [after0_2]
  obtain ⟨R, q, rfl⟩ : ∃ (R : Fin 256) (q : Fin 5632), y = ix2 R q := ⟨y 0, y 1, (ix2_eta (n0 := 256) (n1 := 5632) y).symm⟩
  have e : (win0_2.blk t).view.emb (ix2 R q) = ix2 (⟨256 * t.val + R.val, by omega⟩ : Fin 4352) q := by
    blk_ext [idx t]
  rw [e]
  refine (out2 m c t (ix2 R q)).trans ?_
  rw [rows_v2, rows_v4, gain_eq]
  show both (nrm (row (xs m c t) R) _) _ _ q = _
  rw [row_eq m c t R ⟨256 * t.val + R.val, by omega⟩ rfl]
  rfl

/-- The normalised rows' array after the run. -/
theorem final3 : (dats m 0 c).arrAt 3 cfg0.N = normed (m ((c : Thread nD τ).loc main_arg0)) (m ((c : Thread nD τ).loc main_arg1)) := by
  refine (dats m 0 c).arrAt_eq_of_covers 3 _ (by decide +kernel) fun t hf y => ?_
  have ht := (idx t).1
  blk_simp
  rw [after0_3]
  obtain ⟨R, d, rfl⟩ : ∃ (R : Fin 256) (d : Fin 1024), y = ix2 R d := ⟨y 0, y 1, (ix2_eta (n0 := 256) (n1 := 1024) y).symm⟩
  have e : (win0_3.blk t).view.emb (ix2 R d) = ix2 (⟨256 * t.val + R.val, by omega⟩ : Fin 4352) d := by
    blk_ext [idx t]
  rw [e]
  refine (out3 m c t (ix2 R d)).trans ?_
  rw [gain_eq]
  show nrm (row (xs m c t) R) _ d = _
  rw [row_eq m c t R ⟨256 * t.val + R.val, by omega⟩ rfl]
  rfl

/-- The result's array after the run. -/
theorem final4 : (dats m 0 c).arrAt 4 cfg0.N = block (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 4 _ (by decide +kernel) fun t hf y => ?_
  have ht := (idx t).1
  blk_simp
  rw [after0_4]
  obtain ⟨R, d, rfl⟩ : ∃ (R : Fin 256) (d : Fin 1024), y = ix2 R d := ⟨y 0, y 1, (ix2_eta (n0 := 256) (n1 := 1024) y).symm⟩
  have e : (win0_4.blk t).view.emb (ix2 R d) = ix2 (⟨256 * t.val + R.val, by omega⟩ : Fin 4352) d := by
    blk_ext [idx t]
  rw [e]
  refine (out4 m c t (ix2 R d)).trans ?_
  rw [rows_v2, rows_v4, rows_v5, gain_eq]
  show ffn (row (xs m c t) R) (nrm (row (xs m c t) R) _) _ _ _ d = _
  rw [row_eq m c t R ⟨256 * t.val + R.val, by omega⟩ rfl]
  rfl

end Cert.Kernel4Ideal.Ffn
-- ==== Proof.FfnRef.lean ====
/- The reference's feed-forward block, read at an index. -/
module

public import proofs.«01_k».proof.Proof.Gen.Reference4Ideal.Read
public import proofs.«01_k».proof.Proof.FfnArray

@[expose] public section

set_option maxRecDepth 16384

noncomputable section

namespace Cert.Reference4Ideal.Ffn

open Idealize.ShloMosaic Idealize.ShloMosaic.TcCoe Idealize.SL.Sem
open Cert.Reference4Ideal Cert.Reference4Ideal.Gen Cert.Reference4Ideal.Read
open Cert.Kernel4Ideal.Ffn (nrm dot both hid ffn hrow grow cols down projections normed block both_low both_high)

variable (H : FVec Ideal S4352x1024 .f32) (G : FVec Ideal S1024 .f32) (Wg Wu : FVec Ideal S1024x2816 .f32) (Wd : FVec Ideal S2816x1024 .f32)

/-- A normalised row. -/
theorem v12 (r : Fin 4352) (k : Fin 1024) : val_main_v12 (F := Ideal) H G (ix2 r k) = nrm (hrow H r) (grow G) k := by
  refine Eq.trans ?_ (show H (ix2 r k) * Ideal.rsqrt (Ideal.div (∑ k : Fin 1024, H (ix2 r k) * H (ix2 r k)) (Ideal.ofBits FTy.f32 1149239296#32)
    + Ideal.ofBits FTy.f32 897988541#32) * G (ix1 k) = _ from rfl)
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem v13 (r : Fin 4352) (q : Fin 2816) : val_main_v13 (F := Ideal) H G Wg (ix2 r q) = dot (nrm (hrow H r) (grow G)) (cols Wg) q := by
  unfold dot cols
  pointwise [val_main_v13, v12]

theorem v14 (r : Fin 4352) (q : Fin 2816) : val_main_v14 (F := Ideal) H G Wu (ix2 r q) = dot (nrm (hrow H r) (grow G)) (cols Wu) q := by
  unfold dot cols
  pointwise [val_main_v14, v12]

theorem v16 (r : Fin 4352) (q : Fin 2816) : val_main_v16 (F := Ideal) H G Wg Wu (ix2 r q) = hid (nrm (hrow H r) (grow G)) (cols Wg) (cols Wu) q := by
  unfold hid
  rw [show (0 : EReal) - dot (nrm (hrow H r) (grow G)) (cols Wg) q = -dot (nrm (hrow H r) (grow G)) (cols Wg) q from zero_sub _]
  pointwise [val_main_v16, val_main_v15, val_main_call0_v5, val_main_call0_v4, val_main_call0_v3, val_main_call0_v2, val_main_call0_v1, val_main_call0_v0,
    val_main_call0_cst, val_main_call0_cst_0, v13, v14]

/-- The reference's block. -/
theorem result4 (j : S4352x1024.Idx) : val_main_v18 (F := Ideal) H G Wg Wu Wd j = block H G Wg Wu Wd j := by
  obtain ⟨r, d, rfl⟩ : ∃ (r : Fin 4352) (d : Fin 1024), j = ix2 r d := ⟨j 0, j 1, (ix2_eta (n0 := 4352) (n1 := 1024) j).symm⟩
  show _ = hrow H r d + ∑ q : Fin 2816, hid (nrm (hrow H r) (grow G)) (cols Wg) (cols Wu) q * Wd (ix2 q d)
  unfold hrow
  pointwise [val_main_v18, val_main_v17, v16]
  rfl

theorem result3 (j : S4352x1024.Idx) : val_main_v21 (F := Ideal) H G j = normed H G j := by
  obtain ⟨r, d, rfl⟩ : ∃ (r : Fin 4352) (d : Fin 1024), j = ix2 r d := ⟨j 0, j 1, (ix2_eta (n0 := 4352) (n1 := 1024) j).symm⟩
  refine Eq.trans ?_ (v12 H G r d)
  pointwise [val_main_v21]

theorem result2 (j : S4352x5632.Idx) : val_main_v20 (F := Ideal) H G Wg Wu j = projections H G Wg Wu j := by
  obtain ⟨r, q, rfl⟩ : ∃ (r : Fin 4352) (q : Fin 5632), j = ix2 r q := ⟨j 0, j 1, (ix2_eta (n0 := 4352) (n1 := 5632) j).symm⟩
  show _ = both (nrm (hrow H r) (grow G)) (cols Wg) (cols Wu) q
  unfold both
  pointwise [val_main_v20, val_main_v19, v13, v14]

end Cert.Reference4Ideal.Ffn
-- ==== Proof.FfnClaims.lean ====
/- The claims of the feed-forward block: both programs run, and they compute the same results. -/
module

public import proofs.«01_k».proof.Defs
public import proofs.«01_k».proof.Proof.Gen.Kernel4
public import proofs.«01_k».proof.Proof.Gen.Reference4Ideal
public import proofs.«01_k».proof.Proof.Gen.Reference4Ideal.Run
public import proofs.«01_k».proof.Proof.FfnRef

@[expose] public section

noncomputable section

namespace Cert.Ffn

open Idealize.ShloMosaic Idealize.SL.Sem

section Same
variable {F : FTy → Type} [FloatOps F]

/-- The two bodies are one. -/
theorem body_same : @Cert.Kernel4.cc0_ffn_forward F _ _ = @Cert.Kernel4Ideal.cc0_ffn_forward F _ _ := rfl

/-- The two tables of bodies are one. -/
theorem table_same : Cert.Kernel4.defs₀ (F := F) = Cert.Kernel4Ideal.defs₀ (F := F) := by
  unfold Cert.Kernel4.defs₀ Cert.Kernel4Ideal.defs₀
  refine congrArg Defs.onTc ?_
  funext l a
  match l with
  | 0 => obtain ⟨t, s⟩ := a; rfl

/-- The two programs' tables are one. -/
theorem defs_same : Cert.Kernel4.defs (F := F) = Cert.Kernel4Ideal.defs (F := F) :=
  congrArg (Pipeline.defs (Cert.Kernel4Ideal.pcfgs (F := F))) table_same

/-- The two programs are one. -/
theorem main_same : Cert.Kernel4.main (F := F) = Cert.Kernel4Ideal.main (F := F) := rfl

end Same

/-- The printed program runs. -/
theorem kernel_runs : Cert.quiescent_Kernel4 (hKernel4 := Cert.Kernel4.Gen.facts) := by
  intro m g _
  rw [main_same, defs_same]
  exact Cert.Kernel4Ideal.Gen.frame (F := Bits) m g

/-- The program over the extended reals runs. -/
theorem ideal_runs : Cert.quiescent_Kernel4Ideal (hKernel4Ideal := Cert.Kernel4Ideal.Gen.facts) := fun m g _ =>
  Cert.Kernel4Ideal.Gen.frame (F := Ideal) m g

/-- The reference runs. -/
theorem reference_runs : Cert.quiescent_Reference4Ideal (hReference4Ideal := Cert.Reference4Ideal.Gen.facts) := fun m g _ =>
  (θ_run Cert.Reference4Ideal.defs _ _).mono (fun r h => ⟨fun c => (h c).2.2.2, sem_eq_zero_of_no_sems (by decide) r.2⟩)
    (Cert.Reference4Ideal.Value.run (F := Ideal) m g)

/-- From any arguments the kernel and the reference end with the same three results. -/
theorem values : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 2 Cert.Kernel4Ideal.cfg0.N,
    fun c => (Cert.Kernel4Ideal.Gen.dats m 0 c).arrAt 3 Cert.Kernel4Ideal.cfg0.N,
    fun c => (Cert.Kernel4Ideal.Gen.dats m 0 c).arrAt 4 Cert.Kernel4Ideal.cfg0.N,
    (θ_run (Cert.Kernel4Ideal.defs (F := Ideal)) _ _).mono (fun r h c => ⟨(h.1 c).1 2, (h.1 c).1 3, (h.1 c).1 4, h.2.1 c⟩)
      (θ_run_and (Cert.Kernel4Ideal.Gen.run_main m g) (Cert.Kernel4Ideal.Gen.frame m g)),
    (θ_run _ _ _).mono (fun r h c => ?_) (Cert.Reference4Ideal.Value.run (F := Ideal) m' g')⟩
  obtain ⟨a0, a1, a2, a3, a4⟩ := hargs c
  refine ⟨(h c).1.trans ((Cert.Reference4Ideal.Read.val_main_v20_eq _ _ _ _).trans (funext fun j => ?_)),
    (h c).2.1.trans ((Cert.Reference4Ideal.Read.val_main_v21_eq _ _).trans (funext fun j => ?_)),
    (h c).2.2.1.trans ((Cert.Reference4Ideal.Read.val_main_v18_eq _ _ _ _ _).trans (funext fun j => ?_)), (h c).2.2.2⟩
  · refine (Cert.Reference4Ideal.Ffn.result2 _ _ _ _ j).trans ((congrFun ?_ j).trans (congrFun (Cert.Kernel4Ideal.Ffn.final2 m c) j).symm)
    rw [a0, a1, a2, a3]
  · refine (Cert.Reference4Ideal.Ffn.result3 _ _ j).trans ((congrFun ?_ j).trans (congrFun (Cert.Kernel4Ideal.Ffn.final3 m c) j).symm)
    rw [a0, a1]
  · refine (Cert.Reference4Ideal.Ffn.result4 _ _ _ _ _ j).trans ((congrFun ?_ j).trans (congrFun (Cert.Kernel4Ideal.Ffn.final4 m c) j).symm)
    rw [a0, a1, a2, a3, a4]

end Cert.Ffn

end
-- ==== Proof.BackFrame.lean ====
/- The run of the feed-forward block's gradient, from its two kinds of point. -/
module

public import proofs.«01_k».proof.Proof.Gen.Kernel3Ideal.Frame.RunB
public import Idealize.ShloMosaic.Lib.Claim

@[expose] public section

set_option maxRecDepth 16384
set_option maxHeartbeats 8000000

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
theorem cover0_A_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) (y : S256x1024.Idx) :
    ∃ pc ∈ (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).1, y ∈ pc.1.set :=
  View.cover_of_tiledL (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).1 S256x1024.size (by sl_kernel_rfl) y

def out0_A_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) : Vec F S256x1024 .f32 :=
  VO0_6.read (Elt F) (VO0_6.writes (Elt F) VO0_6.junk (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).1)

theorem cover0_A_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) (y : S8448x256.Idx) :
    ∃ pc ∈ (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.1, y ∈ pc.1.set :=
  View.cover_of_tiledL (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.1 S1408x256.size (by sl_kernel_rfl) y

def out0_A_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) : Vec F S8448x256 .bf16 :=
  VO0_7.read (Elt F) (VO0_7.writes (Elt F) VO0_7.junk (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.1)

theorem cover0_A_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) (y : S256x1024.Idx) :
    ∃ pc ∈ (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.1, y ∈ pc.1.set :=
  View.cover_of_tiledL (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.1 S256x1024.size (by sl_kernel_rfl) y

def out0_A_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) : Vec F S256x1024 .bf16 :=
  VO0_8.read (Elt F) (VO0_8.writes (Elt F) VO0_8.junk (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.1)

theorem cover0_A_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) (y : S1x128.Idx) :
    ∃ pc ∈ (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.1, y ∈ pc.1.set :=
  View.cover_of_tiledL (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.1 S1x128.size (by sl_kernel_rfl) y

def out0_A_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) : Vec F S1x128 .f32 :=
  VO0_9.read (Elt F) (VO0_9.writes (Elt F) VO0_9.junk (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.1)

theorem cover0_A_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) (y : S1x1024.Idx) :
    ∃ pc ∈ (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.1, y ∈ pc.1.set :=
  View.cover_of_tiledL (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.1 S1x1024.size (by sl_kernel_rfl) y

def out0_A_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) : Vec F S1x1024 .f32 :=
  VO0_10.read (Elt F) (VO0_10.writes (Elt F) VO0_10.junk (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.1)

theorem cover0_A_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) (y : S1x1024.Idx) :
    ∃ pc ∈ (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.2.1, y ∈ pc.1.set :=
  View.cover_of_tiledL (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.2.1 S1x1024.size (by sl_kernel_rfl) y

def out0_A_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) : Vec F S1x1024 .f32 :=
  VO0_11.read (Elt F) (VO0_11.writes (Elt F) VO0_11.junk (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.2.1)

theorem scover0_A_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) (y : S2816x1024.Idx) :
    ∃ pc ∈ (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.2.2.1, y ∈ pc.1.set :=
  View.cover_of_tiledL (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.2.2.1 S2816x1024.size (by sl_kernel_rfl) y

def sout0_A_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) : Vec F S2816x1024 .bf16 :=
  VS0_0.read (Elt F) (VS0_0.writes (Elt F) VS0_0.junk (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.2.2.1)

theorem scover0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) (y : S2816x1024.Idx) :
    ∃ pc ∈ (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.2.2.2.1, y ∈ pc.1.set :=
  View.cover_of_tiledL (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.2.2.2.1 S2816x1024.size (by sl_kernel_rfl) y

def sout0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) : Vec F S2816x1024 .bf16 :=
  VS0_1.read (Elt F) (VS0_1.writes (Elt F) VS0_1.junk (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.2.2.2.1)

theorem scover0_A_2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) (y : S2816x1024.Idx) :
    ∃ pc ∈ (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.2.2.2.2.1, y ∈ pc.1.set :=
  View.cover_of_tiledL (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.2.2.2.2.1 S2816x1024.size (by sl_kernel_rfl) y

def sout0_A_2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) : Vec F S2816x1024 .bf16 :=
  VS0_2.read (Elt F) (VS0_2.writes (Elt F) VS0_2.junk (kernelRun0_A c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 fh0 fh1 fh2).2.2.2.2.2.2.2.2.1)

theorem cover0_B_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) (y : S256x1024.Idx) :
    ∃ pc ∈ (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).1, y ∈ pc.1.set :=
  View.cover_of_tiledL (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).1 S256x1024.size (by sl_kernel_rfl) y

def out0_B_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) : Vec F S256x1024 .f32 :=
  VO0_6.read (Elt F) (VO0_6.writes (Elt F) VO0_6.junk (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).1)

theorem cover0_B_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) (y : S8448x256.Idx) :
    ∃ pc ∈ (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.1, y ∈ pc.1.set :=
  View.cover_of_tiledL (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.1 S1408x256.size (by sl_kernel_rfl) y

def out0_B_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) : Vec F S8448x256 .bf16 :=
  VO0_7.read (Elt F) (VO0_7.writes (Elt F) VO0_7.junk (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.1)

theorem cover0_B_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) (y : S256x1024.Idx) :
    ∃ pc ∈ (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.2.1, y ∈ pc.1.set :=
  View.cover_of_tiledL (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.2.1 S256x1024.size (by sl_kernel_rfl) y

def out0_B_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) : Vec F S256x1024 .bf16 :=
  VO0_8.read (Elt F) (VO0_8.writes (Elt F) VO0_8.junk (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.2.1)

theorem cover0_B_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) (y : S1x128.Idx) :
    ∃ pc ∈ (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.2.2.1, y ∈ pc.1.set :=
  View.cover_of_tiledL (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.2.2.1 S1x128.size (by sl_kernel_rfl) y

def out0_B_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) : Vec F S1x128 .f32 :=
  VO0_9.read (Elt F) (VO0_9.writes (Elt F) VO0_9.junk (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.2.2.1)

theorem cover0_B_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) (y : S1x1024.Idx) :
    ∃ pc ∈ (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.2.2.2.1, y ∈ pc.1.set :=
  View.cover_of_tiledL (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.2.2.2.1 S1x1024.size (by sl_kernel_rfl) y

def out0_B_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) : Vec F S1x1024 .f32 :=
  VO0_10.read (Elt F) (VO0_10.writes (Elt F) VO0_10.junk (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.2.2.2.1)

theorem cover0_B_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) (y : S1x1024.Idx) :
    ∃ pc ∈ (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.2.2.2.2.1, y ∈ pc.1.set :=
  View.cover_of_tiledL (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.2.2.2.2.1 S1x1024.size (by sl_kernel_rfl) y

def out0_B_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) : Vec F S1x1024 .f32 :=
  VO0_11.read (Elt F) (VO0_11.writes (Elt F) VO0_11.junk (kernelRun0_B c i arg1 harg1 arg2 harg2 arg3 harg3 arg4 harg4 arg5 harg5 arg6 harg6 arg10 harg10 arg11 harg11 arg12 harg12 arg13 harg13 arg14 harg14 arg15 harg15 arg16 harg16 arg17 harg17 arg18 harg18 hc0 hc1 x0 x1 x2 x3 x4 x5 xo9 xo10 xo11 xs0 xs1 xs2 fh0 fh1 fh2).2.2.2.2.2.1)

def sout0_B_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) : Vec F S2816x1024 .bf16 := xs0

def sout0_B_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) : Vec F S2816x1024 .bf16 := xs1

def sout0_B_2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg10 : Memref sig .tc .vmem S256x1024 .f32) (harg10 : arg10.IsWhole) (arg11 : Memref sig .tc .vmem S8448x256 .bf16) (harg11 : arg11.IsWhole) (arg12 : Memref sig .tc .vmem S256x1024 .bf16) (harg12 : arg12.IsWhole) (arg13 : Memref sig .tc .vmem S1x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (xo9 : Vec F S1x128 .f32) (xo10 : Vec F S1x1024 .f32) (xo11 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) : Vec F S2816x1024 .bf16 := xs2

def outsAt0 (c : Dev nD) : (n : ℕ) → n < cfg0.N → Vec F S256x1024 .f32 × Vec F S8448x256 .bf16 × Vec F S256x1024 .bf16 × Vec F S1x128 .f32 × Vec F S1x1024 .f32 × Vec F S1x1024 .f32 × Vec F S2816x1024 .bf16 × Vec F S2816x1024 .bf16 × Vec F S2816x1024 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v24) (V m c main_v26) (V m c main_v27), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v24) (V m c main_v26) (V m c main_v27), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v24) (V m c main_v26) (V m c main_v27), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v24) (V m c main_v26) (V m c main_v27), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v24) (V m c main_v26) (V m c main_v27), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v24) (V m c main_v26) (V m c main_v27), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v24) (V m c main_v26) (V m c main_v27), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v24) (V m c main_v26) (V m c main_v27), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_v24) (V m c main_v26) (V m c main_v27))
  | n + 1, hn =>
    if h0 : (n + 1) % 17 = 0 then
      if h1 : (n + 1) % 17 = 0 then
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v24) (V m c main_v26) (V m c main_v27), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v24) (V m c main_v26) (V m c main_v27), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v24) (V m c main_v26) (V m c main_v27), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v24) (V m c main_v26) (V m c main_v27), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v24) (V m c main_v26) (V m c main_v27), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v24) (V m c main_v26) (V m c main_v27), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v24) (V m c main_v26) (V m c main_v27), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v24) (V m c main_v26) (V m c main_v27), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (V m c main_v24) (V m c main_v26) (V m c main_v27))
      else
        False.elim (by have hN : n + 1 < 17 := lt_of_lt_of_eq hn (show cfg0.N = 17 from N_0); omega)
    else
      if h1 : (n + 1) % 17 = 0 then
        False.elim (by have hN : n + 1 < 17 := lt_of_lt_of_eq hn (show cfg0.N = 17 from N_0); omega)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v24) (V m c main_v26) (V m c main_v27), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v24) (V m c main_v26) (V m c main_v27), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v24) (V m c main_v26) (V m c main_v27), out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v24) (V m c main_v26) (V m c main_v27), out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v24) (V m c main_v26) (V m c main_v27), out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v24) (V m c main_v26) (V m c main_v27), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v24) (V m c main_v26) (V m c main_v27), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v24) (V m c main_v26) (V m c main_v27), sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v24) (V m c main_v26) (V m c main_v27))

theorem outsAt0_A (c : Dev nD) (t : Fin cfg0.N) (h0 : t.val % 17 = 0) (h1 : t.val % 17 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (V m c main_v24) (V m c main_v26) (V m c main_v27), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (V m c main_v24) (V m c main_v26) (V m c main_v27), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (V m c main_v24) (V m c main_v26) (V m c main_v27), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (V m c main_v24) (V m c main_v26) (V m c main_v27), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (V m c main_v24) (V m c main_v26) (V m c main_v27), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (V m c main_v24) (V m c main_v26) (V m c main_v27), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (V m c main_v24) (V m c main_v26) (V m c main_v27), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (V m c main_v24) (V m c main_v26) (V m c main_v27), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (V m c main_v24) (V m c main_v26) (V m c main_v27)) := by
  obtain ⟨n, hn⟩ := t
  cases n with
  | zero => exact rfl
  | succ n => exact (dif_pos h0).trans ((dif_pos h1).trans rfl)

theorem outsAt0_B (c : Dev nD) (t : Fin cfg0.N) (h0 : ¬t.val % 17 = 0) (h1 : ¬t.val % 17 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v24) (V m c main_v26) (V m c main_v27), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v24) (V m c main_v26) (V m c main_v27), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v24) (V m c main_v26) (V m c main_v27), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v24) (V m c main_v26) (V m c main_v27), out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v24) (V m c main_v26) (V m c main_v27), out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v24) (V m c main_v26) (V m c main_v27), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v24) (V m c main_v26) (V m c main_v27), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v24) (V m c main_v26) (V m c main_v27), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v24) (V m c main_v26) (V m c main_v27)) := by
  obtain ⟨n, hn⟩ := t
  cases n with
  | zero => exact (by exfalso; (try dsimp only at h0); exact absurd (Nat.zero_mod _) h0)
  | succ n => exact (dif_neg h0).trans ((dif_neg h1).trans rfl)

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r) ∗ iprop(semVal ((c : Thread nD τ), SemLoc.dma 19) 0 ∗ semVal ((c : Thread nD τ), SemLoc.dma 20) 0 ∗ semVal ((c : Thread nD τ), SemLoc.dma 21) 0) ∗ iprop(hbPt0 c hbM0_0 (V m c main_v24) ∗ hbPt0 c hbM0_1 (V m c main_v26) ∗ hbPt0 c hbM0_2 (V m c main_v27)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r) ∗ iprop(semVal ((c : Thread nD τ), SemLoc.dma 19) 0 ∗ semVal ((c : Thread nD τ), SemLoc.dma 20) 0 ∗ semVal ((c : Thread nD τ), SemLoc.dma 21) 0) ∗ iprop(hbPt0 c hbM0_0 (V m c main_v24) ∗ hbPt0 c hbM0_1 (V m c main_v26) ∗ hbPt0 c hbM0_2 (V m c main_v27))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2)) ∗ (∃ r, prngReg c r) ∗ iprop(semVal ((c : Thread nD τ), SemLoc.dma 19) 0 ∗ semVal ((c : Thread nD τ), SemLoc.dma 20) 0 ∗ semVal ((c : Thread nD τ), SemLoc.dma 21) 0) ∗ iprop(hbPt0 c hbM0_0 (V m c main_v24) ∗ hbPt0 c hbM0_1 (V m c main_v26) ∗ hbPt0 c hbM0_2 (V m c main_v27))) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
    | ⟨11, _⟩ => (outsAt0 m c t.val t.isLt).2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]
theorem after0_10 (c : Dev nD) (t : Fin cfg0.N) : (dats m 0 c).after 10 t = (outsAt0 m c t.val t.isLt).2.2.2.2.1 := by dsimp only [dats]
theorem after0_11 (c : Dev nD) (t : Fin cfg0.N) : (dats m 0 c).after 11 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_9_B (c : Dev nD) (t : Fin cfg0.N) (h0 : ¬t.val % 17 = 0) (h1 : ¬t.val % 17 = 0) (d) :
    (dats m 0 c).before 9 t d = (outsAt0 m c (t.val - 1) (Nat.lt_of_le_of_lt (Nat.sub_le _ _) t.isLt)).2.2.2.1 := by
  have hN : t.val < 17 := lt_of_lt_of_eq t.isLt (show cfg0.N = 17 from N_0)
  rw [Dat.before_out_kept _ 9 rfl t (by omega) (Bool.eq_false_iff.mpr fun h => by have := (flush0_9 _).mp h; dsimp only at this; omega)
    (fun _ => rfl) (fun _ _ => rfl)]
  dsimp only [dats]
theorem before0_10_B (c : Dev nD) (t : Fin cfg0.N) (h0 : ¬t.val % 17 = 0) (h1 : ¬t.val % 17 = 0) (d) :
    (dats m 0 c).before 10 t d = (outsAt0 m c (t.val - 1) (Nat.lt_of_le_of_lt (Nat.sub_le _ _) t.isLt)).2.2.2.2.1 := by
  have hN : t.val < 17 := lt_of_lt_of_eq t.isLt (show cfg0.N = 17 from N_0)
  rw [Dat.before_out_kept _ 10 rfl t (by omega) (Bool.eq_false_iff.mpr fun h => by have := (flush0_10 _).mp h; dsimp only at this; omega)
    (fun _ => rfl) (fun _ _ => rfl)]
  dsimp only [dats]
theorem before0_11_B (c : Dev nD) (t : Fin cfg0.N) (h0 : ¬t.val % 17 = 0) (h1 : ¬t.val % 17 = 0) (d) :
    (dats m 0 c).before 11 t d = (outsAt0 m c (t.val - 1) (Nat.lt_of_le_of_lt (Nat.sub_le _ _) t.isLt)).2.2.2.2.2.1 := by
  have hN : t.val < 17 := lt_of_lt_of_eq t.isLt (show cfg0.N = 17 from N_0)
  rw [Dat.before_out_kept _ 11 rfl t (by omega) (Bool.eq_false_iff.mpr fun h => by have := (flush0_11 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_succ,
    after0_0, after0_1, after0_2, after0_3, after0_4, after0_5, after0_6, after0_7, after0_8, after0_9, after0_10, after0_11]
  unfold Dat.owesAt Pipeline.owesWithin
  rw [show (dats m 0 c).owed t.castSucc = 0 from rfl, show (dats m 0 c).owed t.succ = 0 from rfl]
  have hN : t.val < 17 := lt_of_lt_of_eq t.isLt (show cfg0.N = 17 from N_0)
  by_cases h0 : t.val % 17 = 0
  · by_cases h1 : t.val % 17 = 0
    · by_cases hz : t.val = 0
      · rw [PhiS_castSucc m c t, PhiS_zero m c _ _ hz, PhiD0_eq]
        rw [outsAt0_A m c t h0 h1]
        unfold out0_A_6 out0_A_7 out0_A_8 out0_A_9 out0_A_10 out0_A_11 sout0_A_0 sout0_A_1 sout0_A_2; (try dsimp only)
        iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (V m c main_v24) (V m c main_v26) (V m c main_v27)).2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hh0]; · iexact Hh0
        isplitl [Hh1]; · iexact Hh1
        isplitl [Hh2]; · iexact Hh2
        isplitl [HW]; · iexact HW
        iintro ⟨H0, H1, H2, H3, H4, H5, ⟨%e6, H6⟩, ⟨%e7, H7⟩, ⟨%e8, H8⟩, ⟨%e9, H9⟩, ⟨%e10, H10⟩, ⟨%e11, H11⟩, ⟨%es0, HS0⟩, ⟨%es1, HS1⟩, ⟨%es2, HS2⟩, Hq0, Hq1, Hq2, Hh0, Hh1, Hh2, ⟨%W', HW'⟩⟩
        isplitl [HS0 HS1 HS2 Hg Hq0 Hq1 Hq2 Hh0 Hh1 Hh2]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _)
          isplitl [Hg]
          · iexact Hg
          isplitl [Hq0 Hq1 Hq2]
          · isplitl [Hq0]; · iexact Hq0
            isplitl [Hq1]; · iexact Hq1
            iexact Hq2
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _)
      · exfalso; have hN : t.val < 17 := lt_of_lt_of_eq t.isLt (show cfg0.N = 17 from N_0); omega
    · exfalso; omega
  · by_cases h1 : t.val % 17 = 0
    · exfalso; omega
    · by_cases hz : t.val = 0
      · exfalso; have hN : t.val < 17 := lt_of_lt_of_eq t.isLt (show cfg0.N = 17 from N_0); omega
      · rw [PhiS_castSucc m c t, PhiS_pos m c _ _ hz]
        rw [outsAt0_B m c t h0 h1]
        simp only [before0_9_B m c t h0 h1, before0_10_B m c t h0 h1, before0_11_B m c t h0 h1]
        unfold out0_B_6 out0_B_7 out0_B_8 out0_B_9 out0_B_10 out0_B_11 sout0_B_0 sout0_B_1 sout0_B_2; (try dsimp only)
        iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _ _ _ _ (V m c main_v24) (V m c main_v26) (V m c main_v27)).2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexact H9
        isplitl [H10]; · iexact H10
        isplitl [H11]; · iexact H11
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hh0]; · iexact Hh0
        isplitl [Hh1]; · iexact Hh1
        isplitl [Hh2]; · iexact Hh2
        isplitl [HW]; · iexact HW
        iintro ⟨H0, H1, H2, H3, H4, H5, ⟨%e6, H6⟩, ⟨%e7, H7⟩, ⟨%e8, H8⟩, ⟨%e9, H9⟩, ⟨%e10, H10⟩, ⟨%e11, H11⟩, HS0, HS1, HS2, Hq0, Hq1, Hq2, Hh0, Hh1, Hh2, ⟨%W', HW'⟩⟩
        isplitl [HS0 HS1 HS2 Hg Hq0 Hq1 Hq2 Hh0 Hh1 Hh2]
        · isplitl [HS0 HS1 HS2]
          · isplitl [HS0]; · iexact HS0
            isplitl [HS1]; · iexact HS1
            iexact HS2
          isplitl [Hg]
          · iexact Hg
          isplitl [Hq0 Hq1 Hq2]
          · isplitl [Hq0]; · iexact Hq0
            isplitl [Hq1]; · iexact Hq1
            iexact Hq2
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2⟩, ⟨Hh0, Hh1, Hh2⟩⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  iexact Hh2

theorem hout (c : Dev nD) : (dats m 0 c).Φ (Fin.last cfg0.N) ⊢ Pipeline.ΦD osem0 spec0 H0 (V m) c :=
  Phi_out m c _ (by rw [Fin.val_last]; have : cfg0.N = 17 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel3Ideal.Gen

end
-- ==== Proof.BackReal.lean ====
/- The feed-forward block's gradient over the reals: the point's parts at an index. -/
module

public import proofs.«01_k».proof.Proof.BackFrame
public import proofs.«01_k».proof.Proof.FfnArray
public import Idealize.ShloMosaic.Lib.Pipeline.ValueKit
public import Idealize.ShloMosaic.Lib.Pipeline.ReadBack

@[expose] public section

set_option maxRecDepth 16384

noncomputable section

namespace Cert.Kernel3Ideal.Back

open Idealize.ShloMosaic Idealize.ShloMosaic.TcCoe Idealize.SL.Sem
open Cert.Kernel3Ideal Cert.Kernel3Ideal.Gen

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- The norm's small constant. -/
def eps : ℝ := (Ideal.ofBits FTy.f32 897988541#32).toReal

theorem eps_coe : Ideal.ofBits FTy.f32 897988541#32 = ((eps : ℝ) : EReal) := by
  refine (EReal.coe_toReal ?_ ?_).symm <;> simp [Ideal.ofBits, Ideal.ieee, -EReal.coe_mul]

theorem eps_pos : 0 < eps := by
  unfold eps
  simp [Ideal.ofBits, Ideal.ieee, -EReal.coe_mul]

theorem wide_coe : Ideal.ofBits FTy.f32 1149239296#32 = ((1024 : ℝ) : EReal) := by
  rw [show (1024 : ℝ) = ((1024 : ℕ) : ℝ) by norm_num]
  simp [Ideal.ofBits, Ideal.ieee, -EReal.coe_mul]
  norm_num

/-- One over the root of the mean square of a row. -/
def rs (x : Fin 1024 → ℝ) : ℝ := (Real.sqrt ((∑ k, x k * x k) / 1024 + eps))⁻¹

/-- The logistic function. -/
def sg (a : ℝ) : ℝ := 1 / (1 + Real.exp (-a))

theorem div_real (a b : ℝ) (h : b ≠ 0) : Ideal.div (a : EReal) (b : EReal) = ((a / b : ℝ) : EReal) := by
  rw [Ideal.div_coe h, ← EReal.coe_mul]
  exact congrArg _ (by ring)

theorem wide_real (a : ℝ) : Ideal.div (a : EReal) (Ideal.ofBits FTy.f32 1149239296#32) = ((a / 1024 : ℝ) : EReal) := by
  rw [wide_coe]
  exact div_real a _ (by norm_num)

theorem ms_pos (x : Fin 1024 → ℝ) : 0 < (∑ k, x k * x k) / 1024 + eps :=
  add_pos_of_nonneg_of_pos (div_nonneg (Finset.sum_nonneg fun k _ => mul_self_nonneg _) (by norm_num)) eps_pos

theorem rs_real (x : Fin 1024 → ℝ) :
    Ideal.rsqrt (Ideal.div (∑ k : Fin 1024, ((x k : ℝ) : EReal) * ((x k : ℝ) : EReal)) (Ideal.ofBits FTy.f32 1149239296#32) + Ideal.ofBits FTy.f32 897988541#32)
      = ((rs x : ℝ) : EReal) := by
  simp only [← EReal.coe_mul, ← coe_sum]
  rw [wide_real, eps_coe, ← EReal.coe_add, Ideal.rsqrt_coe, if_neg (not_lt.mpr (ms_pos x).le), if_neg (ms_pos x).ne']
  rfl

theorem sg_real (a : ℝ) : Ideal.div 1 (1 + Ideal.exp (0 - (a : EReal))) = ((sg a : ℝ) : EReal) := by
  rw [← EReal.coe_zero, ← EReal.coe_one, ← EReal.coe_sub, Ideal.exp_coe, ← EReal.coe_add, div_real _ _ (by positivity), zero_sub]
  rfl

/-- A row's gradient through the root-mean-square normalisation. -/
def rms (x u : Fin 1024 → ℝ) (d : Fin 1024) : ℝ := rs x * (u d - x d * rs x * ((∑ k, u k * (x k * rs x)) / 1024))

/-- The gate's gradient of a hidden unit. -/
def gat (f a b : ℝ) : ℝ := f * b * sg a * (1 + a * (1 - sg a))

/-- The up projection's gradient of a hidden unit. -/
def upg (f a : ℝ) : ℝ := f * (a * sg a)

/-- A hidden unit. -/
def hidr (a b : ℝ) : ℝ := a * sg a * b

/-- The reals of the whole call: the rows, the targets, the gains and the weights. -/
structure Net where
  h : Fin 4352 → Fin 1024 → ℝ
  t : Fin 4096 → Fin 1024 → ℝ
  g : Fin 1024 → ℝ
  k : Fin 1024 → ℝ
  wg : Fin 2816 → Fin 1024 → ℝ
  wu : Fin 2816 → Fin 1024 → ℝ
  wd : Fin 2816 → Fin 1024 → ℝ

namespace Net
variable (N : Net) (r : Fin 4352) (d : Fin 1024) (q : Fin 2816)

/-- The normalised rows. -/
def n2 : ℝ := N.h r d * rs (N.h r) * N.k d

/-- The gate's projection. -/
def a : ℝ := ∑ d, N.n2 r d * N.wg q d

/-- The up projection. -/
def b : ℝ := ∑ d, N.n2 r d * N.wu q d

/-- The block's result. -/
def x : ℝ := N.h r d + ∑ q, hidr (N.a r q) (N.b r q) * N.wd q d

/-- The head's difference, zero in the context rows. -/
def e : ℝ := if z : r.val < 256 then 0 else N.x r d * rs (N.x r) * N.g d - N.t ⟨r.val - 256, by omega⟩ d

/-- The gradient of the block's result. -/
def u : ℝ := rms (N.x r) (fun d => N.e r d / 1024 * N.g d) d

/-- The hidden units' gradient. -/
def f : ℝ := ∑ d, N.u r d * N.wd q d

/-- The gradient of the normalised rows. -/
def n : ℝ := ∑ q, (gat (N.f r q) (N.a r q) (N.b r q) * N.wg q d + upg (N.f r q) (N.a r q) * N.wu q d)

/-- The gradient of the rows. -/
def rows : ℝ := N.u r d + rms (N.h r) (fun d => N.n r d * N.k d) d

/-- The gate's and up's gradients and the hidden units, one after the other. -/
def parts (p : Fin 8448) : ℝ :=
  if h : p.val < 2816 then gat (N.f r ⟨p.val, h⟩) (N.a r ⟨p.val, h⟩) (N.b r ⟨p.val, h⟩)
  else if h : p.val < 5632 then upg (N.f r ⟨p.val - 2816, by omega⟩) (N.a r ⟨p.val - 2816, by omega⟩)
  else hidr (N.a r ⟨p.val - 5632, by omega⟩) (N.b r ⟨p.val - 5632, by omega⟩)

/-- A row's part of the loss. -/
def rowLoss : ℝ := 1 / 2 * (∑ d, N.e r d * N.e r d) / 1024

/-- A row's part of the head's gain's gradient. -/
def rowHead : ℝ := N.e r d / 1024 * (N.x r d * rs (N.x r))

/-- A row's part of the gain's gradient. -/
def rowGain : ℝ := N.n r d * (N.h r d * rs (N.h r))

end Net

/-- A hidden unit of the first half. -/
def lo (q : Fin 1408) : Fin 2816 := ⟨0 + q.val, by omega⟩

/-- A hidden unit of the second half. -/
def hi (q : Fin 1408) : Fin 2816 := ⟨1408 + q.val, by omega⟩

theorem half_coe : Ideal.ofBits FTy.f32 1056964608#32 = ((1 / 2 : ℝ) : EReal) := by
  simp [Ideal.ofBits, Ideal.ieee, -EReal.coe_mul]
  norm_num

/-- The arrays a point reads, with the reals they hold. -/
structure Tile where
  i : grid0.Coords
  X : FVec Ideal S256x1024 .f32
  T : FVec Ideal S256x1024 .f32
  H : FVec Ideal S256x1024 .f32
  G : FVec Ideal S1x1024 .f32
  K : FVec Ideal S1x1024 .f32
  a0 : FVec Ideal S256x1408 .bf16
  a1 : FVec Ideal S256x1408 .bf16
  b0 : FVec Ideal S256x1408 .bf16
  b1 : FVec Ideal S256x1408 .bf16
  d0 : FVec Ideal S1408x1024 .bf16
  d1 : FVec Ideal S1408x1024 .bf16
  g0 : FVec Ideal S1408x1024 .bf16
  g1 : FVec Ideal S1408x1024 .bf16
  u0 : FVec Ideal S1408x1024 .bf16
  u1 : FVec Ideal S1408x1024 .bf16
  x : Fin 256 → Fin 1024 → ℝ
  t : Fin 256 → Fin 1024 → ℝ
  h : Fin 256 → Fin 1024 → ℝ
  g : Fin 1024 → ℝ
  k : Fin 1024 → ℝ
  a : Fin 256 → Fin 2816 → ℝ
  b : Fin 256 → Fin 2816 → ℝ
  wd : Fin 2816 → Fin 1024 → ℝ
  wg : Fin 2816 → Fin 1024 → ℝ
  wu : Fin 2816 → Fin 1024 → ℝ
  hX : ∀ R d, (X (ix2 R d) : EReal) = (x R d : ℝ)
  hT : ∀ R d, (T (ix2 R d) : EReal) = (t R d : ℝ)
  hH : ∀ R d, (H (ix2 R d) : EReal) = (h R d : ℝ)
  hG : ∀ d, (G (ix2 0 d) : EReal) = (g d : ℝ)
  hK : ∀ d, (K (ix2 0 d) : EReal) = (k d : ℝ)
  ha0 : ∀ R (q : Fin 1408), (a0 (ix2 R q) : EReal) = (a R (lo q) : ℝ)
  ha1 : ∀ R (q : Fin 1408), (a1 (ix2 R q) : EReal) = (a R (hi q) : ℝ)
  hb0 : ∀ R (q : Fin 1408), (b0 (ix2 R q) : EReal) = (b R (lo q) : ℝ)
  hb1 : ∀ R (q : Fin 1408), (b1 (ix2 R q) : EReal) = (b R (hi q) : ℝ)
  hd0 : ∀ (q : Fin 1408) d, (d0 (ix2 q d) : EReal) = (wd (lo q) d : ℝ)
  hd1 : ∀ (q : Fin 1408) d, (d1 (ix2 q d) : EReal) = (wd (hi q) d : ℝ)
  hg0 : ∀ (q : Fin 1408) d, (g0 (ix2 q d) : EReal) = (wg (lo q) d : ℝ)
  hg1 : ∀ (q : Fin 1408) d, (g1 (ix2 q d) : EReal) = (wg (hi q) d : ℝ)
  hu0 : ∀ (q : Fin 1408) d, (u0 (ix2 q d) : EReal) = (wu (lo q) d : ℝ)
  hu1 : ∀ (q : Fin 1408) d, (u1 (ix2 q d) : EReal) = (wu (hi q) d : ℝ)

namespace Tile
variable (P : Tile) (R : Fin 256) (d : Fin 1024) (q : Fin 1408)

/-- The head's difference, with the context rows put to zero. -/
def e (R : Fin 256) (d : Fin 1024) : ℝ := if (P.i 0).val = 0 then 0 else P.x R d * rs (P.x R) * P.g d - P.t R d

/-- The gradient of the block's result. -/
def u (R : Fin 256) (d : Fin 1024) : ℝ := rms (P.x R) (fun k => P.e R k / 1024 * P.g k) d

/-- The hidden units' gradient. -/
def f (R : Fin 256) (q : Fin 2816) : ℝ := ∑ k, P.u R k * P.wd q k

/-- The gradient of the normalised rows. -/
def n (R : Fin 256) (d : Fin 1024) : ℝ := ∑ q, (gat (P.f R q) (P.a R q) (P.b R q) * P.wg q d + upg (P.f R q) (P.a R q) * P.wu q d)

/-- The tile's loss. -/
def l : ℝ := 1 / 2 * (∑ R : Fin 256, ∑ d : Fin 1024, P.e R d * P.e R d) / 1024

abbrev E5 := k0_pay5 (F := Ideal) P.X
abbrev E6 := k0_pay6 (F := Ideal) P.X
abbrev E7 := k0_pay7 (F := Ideal) P.i P.X P.G P.T
abbrev E14 := k0_pay14 (F := Ideal) P.E5 P.E6 P.E7 P.G
abbrev E16 := k0_pay16 (F := Ideal) P.E5 P.E6 P.E7 P.G P.d0
abbrev E27 := k0_pay27 (F := Ideal) k0_pay15 P.E16 (k0_pay17 (F := Ideal) P.a0) (k0_pay18 (F := Ideal) P.b0) P.g0 P.u0
abbrev E34 := k0_pay34 (F := Ideal) P.E14 P.d1 (constant S256x1408 FTy.f32 0#32) P.a1
abbrev E38 := k0_pay38 (F := Ideal) P.E14 P.E27 P.d1 (constant S256x1408 FTy.f32 0#32) P.a1 P.b1 P.g1

theorem p5 : (P.E5 (ix2 R (0 : Fin 1)) : EReal) = (rs (P.x R) : ℝ) := by
  pointwise [k0_pay5, k0_pay4]
  simp only [P.hX]
  exact rs_real _

theorem p6 : (P.E6 (ix2 R d) : EReal) = (P.x R d * rs (P.x R) : ℝ) := by
  pointwise [k0_pay6, k0_pay4]
  simp only [p5, P.hX, ← EReal.coe_mul]

theorem p7 : (P.E7 (ix2 R d) : EReal) = (P.e R d : ℝ) := by
  pointwise [k0_pay7]
  simp only [p6, P.hG, P.hT, ← EReal.coe_mul, ← EReal.coe_sub]
  have hi : (P.i 0).val < 17 := (P.i 0).isLt
  unfold e
  by_cases z : (P.i 0).val = 0
  · rw [if_pos z, z]
    rfl
  · rw [if_neg z]
    have b : ¬ BitVec.ofNat 32 (P.i 0).val = 0#32 := fun h => z (by
      have := congrArg BitVec.toNat h
      simp only [BitVec.toNat_ofNat] at this
      omega)
    simp only [Scalar.select, Scalar.cmpi, IntOp.cmpi, show (BitVec.ofNat 32 (P.i 0).val == 0#32) = false from beq_eq_false_iff_ne.mpr b]
    exact if_neg (by decide)

theorem p9 (j : S1x128.Idx) : (k0_pay9 (F := Ideal) P.i P.X P.G P.T j : EReal) = (P.l : ℝ) := by
  pointwise [k0_pay9]
  simp only [p7, half_coe, ← EReal.coe_mul, ← coe_sum, wide_real]
  rfl

theorem p12 : (k0_pay12 (F := Ideal) P.E5 P.E6 P.E7 P.G (ix2 R d) : EReal) = (P.u R d : ℝ) := by
  pointwise [k0_pay12, k0_pay11]
  simp only [p5, p6, p7, P.hG, wide_real, ← EReal.coe_mul, ← coe_sum, ← EReal.coe_sub]
  rfl

theorem p14 : (P.E14 (ix2 R d) : EReal) = (P.u R d : ℝ) := by
  pointwise [k0_pay14]
  exact P.p12 R d

theorem p13 (v : FVec Ideal S1x1024 .f32) (r : ℝ) (h : (v (ix2 0 d) : EReal) = r) :
    (k0_pay13 (F := Ideal) P.E6 P.E7 v (ix2 0 d) : EReal) = (r + ∑ R, P.e R d / 1024 * (P.x R d * rs (P.x R)) : ℝ) := by
  pointwise [k0_pay13, k0_pay11]
  simp only [p6, p7, h, wide_real, ← EReal.coe_mul, ← coe_sum, ← EReal.coe_add]

theorem p16 : (P.E16 (ix2 R q) : EReal) = (P.f R (lo q) : ℝ) := by
  pointwise [k0_pay16]
  simp only [p14, P.hd0, ← EReal.coe_mul, ← coe_sum]
  rfl

theorem p17 : (k0_pay17 (F := Ideal) P.a0 (ix2 R q) : EReal) = (P.a R (lo q) : ℝ) := by
  pointwise [k0_pay17]
  exact P.ha0 R q

theorem p18 : (k0_pay18 (F := Ideal) P.b0 (ix2 R q) : EReal) = (P.b R (lo q) : ℝ) := by
  pointwise [k0_pay18]
  exact P.hb0 R q

theorem p22 : (k0_pay22 (F := Ideal) P.E16 (k0_pay17 (F := Ideal) P.a0) (k0_pay18 (F := Ideal) P.b0) (ix2 R q) : EReal)
    = (gat (P.f R (lo q)) (P.a R (lo q)) (P.b R (lo q)) : ℝ) := by
  pointwise [k0_pay22, k0_pay20, k0_pay19]
  simp only [p16, p17, p18, sg_real]
  simp only [← EReal.coe_one, ← EReal.coe_mul, ← EReal.coe_add, ← EReal.coe_sub]
  rfl

theorem p23 : (k0_pay23 (F := Ideal) P.E16 (k0_pay17 (F := Ideal) P.a0) (ix2 R q) : EReal)
    = (upg (P.f R (lo q)) (P.a R (lo q)) : ℝ) := by
  pointwise [k0_pay23, k0_pay21, k0_pay20]
  simp only [p16, p17, sg_real]
  simp only [← EReal.coe_mul]
  rfl

theorem p24 : (k0_pay24 (F := Ideal) P.E16 (k0_pay17 (F := Ideal) P.a0) (k0_pay18 (F := Ideal) P.b0) (ix2 q R) : EReal)
    = (gat (P.f R (lo q)) (P.a R (lo q)) (P.b R (lo q)) : ℝ) := by
  pointwise [k0_pay24]
  exact P.p22 R q

theorem p25 : (k0_pay25 (F := Ideal) P.E16 (k0_pay17 (F := Ideal) P.a0) (ix2 q R) : EReal)
    = (upg (P.f R (lo q)) (P.a R (lo q)) : ℝ) := by
  pointwise [k0_pay25]
  exact P.p23 R q

theorem p26 : (k0_pay26 (F := Ideal) (k0_pay17 (F := Ideal) P.a0) (k0_pay18 (F := Ideal) P.b0) (ix2 q R) : EReal)
    = (hidr (P.a R (lo q)) (P.b R (lo q)) : ℝ) := by
  pointwise [k0_pay26, k0_pay21, k0_pay20, k0_pay19]
  simp only [p17, p18, sg_real]
  simp only [← EReal.coe_mul]
  rfl

theorem p28 : (k0_pay28 (F := Ideal) P.E14 P.d1 (constant S256x1408 FTy.f32 0#32) (ix2 R q) : EReal) = (P.f R (hi q) : ℝ) := by
  pointwise [k0_pay28]
  simp only [p14, P.hd1, ← EReal.coe_mul, ← coe_sum]
  rfl

theorem p33 : (k0_pay33 (F := Ideal) P.E14 P.d1 (constant S256x1408 FTy.f32 0#32) P.a1 P.b1 (ix2 R q) : EReal)
    = (gat (P.f R (hi q)) (P.a R (hi q)) (P.b R (hi q)) : ℝ) := by
  pointwise [k0_pay33, k0_pay31, k0_pay30, k0_pay29]
  simp only [p28, P.ha1, P.hb1, sg_real]
  simp only [← EReal.coe_one, ← EReal.coe_mul, ← EReal.coe_add, ← EReal.coe_sub]
  rfl

theorem p34 : (P.E34 (ix2 R q) : EReal) = (upg (P.f R (hi q)) (P.a R (hi q)) : ℝ) := by
  pointwise [k0_pay34, k0_pay32, k0_pay31, k0_pay29]
  simp only [p28, P.ha1, sg_real]
  simp only [← EReal.coe_mul]
  rfl

theorem p35 : (k0_pay35 (F := Ideal) P.E14 P.d1 (constant S256x1408 FTy.f32 0#32) P.a1 P.b1 (ix2 q R) : EReal)
    = (gat (P.f R (hi q)) (P.a R (hi q)) (P.b R (hi q)) : ℝ) := by
  pointwise [k0_pay35]
  exact P.p33 R q

theorem p36 : (k0_pay36 (F := Ideal) P.E14 P.d1 (constant S256x1408 FTy.f32 0#32) P.a1 (ix2 q R) : EReal)
    = (upg (P.f R (hi q)) (P.a R (hi q)) : ℝ) := by
  pointwise [k0_pay36]
  exact P.p34 R q

theorem p37 : (k0_pay37 (F := Ideal) P.a1 P.b1 (ix2 q R) : EReal)
    = (hidr (P.a R (hi q)) (P.b R (hi q)) : ℝ) := by
  pointwise [k0_pay37, k0_pay32, k0_pay31, k0_pay30, k0_pay29]
  simp only [P.ha1, P.hb1, sg_real]
  simp only [← EReal.coe_mul]
  rfl

theorem halves (f : Fin 2816 → ℝ) :
    (∑ q : Fin 1408, f (lo q)) + (∑ q : Fin 1408, f (hi q)) = ∑ q : Fin 2816, f q := by
  refine ((Fin.sum_univ_add (a := 1408) (b := 1408) f).trans (congrArg₂ (· + ·) ?_ ?_)).symm
  · exact Finset.sum_congr rfl fun q _ => congrArg f (Fin.ext (by simp [lo]))
  · exact Finset.sum_congr rfl fun q _ => congrArg f (Fin.ext (by simp [hi, Nat.add_comm]))

theorem p39 : (k0_pay39 (F := Ideal) P.E34 P.E38 P.u1 (ix2 R d) : EReal) = (P.n R d : ℝ) := by
  pointwise [k0_pay39, k0_pay38, k0_pay27, k0_pay15]
  simp only [p22, p23, p33, p34, P.hg0, P.hg1, P.hu0, P.hu1, ← EReal.coe_mul, ← coe_sum, ← EReal.coe_add, ← EReal.coe_zero]
  refine congrArg _ ?_
  unfold n
  rw [← halves, Finset.sum_add_distrib, Finset.sum_add_distrib]
  ring

theorem p40 : (k0_pay40 (F := Ideal) P.H (ix2 R (0 : Fin 1)) : EReal) = (rs (P.h R) : ℝ) := by
  pointwise [k0_pay40]
  simp only [P.hH]
  exact rs_real _

theorem p41 : (k0_pay41 (F := Ideal) P.H (ix2 R d) : EReal) = (P.h R d * rs (P.h R) : ℝ) := by
  pointwise [k0_pay41]
  simp only [p40, P.hH, ← EReal.coe_mul]

theorem p42 (v : FVec Ideal S1x1024 .f32) (r : ℝ) (h : (v (ix2 0 d) : EReal) = r) :
    (k0_pay42 (F := Ideal) P.E34 P.E38 P.u1 P.H v (ix2 0 d) : EReal) = (r + ∑ R, P.n R d * (P.h R d * rs (P.h R)) : ℝ) := by
  pointwise [k0_pay42]
  simp only [p39, p41, h, ← EReal.coe_mul, ← coe_sum, ← EReal.coe_add]

theorem p43 : (k0_pay43 (F := Ideal) (k0_pay12 (F := Ideal) P.E5 P.E6 P.E7 P.G) P.E34 P.E38 P.u1 P.H P.K (ix2 R d) : EReal)
    = (P.u R d + rms (P.h R) (fun k => P.n R k * P.k k) d : ℝ) := by
  pointwise [k0_pay43]
  simp only [p12, p39, p40, p41, P.hK, wide_real, ← EReal.coe_mul, ← coe_sum, ← EReal.coe_sub, ← EReal.coe_add]
  rfl

end Tile

end Cert.Kernel3Ideal.Back
-- ==== Proof.BackRef.lean ====
/- The feed-forward block's gradient in the reference: every array read at an index, over the reals. -/
module

public import proofs.«01_k».proof.Proof.Gen.Reference3Ideal.Read
public import proofs.«01_k».proof.Proof.BackReal
public import Idealize.ShloMosaic.Lib.KernelVsHost

@[expose] public section

set_option maxRecDepth 16384
set_option maxHeartbeats 1000000

noncomputable section

namespace Cert.Reference3Ideal.Back

open Idealize.ShloMosaic Idealize.ShloMosaic.TcCoe Idealize.SL.Sem
open Cert.Reference3Ideal Cert.Reference3Ideal.Gen Cert.Reference3Ideal.Read
open Cert.Kernel3Ideal.Back (Net rs sg rms gat upg hidr eps eps_coe eps_pos wide_coe wide_real div_real coe_sum rs_real sg_real ms_pos half_coe)

/-- The mean square of a row and the small constant. -/
def ms (x : Fin 1024 → ℝ) : ℝ := (∑ k, x k * x k) / 1024 + eps

/-- A row's gradient through the normalisation, as the reference adds it up. -/
def vjp (x u : Fin 1024 → ℝ) (d : Fin 1024) : ℝ :=
  u d * rs x + x d * ((∑ k, x k * u k) * (-(1 / 2) * (rs x / ms x)) / 1024) + (∑ k, x k * u k) * (-(1 / 2) * (rs x / ms x)) / 1024 * x d

theorem cube (x : Fin 1024 → ℝ) : rs x / ms x = rs x * rs x * rs x := by
  have p : 0 < ms x := ms_pos x
  have q : Real.sqrt (ms x) * Real.sqrt (ms x) = ms x := Real.mul_self_sqrt p.le
  have e : rs x = (Real.sqrt (ms x))⁻¹ := rfl
  have z : Real.sqrt (ms x) ≠ 0 := (Real.sqrt_pos.mpr p).ne'
  rw [e, div_eq_mul_inv]
  have w : (ms x)⁻¹ = (Real.sqrt (ms x))⁻¹ * (Real.sqrt (ms x))⁻¹ := by
    rw [← mul_inv, q]
  rw [w]
  ring

theorem vjp_eq (x u : Fin 1024 → ℝ) (d : Fin 1024) : vjp x u d = rms x u d := by
  have e : ∑ k, u k * (x k * rs x) = (∑ k, x k * u k) * rs x := by
    rw [Finset.sum_mul]
    exact Finset.sum_congr rfl fun k _ => by ring
  unfold vjp rms
  rw [e, cube]
  ring

theorem neg_half_coe : Ideal.ofBits FTy.f32 3204448256#32 = ((-(1 / 2) : ℝ) : EReal) := by
  simp [Ideal.ofBits, Ideal.ieee, -EReal.coe_mul]
  norm_num

theorem two_coe : Ideal.ofBits FTy.f32 1073741824#32 = ((2 : ℝ) : EReal) := by
  simp [Ideal.ofBits, Ideal.ieee, -EReal.coe_mul]
  norm_num

theorem ms_real (x : Fin 1024 → ℝ) :
    Ideal.div (∑ k : Fin 1024, ((x k : ℝ) : EReal) * ((x k : ℝ) : EReal)) (Ideal.ofBits FTy.f32 1149239296#32) + Ideal.ofBits FTy.f32 897988541#32
      = ((ms x : ℝ) : EReal) := by
  simp only [← EReal.coe_mul, ← coe_sum]
  rw [wide_real, eps_coe, ← EReal.coe_add]
  rfl

variable {x0 : FVec Ideal S4352x1024 .f32} {x1 : FVec Ideal S4096x1024 .f32} {x2 x3 : FVec Ideal S1024 .f32}
  {x4 x5 : FVec Ideal S1024x2816 .f32} {x6 : FVec Ideal S2816x1024 .f32} {N : Net}

/-- The arguments hold the reals. -/
structure Args (x0 : FVec Ideal S4352x1024 .f32) (x1 : FVec Ideal S4096x1024 .f32) (x2 x3 : FVec Ideal S1024 .f32)
    (x4 x5 : FVec Ideal S1024x2816 .f32) (x6 : FVec Ideal S2816x1024 .f32) (N : Net) : Prop where
  h : ∀ r d, @Eq EReal (x0 (ix2 r d)) ((N.h r d : ℝ) : EReal)
  t : ∀ r d, @Eq EReal (x1 (ix2 r d)) ((N.t r d : ℝ) : EReal)
  g : ∀ d, @Eq EReal (x2 (ix1 d)) ((N.g d : ℝ) : EReal)
  k : ∀ d, @Eq EReal (x3 (ix1 d)) ((N.k d : ℝ) : EReal)
  wg : ∀ q d, @Eq EReal (x4 (ix2 d q)) ((N.wg q d : ℝ) : EReal)
  wu : ∀ q d, @Eq EReal (x5 (ix2 d q)) ((N.wu q d : ℝ) : EReal)
  wd : ∀ q d, @Eq EReal (x6 (ix2 q d)) ((N.wd q d : ℝ) : EReal)

variable (A : Args x0 x1 x2 x3 x4 x5 x6 N) (r : Fin 4352) (d : Fin 1024) (q : Fin 2816)
include A

theorem v7 : @Eq EReal (val_main_v7 (F := Ideal) x0 (ix2 r 0)) ((rs (N.h r) : ℝ) : EReal) := by
  refine Eq.trans ?_ (rs_real (N.h r))
  pointwise [val_main_v7, val_main_v6, val_main_v5, val_main_v4, val_main_v3, val_main_v2, val_main_v1, val_main_v0, val_main_cst, val_main_cst_0, val_main_cst_1, A.h]

theorem v6 : @Eq EReal (val_main_v6 (F := Ideal) x0 (ix2 r 0)) ((ms (N.h r) : ℝ) : EReal) := by
  refine Eq.trans ?_ (ms_real (N.h r))
  pointwise [val_main_v6, val_main_v5, val_main_v4, val_main_v3, val_main_v2, val_main_v1, val_main_v0, val_main_cst, val_main_cst_0, val_main_cst_1, A.h]

theorem v10 : @Eq EReal (val_main_v10 (F := Ideal) x0 (ix2 r 0)) ((-(1 / 2) * (rs (N.h r) / ms (N.h r)) : ℝ) : EReal) := by
  rw [EReal.coe_mul, ← div_real _ _ (show ms (N.h r) ≠ 0 from (ms_pos _).ne'), ← neg_half_coe]
  pointwise [val_main_v10, val_main_v9, val_main_v8, val_main_cst_2, v6 A, v7 A]

theorem v12 : @Eq EReal (val_main_v12 (F := Ideal) x0 (ix2 r d)) ((N.h r d * rs (N.h r) : ℝ) : EReal) := by
  rw [EReal.coe_mul]
  pointwise [val_main_v12, val_main_v11, v7 A, A.h]

theorem v15 : @Eq EReal (val_main_v15 (F := Ideal) x0 x3 (ix2 r d)) ((N.n2 r d : ℝ) : EReal) := by
  unfold Net.n2
  rw [EReal.coe_mul]
  pointwise [val_main_v15, val_main_v14, val_main_v13, v12 A, A.k]

theorem v16 : @Eq EReal (val_main_v16 (F := Ideal) x0 x3 x4 (ix2 r q)) ((N.a r q : ℝ) : EReal) := by
  unfold Net.a
  simp only [coe_sum, EReal.coe_mul]
  pointwise [val_main_v16, v15 A, A.wg]

theorem v17 : @Eq EReal (val_main_v17 (F := Ideal) x0 x3 x5 (ix2 r q)) ((N.b r q : ℝ) : EReal) := by
  unfold Net.b
  simp only [coe_sum, EReal.coe_mul]
  pointwise [val_main_v17, v15 A, A.wu]

theorem v18_2 : @Eq EReal (val_main_v18_2 (F := Ideal) x0 x3 x4 (ix2 r q)) ((sg (N.a r q) : ℝ) : EReal) := by
  rw [← sg_real, zero_sub]
  pointwise [val_main_v18_2, val_main_call0_v4, val_main_call0_v3, val_main_call0_v2, val_main_call0_v1, val_main_call0_v0, val_main_call0_cst, val_main_call0_cst_0, v16 A]

theorem v18_1 : @Eq EReal (val_main_v18_1 (F := Ideal) x0 x3 x4 (ix2 r q)) ((sg (N.a r q) * (1 - sg (N.a r q)) : ℝ) : EReal) := by
  rw [EReal.coe_mul, EReal.coe_sub, EReal.coe_one]
  pointwise [val_main_v18_1, val_main_call0_v7, val_main_call0_v6, val_main_call0_cst_1, v18_2 A]

theorem v18_0 : @Eq EReal (val_main_v18_0 (F := Ideal) x0 x3 x4 (ix2 r q)) ((N.a r q * sg (N.a r q) : ℝ) : EReal) := by
  rw [EReal.coe_mul]
  pointwise [val_main_v18_0, v18_2 A, v16 A]

theorem v19 : @Eq EReal (val_main_v19 (F := Ideal) x0 x3 x4 x5 (ix2 r q)) ((hidr (N.a r q) (N.b r q) : ℝ) : EReal) := by
  unfold hidr
  rw [EReal.coe_mul]
  pointwise [val_main_v19, v18_0 A, v17 A]

theorem v21 : @Eq EReal (val_main_v21 (F := Ideal) x0 x3 x4 x5 x6 (ix2 r d)) ((N.x r d : ℝ) : EReal) := by
  unfold Net.x
  simp only [EReal.coe_add, coe_sum, EReal.coe_mul]
  pointwise [val_main_v21, val_main_v20, v19 A, A.h, A.wd]

theorem v29 : @Eq EReal (val_main_v29 (F := Ideal) x0 x3 x4 x5 x6 (ix2 r 0)) ((rs (N.x r) : ℝ) : EReal) := by
  refine Eq.trans ?_ (rs_real (N.x r))
  pointwise [val_main_v29, val_main_v28, val_main_v27, val_main_v26, val_main_v25, val_main_v24, val_main_v23, val_main_v22, val_main_cst_3, val_main_cst_4, val_main_cst_5, v21 A]

theorem v28 : @Eq EReal (val_main_v28 (F := Ideal) x0 x3 x4 x5 x6 (ix2 r 0)) ((ms (N.x r) : ℝ) : EReal) := by
  refine Eq.trans ?_ (ms_real (N.x r))
  pointwise [val_main_v28, val_main_v27, val_main_v26, val_main_v25, val_main_v24, val_main_v23, val_main_v22, val_main_cst_3, val_main_cst_4, val_main_cst_5, v21 A]

theorem v32 : @Eq EReal (val_main_v32 (F := Ideal) x0 x3 x4 x5 x6 (ix2 r 0)) ((-(1 / 2) * (rs (N.x r) / ms (N.x r)) : ℝ) : EReal) := by
  rw [EReal.coe_mul, ← div_real _ _ (show ms (N.x r) ≠ 0 from (ms_pos _).ne'), ← neg_half_coe]
  pointwise [val_main_v32, val_main_v31, val_main_v30, val_main_cst_6, v28 A, v29 A]

theorem v34 : @Eq EReal (val_main_v34 (F := Ideal) x0 x3 x4 x5 x6 (ix2 r d)) ((N.x r d * rs (N.x r) : ℝ) : EReal) := by
  rw [EReal.coe_mul]
  pointwise [val_main_v34, val_main_v33, v29 A, v21 A]

theorem v37 : @Eq EReal (val_main_v37 (F := Ideal) x0 x2 x3 x4 x5 x6 (ix2 r d)) ((N.x r d * rs (N.x r) * N.g d : ℝ) : EReal) := by
  rw [EReal.coe_mul]
  pointwise [val_main_v37, val_main_v36, val_main_v35, v34 A, A.g]

omit A in
/-- The row a target's row is. -/
def up (t : Fin 4096) : Fin 4352 := ⟨256 + t.val, by omega⟩

theorem v38 (t : Fin 4096) : @Eq EReal (val_main_v38 (F := Ideal) x0 x2 x3 x4 x5 x6 (ix2 t d)) ((N.x (up t) d * rs (N.x (up t)) * N.g d : ℝ) : EReal) := by
  rw [val_main_v38_apply, ← v37 A (up t) d]
  refine congrArg _ (funext fun a => ?_)
  fin_cases a <;> rfl

omit A in
theorem e_up (t : Fin 4096) : N.e (up t) d = N.x (up t) d * rs (N.x (up t)) * N.g d - N.t t d := by
  unfold Net.e
  rw [dif_neg (show ¬ (up t).val < 256 by unfold up; simp)]
  have e : (⟨(up t).val - 256, by have := (up t).isLt; omega⟩ : Fin 4096) = t := Fin.ext (show 256 + t.val - 256 = t.val by omega)
  exact congrArg (fun z => N.x (up t) d * rs (N.x (up t)) * N.g d - N.t z d) e

theorem v39 (t : Fin 4096) : @Eq EReal (val_main_v39 (F := Ideal) x0 x1 x2 x3 x4 x5 x6 (ix2 t d)) ((N.e (up t) d : ℝ) : EReal) := by
  rw [e_up, EReal.coe_sub]
  pointwise [val_main_v39, v38 A, A.t]

theorem v47 (j : S_.Idx) : @Eq EReal (val_main_v47 (F := Ideal) x0 x1 x2 x3 x4 x5 x6 j) ((∑ r, N.rowLoss r : ℝ) : EReal) := by
  have e : (∑ r, N.rowLoss r) = 1 / 2 * ∑ t : Fin 4096, (∑ d, N.e (up t) d * N.e (up t) d) / 1024 := by
    have s := Fin.sum_univ_add (a := 256) (b := 4096) (fun r => N.rowLoss r)
    refine Eq.trans s ?_
    have z : ∀ i : Fin 256, N.rowLoss (Fin.castAdd 4096 i) = 0 := by
      intro i
      unfold Net.rowLoss Net.e
      simp [i.isLt]
    rw [Finset.sum_congr rfl fun i _ => z i, Finset.sum_const_zero, zero_add, Finset.mul_sum]
    refine Finset.sum_congr rfl fun t _ => ?_
    show 1 / 2 * (∑ d, N.e (up t) d * N.e (up t) d) / 1024 = _
    ring
  rw [e, EReal.coe_mul, coe_sum, ← half_coe]
  simp only [← wide_real, coe_sum, EReal.coe_mul]
  pointwise [val_main_v47, val_main_v46, val_main_v45, val_main_v44, val_main_v43, val_main_v40, val_main_cst_7, val_main_cst_8, val_main_cst_9, val_main_cst_10, val_main_cst_11, v39 A]

theorem v53 (t : Fin 4096) : @Eq EReal (val_main_v53 (F := Ideal) x0 x1 x2 x3 x4 x5 x6 (ix2 t d)) ((N.e (up t) d / 1024 : ℝ) : EReal) := by
  have e : N.e (up t) d / 1024 = 1 / 2 * 1 / 1024 * (2 * N.e (up t) d) := by ring
  rw [e, EReal.coe_mul, ← wide_real, EReal.coe_mul, ← half_coe, EReal.coe_mul, ← two_coe, EReal.coe_one]
  pointwise [val_main_v53, val_main_v52, val_main_v51, val_main_v50, val_main_v49, val_main_v48, val_main_v42, val_main_v41, val_main_cst_7, val_main_cst_12, val_main_cst_13, val_main_cst_14, v39 A]

theorem v54 : @Eq EReal (val_main_v54 (F := Ideal) x0 x1 x2 x3 x4 x5 x6 (ix2 r d)) ((N.e r d / 1024 : ℝ) : EReal) := by
  unfold val_main_v54
  by_cases h : r.val < 256
  · rw [pad_apply_of_not_inside _ _ _ _ _ _ _ _ (0 : Fin 2) (fun hc => absurd hc.1 (show ¬ 256 ≤ r.val by omega))]
    unfold Net.e
    rw [dif_pos h, zero_div, EReal.coe_zero]
    pointwise [val_main_cst_15]
  · have e : up ⟨r.val - 256, by omega⟩ = r := Fin.ext (show 256 + (r.val - 256) = r.val by omega)
    have v := v53 A d ⟨r.val - 256, by omega⟩
    rw [e] at v
    rw [← v]
    refine pad_apply_of_inside _ _ _ _ _ _ _ _ (ix2 ⟨r.val - 256, by omega⟩ d) fun a => ?_
    fin_cases a
    · show r.val = 256 + (r.val - 256) * (0 + 1)
      omega
    · show d.val = 0 + d.val * (0 + 1)
      omega

theorem v60 : @Eq EReal (val_main_v60 (F := Ideal) x0 x1 x2 x3 x4 x5 x6 (ix1 d)) ((∑ r, N.rowHead r d : ℝ) : EReal) := by
  have e : (∑ r, N.rowHead r d) = ∑ r, N.x r d * rs (N.x r) * (N.e r d / 1024) := Finset.sum_congr rfl fun r _ => mul_comm _ _
  rw [e, coe_sum]
  simp only [EReal.coe_mul (_ * _) _]
  pointwise [val_main_v60, val_main_v57, val_main_v56, val_main_v55, val_main_cst_16, val_main_cst_17, v34 A, v54 A]
  exact Fin.sum_univ_one _

theorem v59 : @Eq EReal (val_main_v59 (F := Ideal) x0 x1 x2 x3 x4 x5 x6 (ix2 r d)) ((N.e r d / 1024 * N.g d : ℝ) : EReal) := by
  rw [EReal.coe_mul]
  pointwise [val_main_v59, val_main_v58, val_main_v35, v54 A, A.g]

theorem v62 : @Eq EReal (val_main_v62 (F := Ideal) x0 x1 x2 x3 x4 x5 x6 (ix1 r)) ((∑ d, N.x r d * (N.e r d / 1024 * N.g d) : ℝ) : EReal) := by
  rw [coe_sum]
  simp only [EReal.coe_mul (N.x r _) _]
  pointwise [val_main_v62, val_main_v61, val_main_cst_18, v21 A, v59 A]

theorem v69 : @Eq EReal (val_main_v69 (F := Ideal) x0 x1 x2 x3 x4 x5 x6 (ix1 r))
    (((∑ d, N.x r d * (N.e r d / 1024 * N.g d)) * (-(1 / 2) * (rs (N.x r) / ms (N.x r))) / 1024 : ℝ) : EReal) := by
  rw [← wide_real, EReal.coe_mul]
  pointwise [val_main_v69, val_main_v68, val_main_v67, val_main_v66, val_main_v63, val_main_cst_19, val_main_cst_20, v62 A]
  rw [Fin.sum_univ_one, v32 A]

theorem v74 : @Eq EReal (val_main_v74 (F := Ideal) x0 x1 x2 x3 x4 x5 x6 (ix2 r d)) ((N.u r d : ℝ) : EReal) := by
  unfold Net.u
  rw [← vjp_eq]
  unfold vjp
  rw [EReal.coe_add, EReal.coe_add, EReal.coe_mul (N.e r d / 1024 * N.g d), EReal.coe_mul (N.x r d), EReal.coe_mul _ (N.x r d)]
  pointwise [val_main_v74, val_main_v73, val_main_v72, val_main_v71, val_main_v70, val_main_v65, val_main_v64, v59 A, v29 A, v21 A, v69 A]

theorem v75 : @Eq EReal (val_main_v75 (F := Ideal) x0 x1 x2 x3 x4 x5 x6 (ix2 r q)) ((N.f r q : ℝ) : EReal) := by
  unfold Net.f
  simp only [coe_sum, EReal.coe_mul]
  pointwise [val_main_v75, v74 A, A.wd]

theorem v76 : @Eq EReal (val_main_v76 (F := Ideal) x0 x1 x2 x3 x4 x5 x6 (ix2 r q)) ((upg (N.f r q) (N.a r q) : ℝ) : EReal) := by
  unfold upg
  rw [mul_comm, EReal.coe_mul]
  pointwise [val_main_v76, v75 A, v18_0 A]

theorem v77 : @Eq EReal (val_main_v77 (F := Ideal) x0 x1 x2 x3 x4 x5 x6 (ix2 r q)) ((N.f r q * N.b r q : ℝ) : EReal) := by
  rw [EReal.coe_mul]
  pointwise [val_main_v77, v75 A, v17 A]

theorem v78 : @Eq EReal (val_main_v78 (F := Ideal) x0 x1 x2 x3 x4 x5 x6 (ix2 r q)) ((gat (N.f r q) (N.a r q) (N.b r q) : ℝ) : EReal) := by
  have e : gat (N.f r q) (N.a r q) (N.b r q)
      = N.f r q * N.b r q * sg (N.a r q) + N.a r q * (N.f r q * N.b r q) * (sg (N.a r q) * (1 - sg (N.a r q))) := by
    unfold gat
    ring
  rw [e, EReal.coe_add, EReal.coe_mul (N.f r q * N.b r q), EReal.coe_mul (N.a r q * (N.f r q * N.b r q)), EReal.coe_mul (N.a r q)]
  pointwise [val_main_v78, val_main_call1_v0, val_main_call1_v1, val_main_call1_v2, v77 A, v18_2 A, v18_1 A, v16 A]

theorem v81 : @Eq EReal (val_main_v81 (F := Ideal) x0 x1 x2 x3 x4 x5 x6 (ix2 r d)) ((N.n r d : ℝ) : EReal) := by
  unfold Net.n
  rw [Finset.sum_add_distrib, add_comm]
  simp only [EReal.coe_add, coe_sum, EReal.coe_mul]
  pointwise [val_main_v81, val_main_v80, val_main_v79, v76 A, v78 A, A.wg, A.wu]

theorem v87 : @Eq EReal (val_main_v87 (F := Ideal) x0 x1 x2 x3 x4 x5 x6 (ix1 d)) ((∑ r, N.rowGain r d : ℝ) : EReal) := by
  have e : (∑ r, N.rowGain r d) = ∑ r, N.h r d * rs (N.h r) * N.n r d := Finset.sum_congr rfl fun r _ => mul_comm _ _
  rw [e, coe_sum]
  simp only [EReal.coe_mul (_ * _) _]
  pointwise [val_main_v87, val_main_v84, val_main_v83, val_main_v82, val_main_cst_21, val_main_cst_22, v12 A, v81 A]
  exact Fin.sum_univ_one _

theorem v86 : @Eq EReal (val_main_v86 (F := Ideal) x0 x1 x2 x3 x4 x5 x6 (ix2 r d)) ((N.n r d * N.k d : ℝ) : EReal) := by
  rw [EReal.coe_mul]
  pointwise [val_main_v86, val_main_v85, val_main_v13, v81 A, A.k]

theorem v89 : @Eq EReal (val_main_v89 (F := Ideal) x0 x1 x2 x3 x4 x5 x6 (ix1 r)) ((∑ d, N.h r d * (N.n r d * N.k d) : ℝ) : EReal) := by
  rw [coe_sum]
  simp only [EReal.coe_mul (N.h r _) _]
  pointwise [val_main_v89, val_main_v88, val_main_cst_23, A.h, v86 A]

theorem v96 : @Eq EReal (val_main_v96 (F := Ideal) x0 x1 x2 x3 x4 x5 x6 (ix1 r))
    (((∑ d, N.h r d * (N.n r d * N.k d)) * (-(1 / 2) * (rs (N.h r) / ms (N.h r))) / 1024 : ℝ) : EReal) := by
  rw [← wide_real, EReal.coe_mul]
  pointwise [val_main_v96, val_main_v95, val_main_v94, val_main_v93, val_main_v90, val_main_cst_24, val_main_cst_25, v89 A]
  rw [Fin.sum_univ_one, v10 A]

/-- The rows' gradient. -/
theorem v102 : @Eq EReal (val_main_v102 (F := Ideal) x0 x1 x2 x3 x4 x5 x6 (ix2 r d)) ((N.rows r d : ℝ) : EReal) := by
  unfold Net.rows
  rw [← vjp_eq]
  unfold vjp
  rw [EReal.coe_add, EReal.coe_add, EReal.coe_add, EReal.coe_mul (N.n r d * N.k d), EReal.coe_mul (N.h r d), EReal.coe_mul _ (N.h r d)]
  pointwise [val_main_v102, val_main_v101, val_main_v100, val_main_v99, val_main_v98, val_main_v97, val_main_v92, val_main_v91, v86 A, v7 A, v74 A, v96 A, A.h]

/-- The parts, one after the other. -/
theorem v105 (p : Fin 8448) : @Eq EReal (val_main_v105 (F := Ideal) x0 x1 x2 x3 x4 x5 x6 (ix2 p r)) ((N.parts r p : ℝ) : EReal) := by
  unfold Net.parts
  by_cases h : p.val < 2816
  · rw [dif_pos h]
    pointwise [val_main_v105, val_main_v104, val_main_v103, v78 A, v76 A, v19 A, h]
  · by_cases h' : p.val < 5632
    · rw [dif_neg h, dif_pos h']
      pointwise [val_main_v105, val_main_v104, val_main_v103, v78 A, v76 A, v19 A, h, h']
      rw [dif_pos (show p.val - 2816 < 2816 by omega)]
    · rw [dif_neg h, dif_neg h']
      pointwise [val_main_v105, val_main_v104, val_main_v103, v78 A, v76 A, v19 A, h, h']
      rw [dif_neg (show ¬ p.val - 2816 < 2816 by omega)]
      simp only [Nat.sub_sub, Nat.reduceAdd]

/-- The block's result's gradient. -/
theorem v106 : @Eq EReal (val_main_v106 (F := Ideal) x0 x1 x2 x3 x4 x5 x6 (ix2 r d)) ((N.u r d : ℝ) : EReal) := by
  pointwise [val_main_v106, v74 A]

/-- The loss, on every lane. -/
theorem v107 (j : S1x128.Idx) : @Eq EReal (val_main_v107 (F := Ideal) x0 x1 x2 x3 x4 x5 x6 j) ((∑ r, N.rowLoss r : ℝ) : EReal) := by
  rw [val_main_v107_apply, v47 A]

/-- The head's gain's gradient. -/
theorem v108 : @Eq EReal (val_main_v108 (F := Ideal) x0 x1 x2 x3 x4 x5 x6 (ix2 0 d)) ((∑ r, N.rowHead r d : ℝ) : EReal) := by
  pointwise [val_main_v108, v60 A]

/-- The gain's gradient. -/
theorem v109 : @Eq EReal (val_main_v109 (F := Ideal) x0 x1 x2 x3 x4 x5 x6 (ix2 0 d)) ((∑ r, N.rowGain r d : ℝ) : EReal) := by
  pointwise [val_main_v109, v87 A]

end Cert.Reference3Ideal.Back
-- ==== Proof.BackHost.lean ====
/- The feed-forward block's gradient: the host's arrays and the blocks. -/
module

public import proofs.«01_k».proof.Proof.BackReal
public import proofs.«01_k».proof.Proof.FfnRef

@[expose] public section

set_option maxRecDepth 16384
set_option maxHeartbeats 1000000

noncomputable section

namespace Cert.Kernel3Ideal.Back

open Idealize.ShloMosaic Idealize.ShloMosaic.TcCoe Idealize.SL.Sem
open Cert.Kernel3Ideal Cert.Kernel3Ideal.Gen
open Cert.Kernel4Ideal.Ffn (canon_whole cov_whole nrm dot both hid ffn hrow grow cols down projections block both_low both_high)

variable (m : (ℓ : Loc nD τ sig) → Buf (Elt Ideal) ℓ) (c : Dev nD) (N : Net)

/-- The arguments hold the reals. -/
structure Holds : Prop where
  h : ∀ r d, @Eq EReal ((m ((c : Thread nD τ).loc main_arg0) : FVec Ideal S4352x1024 .f32) (ix2 r d)) ((N.h r d : ℝ) : EReal)
  t : ∀ r d, @Eq EReal ((m ((c : Thread nD τ).loc main_arg1) : FVec Ideal S4096x1024 .f32) (ix2 r d)) ((N.t r d : ℝ) : EReal)
  g : ∀ d, @Eq EReal ((m ((c : Thread nD τ).loc main_arg2) : FVec Ideal S1024 .f32) (ix1 d)) ((N.g d : ℝ) : EReal)
  k : ∀ d, @Eq EReal ((m ((c : Thread nD τ).loc main_arg3) : FVec Ideal S1024 .f32) (ix1 d)) ((N.k d : ℝ) : EReal)
  wg : ∀ q d, @Eq EReal ((m ((c : Thread nD τ).loc main_arg4) : FVec Ideal S1024x2816 .f32) (ix2 d q)) ((N.wg q d : ℝ) : EReal)
  wu : ∀ q d, @Eq EReal ((m ((c : Thread nD τ).loc main_arg5) : FVec Ideal S1024x2816 .f32) (ix2 d q)) ((N.wu q d : ℝ) : EReal)
  wd : ∀ q d, @Eq EReal ((m ((c : Thread nD τ).loc main_arg6) : FVec Ideal S2816x1024 .f32) (ix2 q d)) ((N.wd q d : ℝ) : EReal)

/-- The windows' index maps. -/
theorem idx : ∀ t : Fin cfg0.N, t.val < 17 ∧ win0_0.index t = ![t.val, 0] ∧ win0_1.index t = ![t.val - 1, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, t.val] ∧ win0_8.index t = ![t.val, 0] ∧ win0_9.index t = ![0, 0] ∧ win0_10.index t = ![0, 0]
    ∧ win0_11.index t = ![0, 0] :=
  (by decide +kernel : ∀ t : Fin grid0.N, _)

theorem coord : ∀ t : Fin cfg0.N, (grid0.coords t 0).val = t.val :=
  (by decide +kernel : ∀ t : Fin grid0.N, (grid0.coords t 0).val = t.val)

/-- The weights' buffers hold the weights from the first point on. -/
theorem weights : ∀ (n : ℕ) (h : n < cfg0.N), (outsAt0 m c n h).2.2.2.2.2.2.1 = V m c main_v24
    ∧ (outsAt0 m c n h).2.2.2.2.2.2.2.1 = V m c main_v26 ∧ (outsAt0 m c n h).2.2.2.2.2.2.2.2 = V m c main_v27
  | 0, h => by
    have e := outsAt0_A m c ⟨0, h⟩ rfl rfl
    refine ⟨?_, ?_, ?_⟩
    · rw [e]
      frame_out
      exact canon_whole _
    · rw [e]
      frame_out
      exact canon_whole _
    · rw [e]
      frame_out
      exact canon_whole _
  | n + 1, h => by
    have h17 : n + 1 < 17 := (idx ⟨n + 1, h⟩).1
    have z : ¬ (n + 1) % 17 = 0 := by omega
    have e := outsAt0_B m c ⟨n + 1, h⟩ z z
    obtain ⟨i0, i1, i2⟩ := weights n (Nat.lt_of_succ_lt h)
    refine ⟨?_, ?_, ?_⟩
    · rw [e]
      frame_out
      unfold sout0_B_0
      exact i0
    · rw [e]
      frame_out
      unfold sout0_B_1
      exact i1
    · rw [e]
      frame_out
      unfold sout0_B_2
      exact i2

section Host
variable {m c N} (A : Holds m c N)
include A

theorem n2_eq (r : Fin 4352) (d : Fin 1024) :
    (nrm (hrow (m ((c : Thread nD τ).loc main_arg0)) r) (grow (m ((c : Thread nD τ).loc main_arg3))) d : EReal) = ((N.n2 r d : ℝ) : EReal) := by
  unfold nrm hrow grow
  simp only [A.h, A.k, rs_real]
  simp only [← EReal.coe_mul]
  rfl

theorem a_eq (r : Fin 4352) (q : Fin 2816) :
    (dot (nrm (hrow (m ((c : Thread nD τ).loc main_arg0)) r) (grow (m ((c : Thread nD τ).loc main_arg3)))) (cols (m ((c : Thread nD τ).loc main_arg4))) q : EReal)
      = ((N.a r q : ℝ) : EReal) := by
  unfold dot cols
  simp only [n2_eq A, A.wg, ← EReal.coe_mul, ← coe_sum]
  rfl

theorem b_eq (r : Fin 4352) (q : Fin 2816) :
    (dot (nrm (hrow (m ((c : Thread nD τ).loc main_arg0)) r) (grow (m ((c : Thread nD τ).loc main_arg3)))) (cols (m ((c : Thread nD τ).loc main_arg5))) q : EReal)
      = ((N.b r q : ℝ) : EReal) := by
  unfold dot cols
  simp only [n2_eq A, A.wu, ← EReal.coe_mul, ← coe_sum]
  rfl

theorem v18_eq (r : Fin 4352) (d : Fin 1024) : @Eq EReal ((V m c main_v18 : FVec Ideal S4352x1024 .f32) (ix2 r d)) ((N.x r d : ℝ) : EReal) := by
  have e : (V m c main_v18 : FVec Ideal S4352x1024 .f32) = Cert.Reference4Ideal.Read.val_main_v18 (F := Ideal)
      (m ((c : Thread nD τ).loc main_arg0)) (m ((c : Thread nD τ).loc main_arg3)) (m ((c : Thread nD τ).loc main_arg4))
      (m ((c : Thread nD τ).loc main_arg5)) (m ((c : Thread nD τ).loc main_arg6)) := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  rw [e, Cert.Reference4Ideal.Ffn.result4]
  show ffn (hrow _ r) (nrm (hrow _ r) _) _ _ _ d = _
  unfold ffn hid down
  simp only [a_eq A, b_eq A, sg_real, A.wd]
  show ((hrow _ r d : EReal)) + _ = _
  unfold hrow
  simp only [A.h, ← EReal.coe_mul, ← coe_sum, ← EReal.coe_add]
  rfl

theorem v20_eq (r : Fin 4352) (q : Fin 5632) : @Eq EReal ((V m c main_v20 : FVec Ideal S4352x5632 .bf16) (ix2 r q)) ((if h : q.val < 2816 then N.a r ⟨q.val, h⟩ else N.b r ⟨q.val - 2816, by omega⟩ : ℝ) : EReal) := by
  have e : (V m c main_v20 : FVec Ideal S4352x5632 .bf16) = Cert.Reference4Ideal.Read.val_main_v20 (F := Ideal)
      (m ((c : Thread nD τ).loc main_arg0)) (m ((c : Thread nD τ).loc main_arg3)) (m ((c : Thread nD τ).loc main_arg4))
      (m ((c : Thread nD τ).loc main_arg5)) := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  rw [e, Cert.Reference4Ideal.Ffn.result2]
  show both (nrm (hrow _ r) _) _ _ q = _
  unfold both
  split
  · rw [a_eq A]
  · rw [b_eq A]

theorem v24_eq (q : Fin 2816) (d : Fin 1024) : @Eq EReal ((V m c main_v24 : FVec Ideal S2816x1024 .bf16) (ix2 q d)) ((N.wg q d : ℝ) : EReal) := by
  have e : (V m c main_v24 : FVec Ideal S2816x1024 .bf16) = truncf (F := Ideal) (φ := .f32) .bf16
      (transpose S2816x1024 [1, 0] (m ((c : Thread nD τ).loc main_arg4) : FVec Ideal S1024x2816 .f32) transposes_S1024x2816_S2816x1024_1_0) bitsLt_bf16_f32 := by
    show StableHlo.after (List.flatten [hostOps0, hostOps0_1, hostOps0_2]) _ _ = _
    simp only [hostOps0, hostOps0_1, hostOps0_2, List.flatten_cons, List.flatten_nil, List.append_nil, List.cons_append, List.nil_append]
    after_results
  rw [e, ← A.wg]
  pointwise []

theorem v26_eq (q : Fin 2816) (d : Fin 1024) : @Eq EReal ((V m c main_v26 : FVec Ideal S2816x1024 .bf16) (ix2 q d)) ((N.wu q d : ℝ) : EReal) := by
  have e : (V m c main_v26 : FVec Ideal S2816x1024 .bf16) = truncf (F := Ideal) (φ := .f32) .bf16
      (transpose S2816x1024 [1, 0] (m ((c : Thread nD τ).loc main_arg5) : FVec Ideal S1024x2816 .f32) transposes_S1024x2816_S2816x1024_1_0) bitsLt_bf16_f32 := by
    show StableHlo.after (List.flatten [hostOps0, hostOps0_1, hostOps0_2]) _ _ = _
    simp only [hostOps0, hostOps0_1, hostOps0_2, List.flatten_cons, List.flatten_nil, List.append_nil, List.cons_append, List.nil_append]
    after_results
  rw [e, ← A.wu]
  pointwise []

theorem v27_eq (q : Fin 2816) (d : Fin 1024) : @Eq EReal ((V m c main_v27 : FVec Ideal S2816x1024 .bf16) (ix2 q d)) ((N.wd q d : ℝ) : EReal) := by
  have e : (V m c main_v27 : FVec Ideal S2816x1024 .bf16) = truncf (F := Ideal) (φ := .f32) .bf16
      (m ((c : Thread nD τ).loc main_arg6) : FVec Ideal S2816x1024 .f32) bitsLt_bf16_f32 := by
    show StableHlo.after (List.flatten [hostOps0, hostOps0_1, hostOps0_2]) _ _ = _
    simp only [hostOps0, hostOps0_1, hostOps0_2, List.flatten_cons, List.flatten_nil, List.append_nil, List.cons_append, List.nil_append]
    after_results
  rw [e, ← A.wd]
  pointwise []

theorem v21_eq (d : Fin 1024) : @Eq EReal ((V m c main_v21 : FVec Ideal S1x1024 .f32) (ix2 0 d)) ((N.g d : ℝ) : EReal) := by
  have e : (V m c main_v21 : FVec Ideal S1x1024 .f32) = shapeCast S1x1024 (m ((c : Thread nD τ).loc main_arg2) : FVec Ideal S1024 .f32) rfl := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  rw [e, ← A.g]
  pointwise []

theorem v22_eq (d : Fin 1024) : @Eq EReal ((V m c main_v22 : FVec Ideal S1x1024 .f32) (ix2 0 d)) ((N.k d : ℝ) : EReal) := by
  have e : (V m c main_v22 : FVec Ideal S1x1024 .f32) = shapeCast S1x1024 (m ((c : Thread nD τ).loc main_arg3) : FVec Ideal S1024 .f32) rfl := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  rw [e, ← A.k]
  pointwise []

theorem arg0_eq (r : Fin 4352) (d : Fin 1024) : @Eq EReal ((V m c main_arg0 : FVec Ideal S4352x1024 .f32) (ix2 r d)) ((N.h r d : ℝ) : EReal) := by
  have e := V_main_arg0 m c
  rw [e, A.h]

theorem arg1_eq (r : Fin 4096) (d : Fin 1024) : @Eq EReal ((V m c main_arg1 : FVec Ideal S4096x1024 .f32) (ix2 r d)) ((N.t r d : ℝ) : EReal) := by
  have e := V_main_arg1 m c
  rw [e, A.t]

end Host

/-- The row a point's row is. -/
def at' (t : Fin cfg0.N) (R : Fin 256) : Fin 4352 := ⟨256 * t.val + R.val, by have := (idx t).1; omega⟩

/-- The target a point's row reads. -/
def ta (t : Fin cfg0.N) (R : Fin 256) : Fin 4096 := ⟨256 * (t.val - 1) + R.val, by have := (idx t).1; omega⟩

/-- The first half of a weight. -/
abbrev ldlo (W : FVec Ideal S2816x1024 .bf16) : FVec Ideal S1408x1024 .bf16 :=
  View.ld (Val := Elt Ideal) (e' := .bf16) W (Rect.unit (s := S2816x1024) ![0, 0] ![1408, 1024] inb_S2816x1024_S1408x1024_0_0)

/-- The second half of a weight. -/
abbrev ldhi (W : FVec Ideal S2816x1024 .bf16) : FVec Ideal S1408x1024 .bf16 :=
  View.ld (Val := Elt Ideal) (e' := .bf16) W (Rect.unit (s := S2816x1024) ![1408, 0] ![1408, 1024] inb_S2816x1024_S1408x1024_1408_0)

theorem lo_ld (W : FVec Ideal S2816x1024 .bf16) (q : Fin 1408) (d : Fin 1024) : ldlo W (ix2 q d) = W (ix2 (lo q) d) := by
  refine congrArg W (funext fun a => Fin.ext ?_)
  fin_cases a
  · show 0 + 1 * q.val = 0 + q.val
    omega
  · show 0 + 1 * d.val = d.val
    omega

theorem hi_ld (W : FVec Ideal S2816x1024 .bf16) (q : Fin 1408) (d : Fin 1024) : ldhi W (ix2 q d) = W (ix2 (hi q) d) := by
  refine congrArg W (funext fun a => Fin.ext ?_)
  fin_cases a
  · show 1408 + 1 * q.val = 1408 + q.val
    omega
  · show 0 + 1 * d.val = d.val
    omega

/-- A part of the projections' block. -/
abbrev ldp (W : FVec Ideal S256x5632 .bf16) (o : ℕ) (h : ∀ a, (![0, o] : Fin 2 → ℕ) a + (![256, 1408] : Fin 2 → ℕ) a ≤ S256x5632.size a) : FVec Ideal S256x1408 .bf16 :=
  View.ld (Val := Elt Ideal) (e' := .bf16) W (Rect.unit (s := S256x5632) ![0, o] ![256, 1408] h)

theorem p_ld (W : FVec Ideal S256x5632 .bf16) (o : ℕ) (h : ∀ a, (![0, o] : Fin 2 → ℕ) a + (![256, 1408] : Fin 2 → ℕ) a ≤ S256x5632.size a) (ho : o + 1408 ≤ 5632) (R : Fin 256) (q : Fin 1408) :
    ldp W o h (ix2 R q) = W (ix2 R ⟨o + q.val, by omega⟩) := by
  refine congrArg W (funext fun a => Fin.ext ?_)
  fin_cases a
  · show 0 + 1 * R.val = R.val
    omega
  · show o + 1 * q.val = o + q.val
    omega

theorem blk3 (t : Fin cfg0.N) (R : Fin 256) (q : Fin 5632) :
    (iblk m c 3 t : FVec Ideal S256x5632 .bf16) (ix2 R q) = (V m c main_v20 : FVec Ideal S4352x5632 .bf16) (ix2 (at' t R) q) := by
  unfold iblk at'
  blk_ext [idx t]

end Cert.Kernel3Ideal.Back
-- ==== Proof.BackArray.lean ====
/- The feed-forward block's gradient: a point's arrays and their reals. -/
module

public import proofs.«01_k».proof.Proof.BackHost

@[expose] public section

set_option maxRecDepth 16384
set_option maxHeartbeats 1000000

noncomputable section

namespace Cert.Kernel3Ideal.Back

open Idealize.ShloMosaic Idealize.ShloMosaic.TcCoe Idealize.SL.Sem
open Cert.Kernel3Ideal Cert.Kernel3Ideal.Gen
open Cert.Kernel4Ideal.Ffn (canon_whole)

/-- A part of a buffer read after the buffer was written whole. -/
theorem cov_whole {S : Shape} {e : EltTy} (v : View sig .tc .vmem S e) (X : S.Idx → Elt Ideal e) (r : Rect S) :
    v.readCov (Val := Elt Ideal) [⟨Rect.whole S, X⟩] r.toLoadRect = View.ld X r := by
  rw [View.readCov_eq_canon', canon_whole]

variable {m : (ℓ : Loc nD τ sig) → Buf (Elt Ideal) ℓ} {c : Dev nD} {N : Net} (A : Holds m c N)
include A

/-- A point's arrays and their reals. -/
def tile (t : Fin cfg0.N) : Tile where
  i := grid0.coords t
  X := iblk m c 0 t
  T := iblk m c 1 t
  H := iblk m c 2 t
  G := iblk m c 4 t
  K := iblk m c 5 t
  a0 := ldp (iblk m c 3 t) 0 inb_S256x5632_S256x1408_0_0
  a1 := ldp (iblk m c 3 t) 1408 inb_S256x5632_S256x1408_0_1408
  b0 := ldp (iblk m c 3 t) 2816 inb_S256x5632_S256x1408_0_2816
  b1 := ldp (iblk m c 3 t) 4224 inb_S256x5632_S256x1408_0_4224
  d0 := ldlo (V m c main_v27)
  d1 := ldhi (V m c main_v27)
  g0 := ldlo (V m c main_v24)
  g1 := ldhi (V m c main_v24)
  u0 := ldlo (V m c main_v26)
  u1 := ldhi (V m c main_v26)
  x R := N.x (at' t R)
  t R := N.t (ta t R)
  h R := N.h (at' t R)
  g := N.g
  k := N.k
  a R := N.a (at' t R)
  b R := N.b (at' t R)
  wd := N.wd
  wg := N.wg
  wu := N.wu
  hX R d := by
    rw [← v18_eq A]
    unfold iblk at'
    blk_ext [idx t]
  hT R d := by
    rw [← arg1_eq A]
    unfold iblk ta
    blk_ext [idx t]
  hH R d := by
    rw [← arg0_eq A]
    unfold iblk at'
    blk_ext [idx t]
  hG d := by
    rw [← v21_eq A]
    unfold iblk
    blk_ext [idx t]
  hK d := by
    rw [← v22_eq A]
    unfold iblk
    blk_ext [idx t]
  ha0 R q := by
    rw [p_ld _ 0 _ (by omega), blk3, v20_eq A]
    exact congrArg _ (dif_pos (show 0 + q.val < 2816 by omega))
  ha1 R q := by
    rw [p_ld _ 1408 _ (by omega), blk3, v20_eq A]
    exact congrArg _ (dif_pos (show 1408 + q.val < 2816 by omega))
  hb0 R q := by
    rw [p_ld _ 2816 _ (by omega), blk3, v20_eq A]
    refine congrArg _ ((dif_neg (show ¬ 2816 + q.val < 2816 by omega)).trans (congrArg (N.b _) (Fin.ext ?_)))
    show 2816 + q.val - 2816 = 0 + q.val
    omega
  hb1 R q := by
    rw [p_ld _ 4224 _ (by omega), blk3, v20_eq A]
    refine congrArg _ ((dif_neg (show ¬ 4224 + q.val < 2816 by omega)).trans (congrArg (N.b _) (Fin.ext ?_)))
    show 4224 + q.val - 2816 = 1408 + q.val
    omega
  hd0 q d := by rw [lo_ld, v27_eq A]
  hd1 q d := by rw [hi_ld, v27_eq A]
  hg0 q d := by rw [lo_ld, v24_eq A]
  hg1 q d := by rw [hi_ld, v24_eq A]
  hu0 q d := by rw [lo_ld, v26_eq A]
  hu1 q d := by rw [hi_ld, v26_eq A]

theorem tile_e (t : Fin cfg0.N) (R : Fin 256) (d : Fin 1024) : (tile A t).e R d = N.e (at' t R) d := by
  have hc := coord t
  by_cases z : t.val = 0
  · refine (if_pos (hc.trans z)).trans ?_
    unfold Net.e
    have q : (at' t R).val < 256 := by
      show 256 * t.val + R.val < 256
      omega
    rw [dif_pos q]
  · refine (if_neg (fun h => z (hc.symm.trans h))).trans ?_
    unfold Net.e
    have q : ¬ (at' t R).val < 256 := by
      show ¬ 256 * t.val + R.val < 256
      omega
    rw [dif_neg q]
    refine congrArg₂ (· - ·) rfl (congrArg (fun r => N.t r d) (Fin.ext ?_))
    show 256 * (t.val - 1) + R.val = 256 * t.val + R.val - 256
    omega

theorem tile_u (t : Fin cfg0.N) (R : Fin 256) (d : Fin 1024) : (tile A t).u R d = N.u (at' t R) d := by
  unfold Tile.u Net.u
  simp only [tile_e]
  rfl

theorem tile_f (t : Fin cfg0.N) (R : Fin 256) (q : Fin 2816) : (tile A t).f R q = N.f (at' t R) q := by
  unfold Tile.f Net.f
  simp only [tile_u]
  rfl

theorem tile_n (t : Fin cfg0.N) (R : Fin 256) (d : Fin 1024) : (tile A t).n R d = N.n (at' t R) d := by
  unfold Tile.n Net.n
  simp only [tile_f]
  rfl

omit A

/-- A row's number, zero past the last row. -/
def ext (F : Fin 4352 → ℝ) (n : ℕ) : ℝ := if h : n < 4352 then F ⟨n, h⟩ else 0

/-- The sum over the rows of the points before a point. -/
def upTo (F : Fin 4352 → ℝ) (n : ℕ) : ℝ := ∑ x ∈ Finset.range (256 * n), ext F x

theorem upTo_zero (F : Fin 4352 → ℝ) : upTo F 0 = 0 := by
  unfold upTo
  simp

theorem upTo_step (F : Fin 4352 → ℝ) (t : Fin cfg0.N) : upTo F t.val + ∑ R : Fin 256, F (at' t R) = upTo F (t.val + 1) := by
  unfold upTo
  rw [show 256 * (t.val + 1) = 256 * t.val + 256 by ring, Finset.sum_range_add, Finset.sum_range (n := 256)]
  refine congrArg _ (Finset.sum_congr rfl fun R _ => ?_)
  have ht := (idx t).1
  unfold ext
  rw [dif_pos (show 256 * t.val + R.val < 4352 by omega)]
  rfl

theorem upTo_all (F : Fin 4352 → ℝ) : upTo F 17 = ∑ r, F r := by
  unfold upTo
  rw [show 256 * 17 = 4352 from rfl, Finset.sum_range]
  exact Finset.sum_congr rfl fun r _ => dif_pos r.isLt

theorem p10 (v w : FVec Ideal S1x128 .f32) (j : S1x128.Idx) : (k0_pay10 (F := Ideal) (k0_pay8 (F := Ideal) v) w j : EReal) = v j + w j := by
  pointwise [k0_pay10, k0_pay8]

theorem p1 (j : S1x128.Idx) : (k0_pay1 (F := Ideal) j : EReal) = 0 := by
  pointwise [k0_pay1]

theorem p2 (d : Fin 1024) : (k0_pay2 (F := Ideal) (ix2 0 d) : EReal) = ((0 : ℝ) : EReal) := by
  pointwise [k0_pay2]
  exact EReal.coe_zero.symm

theorem p3 (d : Fin 1024) : (k0_pay3 (F := Ideal) (ix2 0 d) : EReal) = ((0 : ℝ) : EReal) := by
  pointwise [k0_pay3]
  exact EReal.coe_zero.symm

include A

theorem loss_tile (t : Fin cfg0.N) : (tile A t).l = ∑ R : Fin 256, N.rowLoss (at' t R) := by
  unfold Tile.l Net.rowLoss
  simp only [tile_e]
  rw [Finset.mul_sum, Finset.sum_div]

end Cert.Kernel3Ideal.Back
-- ==== Proof.BackSix.lean ====
/- The feed-forward block's gradient: a point's gradient of the rows. -/
module

public import proofs.«01_k».proof.Proof.BackArray

@[expose] public section

set_option maxRecDepth 16384
set_option maxHeartbeats 1000000

noncomputable section

namespace Cert.Kernel3Ideal.Back

open Idealize.ShloMosaic Idealize.ShloMosaic.TcCoe Idealize.SL.Sem
open Cert.Kernel3Ideal Cert.Kernel3Ideal.Gen
open Cert.Kernel4Ideal.Ffn (canon_whole)

variable {m : (ℓ : Loc nD τ sig) → Buf (Elt Ideal) ℓ} {c : Dev nD} {N : Net} (A : Holds m c N)
include A

theorem out6 (t : Fin cfg0.N) (R : Fin 256) (d : Fin 1024) : ((outsAt0 m c t.val t.isLt).1 (ix2 R d) : EReal) = (N.rows (at' t R) d : ℝ) := by
  have k : (_ : EReal) = _ := (tile A t).p43 R d
  have kk : (tile A t).u R d + rms ((tile A t).h R) (fun k => (tile A t).n R k * (tile A t).k k) d = N.rows (at' t R) d := by
    unfold Net.rows
    simp only [tile_u, tile_n]
    rfl
  rw [kk] at k
  refine Eq.trans ?_ k
  by_cases h : t.val % 17 = 0
  · rw [outsAt0_A m c t h h]
    frame_out
    rw [cov_whole, cov_whole, cov_whole, cov_whole, cov_whole, cov_whole]
    rfl
  · obtain ⟨e0, e1, e2⟩ := weights m c (t.val - 1) (lt_of_le_of_lt (Nat.sub_le _ _) t.isLt)
    rw [outsAt0_B m c t h h]
    frame_out
    rw [Memref.IsWhole.read_unread (m := Memref.whole cc0_scratch0), Memref.IsWhole.read_unread (m := Memref.whole cc0_scratch1), Memref.IsWhole.read_unread (m := Memref.whole cc0_scratch2), e0, e1, e2]
    rfl

theorem out8 (t : Fin cfg0.N) (R : Fin 256) (d : Fin 1024) : @Eq EReal ((outsAt0 m c t.val t.isLt).2.2.1 (ix2 R d)) ((N.u (at' t R) d : ℝ) : EReal) := by
  refine Eq.trans ?_ (((tile A t).p14 R d).trans (congrArg _ (tile_u A t R d)))
  by_cases h : t.val % 17 = 0
  · rw [outsAt0_A m c t h h]
    frame_out
    rfl
  · rw [outsAt0_B m c t h h]
    frame_out
    rfl

end Cert.Kernel3Ideal.Back
-- ==== Proof.BackSeven.lean ====
/- The feed-forward block's gradient: a point's transposed parts. -/
module

public import proofs.«01_k».proof.Proof.BackArray

@[expose] public section

set_option maxRecDepth 16384
set_option maxHeartbeats 8000000

noncomputable section

namespace Cert.Kernel3Ideal.Back

open Idealize.ShloMosaic Idealize.ShloMosaic.TcCoe Idealize.SL.Sem
open Cert.Kernel3Ideal Cert.Kernel3Ideal.Gen
open Cert.Kernel4Ideal.Ffn (canon_whole)

variable {m : (ℓ : Loc nD τ sig) → Buf (Elt Ideal) ℓ} {c : Dev nD} {N : Net} (A : Holds m c N)
include A

omit A

theorem parts_gat (r : Fin 4352) (p : Fin 8448) (q : Fin 2816) (h : p.val = q.val) :
    N.parts r p = gat (N.f r q) (N.a r q) (N.b r q) := by
  have e : (⟨p.val, by omega⟩ : Fin 2816) = q := Fin.ext h
  unfold Net.parts
  rw [dif_pos (by omega)]
  exact congrArg (fun q => gat (N.f r q) (N.a r q) (N.b r q)) e

theorem parts_upg (r : Fin 4352) (p : Fin 8448) (q : Fin 2816) (h : p.val = 2816 + q.val) :
    N.parts r p = upg (N.f r q) (N.a r q) := by
  have e : (⟨p.val - 2816, by omega⟩ : Fin 2816) = q := Fin.ext (by show p.val - 2816 = q.val; omega)
  unfold Net.parts
  rw [dif_neg (by omega), dif_pos (by omega)]
  exact congrArg (fun q => upg (N.f r q) (N.a r q)) e

theorem parts_hid (r : Fin 4352) (p : Fin 8448) (q : Fin 2816) (h : p.val = 5632 + q.val) :
    N.parts r p = hidr (N.a r q) (N.b r q) := by
  have e : (⟨p.val - 5632, by omega⟩ : Fin 2816) = q := Fin.ext (by show p.val - 5632 = q.val; omega)
  unfold Net.parts
  rw [dif_neg (by omega), dif_neg (by omega)]
  exact congrArg (fun q => hidr (N.a r q) (N.b r q)) e

/-- The transposed parts' block: its six stores. -/
theorem tiles (f : Fin 8448 → Fin 256 → Ideal .bf16) (Q0 Q1 Q2 Q3 Q4 Q5 : S1408x256.Idx → Ideal .bf16)
    (h0 : ∀ (q : Fin 1408) R, Q0 (ix2 q R) = f ⟨0 + q.val, by omega⟩ R) (h1 : ∀ (q : Fin 1408) R, Q1 (ix2 q R) = f ⟨1408 + q.val, by omega⟩ R)
    (h2 : ∀ (q : Fin 1408) R, Q2 (ix2 q R) = f ⟨2816 + q.val, by omega⟩ R) (h3 : ∀ (q : Fin 1408) R, Q3 (ix2 q R) = f ⟨4224 + q.val, by omega⟩ R)
    (h4 : ∀ (q : Fin 1408) R, Q4 (ix2 q R) = f ⟨5632 + q.val, by omega⟩ R) (h5 : ∀ (q : Fin 1408) R, Q5 (ix2 q R) = f ⟨7040 + q.val, by omega⟩ R)
    (y : S8448x256.Idx) :
    View.canon (Val := Elt Ideal) (s := S8448x256) (e := .bf16)
      [⟨Rect.unit (s := S8448x256) ![7040, 0] ![1408, 256] inb_S8448x256_S1408x256_7040_0, Q5⟩,
        ⟨Rect.unit (s := S8448x256) ![4224, 0] ![1408, 256] inb_S8448x256_S1408x256_4224_0, Q3⟩,
        ⟨Rect.unit (s := S8448x256) ![1408, 0] ![1408, 256] inb_S8448x256_S1408x256_1408_0, Q1⟩,
        ⟨Rect.unit (s := S8448x256) ![5632, 0] ![1408, 256] inb_S8448x256_S1408x256_5632_0, Q4⟩,
        ⟨Rect.unit (s := S8448x256) ![2816, 0] ![1408, 256] inb_S8448x256_S1408x256_2816_0, Q2⟩,
        ⟨Rect.unit (s := S8448x256) ![0, 0] ![1408, 256] inb_S8448x256_S1408x256_0_0, Q0⟩] y = f (y 0) (y 1) := by
  canon_tiles y hy
  · exact (congrArg Q5 (ix2_eta (n0 := 1408) (n1 := 256) y)).symm.trans ((h5 _ _).trans (congrArg₂ f (Fin.ext hy0.symm) (Fin.ext hy1.symm)))
  · exact (congrArg Q3 (ix2_eta (n0 := 1408) (n1 := 256) y)).symm.trans ((h3 _ _).trans (congrArg₂ f (Fin.ext hy0.symm) (Fin.ext hy1.symm)))
  · exact (congrArg Q1 (ix2_eta (n0 := 1408) (n1 := 256) y)).symm.trans ((h1 _ _).trans (congrArg₂ f (Fin.ext hy0.symm) (Fin.ext hy1.symm)))
  · exact (congrArg Q4 (ix2_eta (n0 := 1408) (n1 := 256) y)).symm.trans ((h4 _ _).trans (congrArg₂ f (Fin.ext hy0.symm) (Fin.ext hy1.symm)))
  · exact (congrArg Q2 (ix2_eta (n0 := 1408) (n1 := 256) y)).symm.trans ((h2 _ _).trans (congrArg₂ f (Fin.ext hy0.symm) (Fin.ext hy1.symm)))
  · exact (congrArg Q0 (ix2_eta (n0 := 1408) (n1 := 256) y)).symm.trans ((h0 _ _).trans (congrArg₂ f (Fin.ext ((Nat.zero_add _).trans hy0.symm))
      (Fin.ext hy1.symm)))

include A

/-- The transposed parts' block, from the point's parts. -/
theorem form7 (t : Fin cfg0.N) (y : S8448x256.Idx) :
    View.canon (Val := Elt Ideal) (s := S8448x256) (e := .bf16)
      [⟨Rect.unit (s := S8448x256) ![7040, 0] ![1408, 256] inb_S8448x256_S1408x256_7040_0,
          k0_pay37 (F := Ideal) (tile A t).a1 (tile A t).b1⟩,
        ⟨Rect.unit (s := S8448x256) ![4224, 0] ![1408, 256] inb_S8448x256_S1408x256_4224_0,
          k0_pay36 (F := Ideal) (tile A t).E14 (tile A t).d1 (constant S256x1408 FTy.f32 0#32) (tile A t).a1⟩,
        ⟨Rect.unit (s := S8448x256) ![1408, 0] ![1408, 256] inb_S8448x256_S1408x256_1408_0,
          k0_pay35 (F := Ideal) (tile A t).E14 (tile A t).d1 (constant S256x1408 FTy.f32 0#32) (tile A t).a1 (tile A t).b1⟩,
        ⟨Rect.unit (s := S8448x256) ![5632, 0] ![1408, 256] inb_S8448x256_S1408x256_5632_0,
          k0_pay26 (F := Ideal) (k0_pay17 (F := Ideal) (tile A t).a0) (k0_pay18 (F := Ideal) (tile A t).b0)⟩,
        ⟨Rect.unit (s := S8448x256) ![2816, 0] ![1408, 256] inb_S8448x256_S1408x256_2816_0,
          k0_pay25 (F := Ideal) (tile A t).E16 (k0_pay17 (F := Ideal) (tile A t).a0)⟩,
        ⟨Rect.unit (s := S8448x256) ![0, 0] ![1408, 256] inb_S8448x256_S1408x256_0_0,
          k0_pay24 (F := Ideal) (tile A t).E16 (k0_pay17 (F := Ideal) (tile A t).a0) (k0_pay18 (F := Ideal) (tile A t).b0)⟩] y
      = ((N.parts (at' t (y 1)) (y 0) : ℝ) : EReal) := by
  refine tiles (fun p R => ((N.parts (at' t R) p : ℝ) : EReal)) _ _ _ _ _ _ (fun q R => ?_) (fun q R => ?_) (fun q R => ?_) (fun q R => ?_)
    (fun q R => ?_) (fun q R => ?_) y
  · refine ((tile A t).p24 R q).trans (congrArg _ ?_)
    rw [tile_f, parts_gat (q := lo q) (h := rfl)]
    rfl
  · refine ((tile A t).p35 R q).trans (congrArg _ ?_)
    rw [tile_f, parts_gat (q := hi q) (h := rfl)]
    rfl
  · refine ((tile A t).p25 R q).trans (congrArg _ ?_)
    rw [tile_f, parts_upg (q := lo q) (h := by show 2816 + q.val = 2816 + (0 + q.val); omega)]
    rfl
  · refine ((tile A t).p36 R q).trans (congrArg _ ?_)
    rw [tile_f, parts_upg (q := hi q) (h := by show 4224 + q.val = 2816 + (1408 + q.val); omega)]
    rfl
  · refine ((tile A t).p26 R q).trans (congrArg _ ?_)
    rw [parts_hid (q := lo q) (h := by show 5632 + q.val = 5632 + (0 + q.val); omega)]
    rfl
  · refine ((tile A t).p37 R q).trans (congrArg _ ?_)
    rw [parts_hid (q := hi q) (h := by show 7040 + q.val = 5632 + (1408 + q.val); omega)]
    rfl

theorem out7_first (t : Fin cfg0.N) (h : t.val % 17 = 0) (p : Fin 8448) (R : Fin 256) :
    @Eq EReal ((outsAt0 m c t.val t.isLt).2.1 (ix2 p R)) ((N.parts (at' t R) p : ℝ) : EReal) := by
  refine Eq.trans ?_ (form7 A t (ix2 p R))
  rw [outsAt0_A m c t h h]
  frame_out
  simp only [cov_whole]
  rfl

theorem out7_next (t : Fin cfg0.N) (h : ¬ t.val % 17 = 0) (p : Fin 8448) (R : Fin 256) :
    @Eq EReal ((outsAt0 m c t.val t.isLt).2.1 (ix2 p R)) ((N.parts (at' t R) p : ℝ) : EReal) := by
  obtain ⟨e0, e1, e2⟩ := weights m c (t.val - 1) (lt_of_le_of_lt (Nat.sub_le _ _) t.isLt)
  refine Eq.trans ?_ (form7 A t (ix2 p R))
  rw [outsAt0_B m c t h h]
  frame_out
  rw [Memref.IsWhole.read_unread (m := Memref.whole cc0_scratch2), e2]
  rfl

theorem out7 (t : Fin cfg0.N) (p : Fin 8448) (R : Fin 256) :
    @Eq EReal ((outsAt0 m c t.val t.isLt).2.1 (ix2 p R)) ((N.parts (at' t R) p : ℝ) : EReal) := by
  by_cases h : t.val % 17 = 0
  · exact out7_first A t h p R
  · exact out7_next A t h p R

end Cert.Kernel3Ideal.Back
-- ==== Proof.BackNine.lean ====
/- The feed-forward block's gradient: the loss and the head's gain's gradient, point by point. -/
module

public import proofs.«01_k».proof.Proof.BackArray

@[expose] public section

set_option maxRecDepth 16384
set_option maxHeartbeats 1000000

noncomputable section

namespace Cert.Kernel3Ideal.Back

open Idealize.ShloMosaic Idealize.ShloMosaic.TcCoe Idealize.SL.Sem
open Cert.Kernel3Ideal Cert.Kernel3Ideal.Gen
open Cert.Kernel4Ideal.Ffn (canon_whole)

variable {m : (ℓ : Loc nD τ sig) → Buf (Elt Ideal) ℓ} {c : Dev nD} {N : Net} (A : Holds m c N)
include A

theorem out9 : ∀ (n : ℕ) (h : n < cfg0.N) (j : S1x128.Idx),
    @Eq EReal ((outsAt0 m c n h).2.2.2.1 j) ((upTo N.rowLoss (n + 1) : ℝ) : EReal)
  | 0, h, j => by
    rw [outsAt0_A m c ⟨0, h⟩ rfl rfl]
    frame_out
    refine (p10 _ _ j).trans ?_
    rw [p1, zero_add, ← upTo_step N.rowLoss ⟨0, h⟩]
    show _ = ((upTo N.rowLoss 0 + _ : ℝ) : EReal)
    rw [upTo_zero, zero_add, ← loss_tile A]
    exact (tile A ⟨0, h⟩).p9 j
  | n + 1, h, j => by
    have h17 : n + 1 < 17 := (idx ⟨n + 1, h⟩).1
    have z : ¬ (n + 1) % 17 = 0 := by omega
    rw [outsAt0_B m c ⟨n + 1, h⟩ z z]
    frame_out
    refine (p10 _ _ j).trans ?_
    rw [← upTo_step N.rowLoss ⟨n + 1, h⟩, ← loss_tile A, EReal.coe_add]
    exact congrArg₂ (· + ·) (out9 n (Nat.lt_of_succ_lt h) j) ((tile A ⟨n + 1, h⟩).p9 j)

theorem out10 : ∀ (n : ℕ) (h : n < cfg0.N) (d : Fin 1024),
    @Eq EReal ((outsAt0 m c n h).2.2.2.2.1 (ix2 0 d)) ((upTo (fun r => N.rowHead r d) (n + 1) : ℝ) : EReal)
  | 0, h, d => by
    rw [outsAt0_A m c ⟨0, h⟩ rfl rfl]
    frame_out
    refine ((tile A ⟨0, h⟩).p13 d _ 0 (p2 d)).trans (congrArg _ ?_)
    rw [← upTo_step _ ⟨0, h⟩]
    refine congrArg₂ (· + ·) (upTo_zero _).symm (Finset.sum_congr rfl fun R _ => ?_)
    rw [tile_e]
    rfl
  | n + 1, h, d => by
    have h17 : n + 1 < 17 := (idx ⟨n + 1, h⟩).1
    have z : ¬ (n + 1) % 17 = 0 := by omega
    rw [outsAt0_B m c ⟨n + 1, h⟩ z z]
    frame_out
    refine ((tile A ⟨n + 1, h⟩).p13 d _ _ (out10 n (Nat.lt_of_succ_lt h) d)).trans (congrArg _ ?_)
    rw [← upTo_step _ ⟨n + 1, h⟩]
    refine congrArg₂ (· + ·) rfl (Finset.sum_congr rfl fun R _ => ?_)
    rw [tile_e]
    rfl

end Cert.Kernel3Ideal.Back
-- ==== Proof.BackEleven.lean ====
/- The feed-forward block's gradient: the gain's gradient, point by point. -/
module

public import proofs.«01_k».proof.Proof.BackArray

@[expose] public section

set_option maxRecDepth 16384
set_option maxHeartbeats 8000000

noncomputable section

namespace Cert.Kernel3Ideal.Back

open Idealize.ShloMosaic Idealize.ShloMosaic.TcCoe Idealize.SL.Sem
open Cert.Kernel3Ideal Cert.Kernel3Ideal.Gen
open Cert.Kernel4Ideal.Ffn (canon_whole)

variable {m : (ℓ : Loc nD τ sig) → Buf (Elt Ideal) ℓ} {c : Dev nD} {N : Net} (A : Holds m c N)
include A

theorem out11_first (t : Fin cfg0.N) (h : t.val % 17 = 0) (d : Fin 1024) :
    @Eq EReal ((outsAt0 m c t.val t.isLt).2.2.2.2.2.1 (ix2 0 d)) ((0 + ∑ R : Fin 256, N.rowGain (at' t R) d : ℝ) : EReal) := by
  have k := (tile A t).p42 d _ 0 (p3 d)
  simp only [tile_n] at k
  refine Eq.trans ?_ k
  rw [outsAt0_A m c t h h]
  frame_out
  rw [cov_whole, cov_whole, cov_whole, cov_whole, cov_whole, cov_whole]
  rfl

theorem out11_next (t : Fin cfg0.N) (h : ¬ t.val % 17 = 0) (d : Fin 1024) (r : ℝ)
    (e : @Eq EReal ((outsAt0 m c (t.val - 1) (lt_of_le_of_lt (Nat.sub_le _ _) t.isLt)).2.2.2.2.2.1 (ix2 0 d)) ((r : ℝ) : EReal)) :
    @Eq EReal ((outsAt0 m c t.val t.isLt).2.2.2.2.2.1 (ix2 0 d)) ((r + ∑ R : Fin 256, N.rowGain (at' t R) d : ℝ) : EReal) := by
  have k := (tile A t).p42 d _ r e
  simp only [tile_n] at k
  refine Eq.trans ?_ k
  obtain ⟨e0, e1, e2⟩ := weights m c (t.val - 1) (lt_of_le_of_lt (Nat.sub_le _ _) t.isLt)
  rw [outsAt0_B m c t h h]
  frame_out
  rw [Memref.IsWhole.read_unread (m := Memref.whole cc0_scratch0), Memref.IsWhole.read_unread (m := Memref.whole cc0_scratch1), Memref.IsWhole.read_unread (m := Memref.whole cc0_scratch2), e0, e1, e2]
  rfl

theorem out11 : ∀ (n : ℕ) (h : n < cfg0.N) (d : Fin 1024),
    @Eq EReal ((outsAt0 m c n h).2.2.2.2.2.1 (ix2 0 d)) ((upTo (fun r => N.rowGain r d) (n + 1) : ℝ) : EReal)
  | 0, h, d => by
    refine (out11_first A ⟨0, h⟩ rfl d).trans (congrArg _ ?_)
    rw [← upTo_step _ ⟨0, h⟩]
    exact congrArg₂ (· + ·) (upTo_zero _).symm rfl
  | n + 1, h, d => by
    have h17 : n + 1 < 17 := (idx ⟨n + 1, h⟩).1
    have z : ¬ (n + 1) % 17 = 0 := by omega
    refine (out11_next A ⟨n + 1, h⟩ z d _ (out11 n (Nat.lt_of_succ_lt h) d)).trans (congrArg _ ?_)
    exact upTo_step (fun r => N.rowGain r d) ⟨n + 1, h⟩

end Cert.Kernel3Ideal.Back
-- ==== Proof.BackFinal.lean ====
/- The feed-forward block's gradient: the arrays after the run. -/
module

public import proofs.«01_k».proof.Proof.BackSix
public import proofs.«01_k».proof.Proof.BackSeven
public import proofs.«01_k».proof.Proof.BackNine
public import proofs.«01_k».proof.Proof.BackEleven

@[expose] public section

set_option maxRecDepth 16384
set_option maxHeartbeats 1000000

noncomputable section

namespace Cert.Kernel3Ideal.Back

open Idealize.ShloMosaic Idealize.ShloMosaic.TcCoe Idealize.SL.Sem
open Cert.Kernel3Ideal Cert.Kernel3Ideal.Gen

variable {m : (ℓ : Loc nD τ sig) → Buf (Elt Ideal) ℓ} {c : Dev nD} {N : Net} (A : Holds m c N)

/-- The rows' gradient. -/
def rowsArr (N : Net) : FVec Ideal S4352x1024 .f32 := fun j => ((N.rows (j 0) (j 1) : ℝ) : EReal)

/-- The parts, one column a row. -/
def partsArr (N : Net) : FVec Ideal S8448x4352 .bf16 := fun j => ((N.parts (j 1) (j 0) : ℝ) : EReal)

/-- The block's result's gradient. -/
def resArr (N : Net) : FVec Ideal S4352x1024 .bf16 := fun j => ((N.u (j 0) (j 1) : ℝ) : EReal)

/-- The loss, on every lane. -/
def lossArr (N : Net) : FVec Ideal S1x128 .f32 := fun _ => ((∑ r, N.rowLoss r : ℝ) : EReal)

/-- The head's gain's gradient. -/
def headArr (N : Net) : FVec Ideal S1x1024 .f32 := fun j => ((∑ r, N.rowHead r (j 1) : ℝ) : EReal)

/-- The gain's gradient. -/
def gainArr (N : Net) : FVec Ideal S1x1024 .f32 := fun j => ((∑ r, N.rowGain r (j 1) : ℝ) : EReal)

include A

theorem final6 : (dats m 0 c).arrAt 6 cfg0.N = rowsArr N := by
  refine (dats m 0 c).arrAt_eq_of_covers 6 _ (by decide +kernel) fun t hf y => ?_
  have ht := (idx t).1
  blk_simp
  rw [after0_6]
  obtain ⟨R, d, rfl⟩ : ∃ (R : Fin 256) (d : Fin 1024), y = ix2 R d := ⟨y 0, y 1, (ix2_eta (n0 := 256) (n1 := 1024) y).symm⟩
  have e : (win0_6.blk t).view.emb (ix2 R d) = ix2 (at' t R) d := by
    unfold at'
    blk_ext [idx t]
  rw [e]
  exact out6 A t R d

theorem final7 : (dats m 0 c).arrAt 7 cfg0.N = partsArr N := by
  refine (dats m 0 c).arrAt_eq_of_covers 7 _ (by decide +kernel) fun t hf y => ?_
  have ht := (idx t).1
  blk_simp
  rw [after0_7]
  obtain ⟨p, R, rfl⟩ : ∃ (p : Fin 8448) (R : Fin 256), y = ix2 p R := ⟨y 0, y 1, (ix2_eta (n0 := 8448) (n1 := 256) y).symm⟩
  have e : (win0_7.blk t).view.emb (ix2 p R) = ix2 p (at' t R) := by
    unfold at'
    blk_ext [idx t]
  rw [e]
  exact out7 A t p R

theorem final8 : (dats m 0 c).arrAt 8 cfg0.N = resArr N := by
  refine (dats m 0 c).arrAt_eq_of_covers 8 _ (by decide +kernel) fun t hf y => ?_
  have ht := (idx t).1
  blk_simp
  rw [after0_8]
  obtain ⟨R, d, rfl⟩ : ∃ (R : Fin 256) (d : Fin 1024), y = ix2 R d := ⟨y 0, y 1, (ix2_eta (n0 := 256) (n1 := 1024) y).symm⟩
  have e : (win0_8.blk t).view.emb (ix2 R d) = ix2 (at' t R) d := by
    unfold at'
    blk_ext [idx t]
  rw [e]
  exact out8 A t R d

theorem final9 : (dats m 0 c).arrAt 9 cfg0.N = lossArr N := by
  refine (dats m 0 c).arrAt_eq_of_covers 9 _ (by decide +kernel) fun t hf y => ?_
  have e16 : t.val = 16 := (by decide +kernel : ∀ t : Fin grid0.N, (cfg0.win 9).flush t = true → t.val = 16) t hf
  blk_simp
  rw [after0_9]
  refine (out9 A t.val t.isLt y).trans ?_
  rw [e16]
  exact congrArg _ (upTo_all _)

theorem final10 : (dats m 0 c).arrAt 10 cfg0.N = headArr N := by
  refine (dats m 0 c).arrAt_eq_of_covers 10 _ (by decide +kernel) fun t hf y => ?_
  have e16 : t.val = 16 := (by decide +kernel : ∀ t : Fin grid0.N, (cfg0.win 10).flush t = true → t.val = 16) t hf
  blk_simp
  rw [after0_10]
  obtain ⟨z, d, rfl⟩ : ∃ (z : Fin 1) (d : Fin 1024), y = ix2 z d := ⟨y 0, y 1, (ix2_eta (n0 := 1) (n1 := 1024) y).symm⟩
  obtain rfl : z = 0 := Subsingleton.elim _ _
  have e : (win0_10.blk t).view.emb (ix2 0 d) = ix2 0 d := by
    blk_ext [idx t]
  rw [e]
  refine (out10 A t.val t.isLt d).trans ?_
  rw [e16]
  exact congrArg _ (upTo_all _)

theorem final11 : (dats m 0 c).arrAt 11 cfg0.N = gainArr N := by
  refine (dats m 0 c).arrAt_eq_of_covers 11 _ (by decide +kernel) fun t hf y => ?_
  have e16 : t.val = 16 := (by decide +kernel : ∀ t : Fin grid0.N, (cfg0.win 11).flush t = true → t.val = 16) t hf
  blk_simp
  rw [after0_11]
  obtain ⟨z, d, rfl⟩ : ∃ (z : Fin 1) (d : Fin 1024), y = ix2 z d := ⟨y 0, y 1, (ix2_eta (n0 := 1) (n1 := 1024) y).symm⟩
  obtain rfl : z = 0 := Subsingleton.elim _ _
  have e : (win0_11.blk t).view.emb (ix2 0 d) = ix2 0 d := by
    blk_ext [idx t]
  rw [e]
  refine (out11 A t.val t.isLt d).trans ?_
  rw [e16]
  exact congrArg _ (upTo_all _)

end Cert.Kernel3Ideal.Back
-- ==== Proof.BackPre.lean ====
/- The feed-forward block's gradient: the precondition read as every argument entry being a real. -/
module

public import proofs.«01_k».proof.Proof.PoolPre

@[expose] public section

set_option maxRecDepth 16384

noncomputable section

namespace Cert.Back

open Idealize.ShloMosaic Idealize.SL.Sem
open Cert.Pool (real_of_lt and_one)

/-- The precondition's side conditions. -/
theorem pre_facts : Cert.Pre_finite3.Facts where
  bcast_S_S4352x1024 := by decide
  reducesTo_S4352x1024_S_d0_1 := by decide
  h_S_ := by decide
  bcast_S_S4096x1024 := by decide
  reducesTo_S4096x1024_S_d0_1 := by decide
  bcast_S_S1024 := by decide
  reducesTo_S1024_S_d0 := by decide
  bcast_S_S1024x2816 := by decide
  reducesTo_S1024x2816_S_d0_1 := by decide
  bcast_S_S2816x1024 := by decide
  reducesTo_S2816x1024_S_d0_1 := by decide

variable (x0 : FVec Ideal Cert.Pre_finite3.S4352x1024 .f32) (x1 : FVec Ideal Cert.Pre_finite3.S4096x1024 .f32)
  (x2 x3 : FVec Ideal Cert.Pre_finite3.S1024 .f32) (x4 x5 : FVec Ideal Cert.Pre_finite3.S1024x2816 .f32)
  (x6 : FVec Ideal Cert.Pre_finite3.S2816x1024 .f32)

/-- All seven arguments are real. -/
theorem pre_real [Cert.Pre_finite3.Facts] (h : Cert.Pre_finite3.fn (F := Ideal) x0 x1 x2 x3 x4 x5 x6 = fun _ => 1#1) :
    (∀ j, x0 j = (((x0 j : EReal).toReal : ℝ) : EReal)) ∧ (∀ j, x1 j = (((x1 j : EReal).toReal : ℝ) : EReal))
      ∧ (∀ j, x2 j = (((x2 j : EReal).toReal : ℝ) : EReal)) ∧ (∀ j, x3 j = (((x3 j : EReal).toReal : ℝ) : EReal))
      ∧ (∀ j, x4 j = (((x4 j : EReal).toReal : ℝ) : EReal)) ∧ (∀ j, x5 j = (((x5 j : EReal).toReal : ℝ) : EReal))
      ∧ (∀ j, x6 j = (((x6 j : EReal).toReal : ℝ) : EReal)) := by
  have h := congrFun h (fun a => a.elim0)
  unfold Cert.Pre_finite3.fn Cert.Pre_finite3.fn_part1 at h
  obtain ⟨h, h6⟩ := and_one _ _ _ h
  obtain ⟨h, h5⟩ := and_one _ _ _ h
  obtain ⟨h, h4⟩ := and_one _ _ _ h
  obtain ⟨h, h3⟩ := and_one _ _ _ h
  obtain ⟨h, h2⟩ := and_one _ _ _ h
  obtain ⟨h0, h1⟩ := and_one _ _ _ h
  haveI : Subsingleton Cert.Pre_finite3.S_.Idx := ⟨fun a b => funext fun i => i.elim0⟩
  refine ⟨fun j => real_of_lt x0 _ (fun j => ?_) j (Host.reduce_andi_all _ _ _ _ _ h0 j), fun j => real_of_lt x1 _ (fun j => ?_) j (Host.reduce_andi_all _ _ _ _ _ h1 j),
    fun j => real_of_lt x2 _ (fun j => ?_) j (Host.reduce_andi_all _ _ _ _ _ h2 j), fun j => real_of_lt x3 _ (fun j => ?_) j (Host.reduce_andi_all _ _ _ _ _ h3 j),
    fun j => real_of_lt x4 _ (fun j => ?_) j (Host.reduce_andi_all _ _ _ _ _ h4 j), fun j => real_of_lt x5 _ (fun j => ?_) j (Host.reduce_andi_all _ _ _ _ _ h5 j),
    fun j => real_of_lt x6 _ (fun j => ?_) j (Host.reduce_andi_all _ _ _ _ _ h6 j)⟩
  all_goals rfl

end Cert.Back

end
-- ==== Proof.BackClaims.lean ====
/- The claims of the feed-forward block's gradient: both programs run, and on finite arguments they compute the same results. -/
module

public import proofs.«01_k».proof.Defs
public import proofs.«01_k».proof.Proof.Gen.Kernel3
public import proofs.«01_k».proof.Proof.Gen.Reference3Ideal
public import proofs.«01_k».proof.Proof.Gen.Reference3Ideal.Run
public import proofs.«01_k».proof.Proof.BackRef
public import proofs.«01_k».proof.Proof.BackFinal
public import proofs.«01_k».proof.Proof.BackPre

@[expose] public section

set_option maxRecDepth 16384
set_option maxHeartbeats 1000000

noncomputable section

namespace Cert.Back

open Idealize.ShloMosaic Idealize.SL.Sem

section Same
variable {F : FTy → Type} [FloatOps F]

/-- The two bodies are one. -/
theorem body_same : @Cert.Kernel3.cc0_ffn_backward F _ _ = @Cert.Kernel3Ideal.cc0_ffn_backward F _ _ := rfl

/-- The two tables of bodies are one. -/
theorem table_same : Cert.Kernel3.defs₀ (F := F) = Cert.Kernel3Ideal.defs₀ (F := F) := by
  unfold Cert.Kernel3.defs₀ Cert.Kernel3Ideal.defs₀
  refine congrArg Defs.onTc ?_
  funext l a
  match l with
  | 0 => obtain ⟨t, s⟩ := a; rfl

/-- The two programs' tables are one. -/
theorem defs_same : Cert.Kernel3.defs (F := F) = Cert.Kernel3Ideal.defs (F := F) :=
  congrArg (Pipeline.defs (Cert.Kernel3Ideal.pcfgs (F := F))) table_same

/-- The two programs are one. -/
theorem main_same : Cert.Kernel3.main (F := F) = Cert.Kernel3Ideal.main (F := F) := rfl

end Same

/-- The printed program runs. -/
theorem kernel_runs : Cert.quiescent_Kernel3 (hKernel3 := Cert.Kernel3.Gen.facts) := by
  intro m g _
  rw [main_same, defs_same]
  exact Cert.Kernel3Ideal.Gen.frame (F := Bits) m g

/-- The program over the extended reals runs. -/
theorem ideal_runs : Cert.quiescent_Kernel3Ideal (hKernel3Ideal := Cert.Kernel3Ideal.Gen.facts) := fun m g _ =>
  Cert.Kernel3Ideal.Gen.frame (F := Ideal) m g

/-- The reference runs. -/
theorem reference_runs : Cert.quiescent_Reference3Ideal (hReference3Ideal := Cert.Reference3Ideal.Gen.facts) := fun m g _ =>
  (θ_run Cert.Reference3Ideal.defs _ _).mono (fun r h => ⟨fun c => (h c).2.2.2.2.2.2, sem_eq_zero_of_no_sems (by decide) r.2⟩)
    (Cert.Reference3Ideal.Value.run (F := Ideal) m g)

section Reals
open Cert.Reference3Ideal Cert.Kernel3Ideal.Back

/-- The reals of seven arrays. -/
def net (x0 : FVec Ideal S4352x1024 .f32) (x1 : FVec Ideal S4096x1024 .f32) (x2 x3 : FVec Ideal S1024 .f32)
    (x4 x5 : FVec Ideal S1024x2816 .f32) (x6 : FVec Ideal S2816x1024 .f32) : Net where
  h r d := (x0 (ix2 r d) : EReal).toReal
  t r d := (x1 (ix2 r d) : EReal).toReal
  g d := (x2 (ix1 d) : EReal).toReal
  k d := (x3 (ix1 d) : EReal).toReal
  wg q d := (x4 (ix2 d q) : EReal).toReal
  wu q d := (x5 (ix2 d q) : EReal).toReal
  wd q d := (x6 (ix2 q d) : EReal).toReal

end Reals

/-- From finite arguments the kernel and the reference end with the same six results. -/
theorem values : Cert.algebraic_Kernel3Ideal_Reference3Ideal_pre_finite3 (hKernel3Ideal := Cert.Kernel3Ideal.Gen.facts)
    (hReference3Ideal := Cert.Reference3Ideal.Gen.facts) (hPre_finite3 := pre_facts) := by
  intro m g m' g' hpre hargs
  refine ⟨fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    (θ_run (Cert.Kernel3Ideal.defs (F := Ideal)) _ _).mono
      (fun r h c => ⟨(h.1 c).1 6, (h.1 c).1 7, (h.1 c).1 8, (h.1 c).1 9, (h.1 c).1 10, (h.1 c).1 11, h.2.1 c⟩)
      (θ_run_and (Cert.Kernel3Ideal.Gen.run_main m g) (Cert.Kernel3Ideal.Gen.frame m g)),
    (θ_run _ _ _).mono (fun r h c => ?_) (Cert.Reference3Ideal.Value.run (F := Ideal) m' g')⟩
  obtain ⟨a0, a1, a2, a3, a4, a5, a6⟩ := hargs c
  obtain ⟨p0, p1, p2, p3, p4, p5, p6⟩ := @pre_real _ _ _ _ _ _ _ pre_facts (hpre c)
  obtain ⟨N, A⟩ : ∃ N, Cert.Kernel3Ideal.Back.Holds m c N :=
    ⟨net _ _ _ _ _ _ _, fun r d => p0 (ix2 r d), fun r d => p1 (ix2 r d), fun d => p2 (ix1 d), fun d => p3 (ix1 d),
      fun q d => p4 (ix2 d q), fun q d => p5 (ix2 d q), fun q d => p6 (ix2 q d)⟩
  have B : Cert.Reference3Ideal.Back.Args (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6)) N :=
    ⟨fun r d => (congrFun a0 (ix2 r d)).trans (A.h r d), fun r d => (congrFun a1 (ix2 r d)).trans (A.t r d),
      fun d => (congrFun a2 (ix1 d)).trans (A.g d), fun d => (congrFun a3 (ix1 d)).trans (A.k d),
      fun q d => (congrFun a4 (ix2 d q)).trans (A.wg q d), fun q d => (congrFun a5 (ix2 d q)).trans (A.wu q d),
      fun q d => (congrFun a6 (ix2 q d)).trans (A.wd q d)⟩
  refine ⟨(h c).1.trans ((Cert.Reference3Ideal.Read.val_main_v102_eq _).trans (funext fun j => ?_)),
    (h c).2.1.trans ((Cert.Reference3Ideal.Read.val_main_v105_eq _).trans (funext fun j => ?_)),
    (h c).2.2.1.trans ((Cert.Reference3Ideal.Read.val_main_v106_eq _).trans (funext fun j => ?_)),
    (h c).2.2.2.1.trans ((Cert.Reference3Ideal.Read.val_main_v107_eq _).trans (funext fun j => ?_)),
    (h c).2.2.2.2.1.trans ((Cert.Reference3Ideal.Read.val_main_v108_eq _).trans (funext fun j => ?_)),
    (h c).2.2.2.2.2.1.trans ((Cert.Reference3Ideal.Read.val_main_v109_eq _).trans (funext fun j => ?_)), (h c).2.2.2.2.2.2⟩
  · obtain ⟨r, d, rfl⟩ : ∃ (r : Fin 4352) (d : Fin 1024), j = ix2 r d := ⟨j 0, j 1, (ix2_eta (n0 := 4352) (n1 := 1024) j).symm⟩
    exact (Cert.Reference3Ideal.Back.v102 B r d).trans (congrFun (Cert.Kernel3Ideal.Back.final6 A) (ix2 r d)).symm
  · obtain ⟨p, r, rfl⟩ : ∃ (p : Fin 8448) (r : Fin 4352), j = ix2 p r := ⟨j 0, j 1, (ix2_eta (n0 := 8448) (n1 := 4352) j).symm⟩
    exact (Cert.Reference3Ideal.Back.v105 B r p).trans (congrFun (Cert.Kernel3Ideal.Back.final7 A) (ix2 p r)).symm
  · obtain ⟨r, d, rfl⟩ : ∃ (r : Fin 4352) (d : Fin 1024), j = ix2 r d := ⟨j 0, j 1, (ix2_eta (n0 := 4352) (n1 := 1024) j).symm⟩
    exact (Cert.Reference3Ideal.Back.v106 B r d).trans (congrFun (Cert.Kernel3Ideal.Back.final8 A) (ix2 r d)).symm
  · exact (Cert.Reference3Ideal.Back.v107 B j).trans (congrFun (Cert.Kernel3Ideal.Back.final9 A) j).symm
  · obtain ⟨z, d, rfl⟩ : ∃ (z : Fin 1) (d : Fin 1024), j = ix2 z d := ⟨j 0, j 1, (ix2_eta (n0 := 1) (n1 := 1024) j).symm⟩
    obtain rfl : z = 0 := Subsingleton.elim _ _
    exact (Cert.Reference3Ideal.Back.v108 B d).trans (congrFun (Cert.Kernel3Ideal.Back.final10 A) (ix2 0 d)).symm
  · obtain ⟨z, d, rfl⟩ : ∃ (z : Fin 1) (d : Fin 1024), j = ix2 z d := ⟨j 0, j 1, (ix2_eta (n0 := 1) (n1 := 1024) j).symm⟩
    obtain rfl : z = 0 := Subsingleton.elim _ _
    exact (Cert.Reference3Ideal.Back.v109 B d).trans (congrFun (Cert.Kernel3Ideal.Back.final11 A) (ix2 0 d)).symm

end Cert.Back

end
-- ==== Proof.Rows.lean ====
/- What the programs that begin with the padded rows share: the rows, a row's normalisation, the choice by the tile. -/
module

public import proofs.«01_k».proof.Proof.Gen.Kernel5Ideal.Value
public import Idealize.ShloMosaic.Lib.Pipeline.ValueKit

@[expose] public section

set_option maxRecDepth 16384

noncomputable section

namespace Cert.Rows

open Idealize.ShloMosaic Idealize.SL.Sem

/-- A row after the root-mean-square normalisation over `wide` columns. -/
def nrm {n : ℕ} (wide : BitVec 32) (h g : Fin n → Ideal .f32) (k : Fin n) : Ideal .f32 :=
  h k * Ideal.rsqrt (Ideal.div (∑ d : Fin n, h d * h d) (Ideal.ofBits FTy.f32 wide) + Ideal.ofBits FTy.f32 897988541#32) * g k

/-- The padded rows: 240 of zero, the learned rows, the sequence's rows. -/
def top (M : (⟨2, ![16, 1024]⟩ : Shape).Idx → Ideal .f32) (X : (⟨2, ![4096, 1024]⟩ : Shape).Idx → Ideal .f32) (r : Fin 4352) (d : Fin 1024) : Ideal .f32 :=
  if h : r.val < 240 then 0
  else if h' : r.val - 240 < 16 then M (ix2 ⟨r.val - 240, h'⟩ d) else X (ix2 ⟨r.val - 240 - 16, by omega⟩ d)

/-- The first 256 of the padded rows. -/
theorem top_head (M : (⟨2, ![16, 1024]⟩ : Shape).Idx → Ideal .f32) (X : (⟨2, ![4096, 1024]⟩ : Shape).Idx → Ideal .f32) (R : Fin 256) (r : Fin 4352)
    (h : r.val = R.val) (d : Fin 1024) : top M X r d = if h : R.val < 240 then 0 else M (ix2 ⟨R.val - 240, by omega⟩ d) := by
  obtain ⟨r, hr⟩ := r
  obtain rfl : r = R.val := h
  have hR := R.isLt
  unfold top
  by_cases z : R.val < 240
  · simp only [z, ↓reduceDIte]
  · have w : R.val - 240 < 16 := by omega
    simp only [z, w, ↓reduceDIte]

/-- The first tile chooses the first. -/
theorem sel_first {α : Type} (n : ℕ) (z : n = 0) (a b : α) : Scalar.select (Scalar.cmpi .eq (BitVec.ofNat 32 n) 0#32) a b = a := by
  subst z
  rfl

/-- A later tile chooses the second. -/
theorem sel_next {α : Type} (n : ℕ) (l : n < 17) (z : ¬ n = 0) (a b : α) : Scalar.select (Scalar.cmpi .eq (BitVec.ofNat 32 n) 0#32) a b = b := by
  have b : ¬ BitVec.ofNat 32 n = 0#32 := fun h => z (by
    have := congrArg BitVec.toNat h
    simp only [BitVec.toNat_ofNat] at this
    omega)
  simp only [Scalar.select, Scalar.cmpi, IntOp.cmpi, show (BitVec.ofNat 32 n == 0#32) = false from beq_eq_false_iff_ne.mpr b]
  exact if_neg (by decide)

/-- A whole rectangle's index is itself. -/
theorem emb_unit {A B : ℕ} (inb) (j : (⟨2, ![A, B]⟩ : Shape).Idx) :
    (Rect.unit (s := ⟨2, ![A, B]⟩) ![0, 0] (⟨2, ![A, B]⟩ : Shape).size inb).emb j = j := by
  refine funext fun a => Fin.ext ?_
  fin_cases a
  · show 0 + 1 * (j 0).val = (j 0).val
    omega
  · show 0 + 1 * (j 1).val = (j 1).val
    omega

/-- A whole buffer read is the buffer. -/
theorem ld_unit {A B : ℕ} {e : EltTy} (inb) (X : (⟨2, ![A, B]⟩ : Shape).Idx → Elt Ideal e) :
    View.ld (Val := Elt Ideal) (e' := e) X (Rect.unit (s := ⟨2, ![A, B]⟩) ![0, 0] (⟨2, ![A, B]⟩ : Shape).size inb) = X :=
  funext fun j => congrArg X (emb_unit inb j)

/-- A buffer written once, whole, is what was written. -/
theorem canon_unit {A B : ℕ} {e : EltTy} (inb) (X : (⟨2, ![A, B]⟩ : Shape).Idx → Elt Ideal e) (j : (⟨2, ![A, B]⟩ : Shape).Idx) :
    View.canon (Val := Elt Ideal) [⟨Rect.unit (s := ⟨2, ![A, B]⟩) ![0, 0] (⟨2, ![A, B]⟩ : Shape).size inb, X⟩] j = X j := by
  have h := View.canon_cons_emb (Val := Elt Ideal) (Rect.unit (s := ⟨2, ![A, B]⟩) ![0, 0] (⟨2, ![A, B]⟩ : Shape).size inb) X [] j
  rwa [emb_unit] at h

end Cert.Rows
-- ==== Proof.InProj.lean ====
/- The input projection's arrays after the kernel's run, and the reference's results at an index. -/
module

public import proofs.«01_k».proof.Proof.Rows
public import proofs.«01_k».proof.Proof.Gen.Reference5Ideal.Read
public import Idealize.ShloMosaic.Lib.Pipeline.ReadBack

@[expose] public section

set_option maxRecDepth 16384

noncomputable section

namespace Cert.Kernel5Ideal.In

open Idealize.ShloMosaic Idealize.ShloMosaic.TcCoe Idealize.SL.Sem
open Cert.Kernel5Ideal Cert.Kernel5Ideal.Gen
open Cert.Rows (nrm top top_head sel_first sel_next ld_unit canon_unit)

variable (m : (ℓ : Loc nD τ sig) → Buf (Elt Ideal) ℓ) (c : Dev nD)

/-- Each point's blocks. -/
theorem idx : ∀ t : Fin cfg0.N, t.val < 17 ∧ win0_0.index t = ![0, 0] ∧ win0_1.index t = ![t.val - 1, 0] ∧ win0_2.index t = ![0, 0]
    ∧ win0_3.index t = ![0, 0] ∧ win0_4.index t = ![t.val, 0] ∧ win0_5.index t = ![t.val, 0] :=
  (by decide +kernel : ∀ t : Fin grid0.N, _)

/-- The grid has one coordinate, the point's number. -/
theorem coord : ∀ t : Fin cfg0.N, (grid0.coords t 0).val = t.val := (by decide +kernel : ∀ t : Fin grid0.N, (grid0.coords t 0).val = t.val)

/-- The projection at a row and a column. -/
def proj (M : FVec Ideal S16x1024 .f32) (X : FVec Ideal S4096x1024 .f32) (G : FVec Ideal S1024 .f32) (W : FVec Ideal S1024x1024 .f32)
    (r : Fin 4352) (q : Fin 1024) : Ideal .f32 :=
  ∑ k : Fin 1024, nrm 1149239296#32 (top M X r) (fun d => G (ix1 d)) k * W (ix2 k q)

/-- The first tile's projection. -/
theorem pay_first (i : grid0.Coords) (z : (i 0).val = 0) (a b : FVec Ideal S256x1024 .f32) (g : FVec Ideal S1x1024 .f32) (w : FVec Ideal S1024x1024 .bf16)
    (R : Fin 256) (q : Fin 1024) : (k0_pay1 (F := Ideal) i a b g w (ix2 R q) : Ideal .f32)
      = ∑ k : Fin 1024, nrm 1149239296#32 (fun d => a (ix2 R d)) (fun d => g (ix2 0 d)) k * w (ix2 k q) := by
  unfold nrm
  pointwise [k0_pay1, sel_first (i 0).val z]

/-- A later tile's projection. -/
theorem pay_next (i : grid0.Coords) (z : ¬ (i 0).val = 0) (a b : FVec Ideal S256x1024 .f32) (g : FVec Ideal S1x1024 .f32) (w : FVec Ideal S1024x1024 .bf16)
    (R : Fin 256) (q : Fin 1024) : (k0_pay1 (F := Ideal) i a b g w (ix2 R q) : Ideal .f32)
      = ∑ k : Fin 1024, nrm 1149239296#32 (fun d => b (ix2 R d)) (fun d => g (ix2 0 d)) k * w (ix2 k q) := by
  unfold nrm
  pointwise [k0_pay1, sel_next (i 0).val (i 0).isLt z]

theorem gain_eq (t : Fin cfg0.N) (d : Fin 1024) :
    @Eq EReal ((iblk m c 2 t : FVec Ideal S1x1024 .f32) (ix2 0 d)) ((m ((c : Thread nD τ).loc main_arg2) : FVec Ideal S1024 .f32) (ix1 d)) := by
  have e : (V m c main_v2 : FVec Ideal S1x1024 .f32) = shapeCast S1x1024 (m ((c : Thread nD τ).loc main_arg2) : FVec Ideal S1024 .f32) rfl := by
    show StableHlo.after hostOps0 _ _ = _
    after_results
    rfl
  have b : (iblk m c 2 t : FVec Ideal S1x1024 .f32) (ix2 0 d) = (V m c main_v2 : FVec Ideal S1x1024 .f32) (ix2 0 d) := by
    unfold iblk
    blk_ext [idx t]
  rw [b, e]
  pointwise []

theorem weight_eq (t : Fin cfg0.N) (k q : Fin 1024) :
    @Eq EReal ((iblk m c 3 t : FVec Ideal S1024x1024 .bf16) (ix2 k q)) ((m ((c : Thread nD τ).loc main_arg3) : FVec Ideal S1024x1024 .f32) (ix2 k q)) := by
  have e : (V m c main_v3 : FVec Ideal S1024x1024 .bf16) = truncf (F := Ideal) (φ := .f32) .bf16
      (m ((c : Thread nD τ).loc main_arg3) : FVec Ideal S1024x1024 .f32) bitsLt_bf16_f32 := by
    show StableHlo.after hostOps0 _ _ = _
    after_results
  have b : (iblk m c 3 t : FVec Ideal S1024x1024 .bf16) (ix2 k q) = (V m c main_v3 : FVec Ideal S1024x1024 .bf16) (ix2 k q) := by
    unfold iblk
    blk_ext [idx t]
  rw [b, e]
  pointwise []

theorem head_eq (t : Fin cfg0.N) (R : Fin 256) (d : Fin 1024) :
    @Eq EReal ((iblk m c 0 t : FVec Ideal S256x1024 .f32) (ix2 R d))
      (top (m ((c : Thread nD τ).loc main_arg0)) (m ((c : Thread nD τ).loc main_arg1)) ⟨R.val, by omega⟩ d) := by
  have e : (V m c main_v1 : FVec Ideal S256x1024 .f32) = concatenate S256x1024 0
      [⟨S240x1024, broadcastInDim S240x1024 ![] bcast_S_S240x1024 (constant (F := Ideal) S_ .f32 0#32)⟩,
        ⟨S16x1024, (m ((c : Thread nD τ).loc main_arg0) : FVec Ideal S16x1024 .f32)⟩] concatenates_S240x1024_S16x1024_S256x1024_d0 := by
    show StableHlo.after hostOps0 _ _ = _
    after_results
  have b : (iblk m c 0 t : FVec Ideal S256x1024 .f32) (ix2 R d) = (V m c main_v1 : FVec Ideal S256x1024 .f32) (ix2 R d) := by
    unfold iblk
    blk_ext [idx t]
  rw [b, e]
  refine Eq.trans ?_ (top_head _ _ R ⟨R.val, by omega⟩ rfl d).symm
  pointwise []

theorem seq_eq (t : Fin cfg0.N) (z : ¬ t.val = 0) (R : Fin 256) (d : Fin 1024) (r : Fin 4352) (h : r.val = 256 * t.val + R.val) :
    @Eq EReal ((iblk m c 1 t : FVec Ideal S256x1024 .f32) (ix2 R d))
      (top (m ((c : Thread nD τ).loc main_arg0)) (m ((c : Thread nD τ).loc main_arg1)) r d) := by
  have ht := (idx t).1
  have e : (V m c main_arg1 : FVec Ideal S4096x1024 .f32) = (m ((c : Thread nD τ).loc main_arg1) : FVec Ideal S4096x1024 .f32) := by
    show StableHlo.after hostOps0 _ _ = _
    after_results
  have b : (iblk m c 1 t : FVec Ideal S256x1024 .f32) (ix2 R d) = (V m c main_arg1 : FVec Ideal S4096x1024 .f32) (ix2 ⟨r.val - 240 - 16, by omega⟩ d) := by
    unfold iblk
    blk_ext [idx t]
  rw [b, e]
  unfold top
  rw [dif_neg (by omega), dif_neg (by omega)]

/-- A point's projection is its rows of the whole projection. -/
theorem pay_eq (t : Fin cfg0.N) (R : Fin 256) (q : Fin 1024) (r : Fin 4352) (h : r.val = 256 * t.val + R.val) :
    @Eq EReal (k0_pay1 (F := Ideal) (grid0.coords t) (iblk m c 0 t) (iblk m c 1 t) (iblk m c 2 t) (iblk m c 3 t) (ix2 R q))
      (proj (m ((c : Thread nD τ).loc main_arg0)) (m ((c : Thread nD τ).loc main_arg1)) (m ((c : Thread nD τ).loc main_arg2))
        (m ((c : Thread nD τ).loc main_arg3)) r q) := by
  unfold proj
  have g : (fun d => (iblk m c 2 t : FVec Ideal S1x1024 .f32) (ix2 0 d)) = fun d => (m ((c : Thread nD τ).loc main_arg2) : FVec Ideal S1024 .f32) (ix1 d) :=
    funext fun d => gain_eq m c t d
  by_cases z : (grid0.coords t 0).val = 0
  · refine (pay_first (grid0.coords t) z _ _ _ _ R q).trans (Finset.sum_congr rfl fun k _ => ?_)
    have a : (fun d => (iblk m c 0 t : FVec Ideal S256x1024 .f32) (ix2 R d))
        = top (m ((c : Thread nD τ).loc main_arg0)) (m ((c : Thread nD τ).loc main_arg1)) r := by
      rw [coord] at z
      have hr : r.val = R.val := by omega
      rw [show r = (⟨R.val, by omega⟩ : Fin 4352) from Fin.ext hr]
      exact funext fun d => head_eq m c t R d
    rw [a, g]
    exact congrArg (_ * ·) (weight_eq m c t k q)
  · refine (pay_next (grid0.coords t) z _ _ _ _ R q).trans (Finset.sum_congr rfl fun k _ => ?_)
    have a : (fun d => (iblk m c 1 t : FVec Ideal S256x1024 .f32) (ix2 R d))
        = top (m ((c : Thread nD τ).loc main_arg0)) (m ((c : Thread nD τ).loc main_arg1)) r := by
      rw [coord] at z
      exact funext fun d => seq_eq m c t z R d r h
    rw [a, g]
    exact congrArg (_ * ·) (weight_eq m c t k q)

/-- The left half of the projection. -/
def left (M : FVec Ideal S16x1024 .f32) (X : FVec Ideal S4096x1024 .f32) (G : FVec Ideal S1024 .f32) (W : FVec Ideal S1024x1024 .f32) :
    FVec Ideal S4352x512 .f32 := fun j => proj M X G W (j 0) ⟨(j 1).val, lt_of_lt_of_le (j 1).isLt (by decide : 512 ≤ 1024)⟩

/-- The right half of the projection. -/
def right (M : FVec Ideal S16x1024 .f32) (X : FVec Ideal S4096x1024 .f32) (G : FVec Ideal S1024 .f32) (W : FVec Ideal S1024x1024 .f32) :
    FVec Ideal S4352x512 .f32 := fun j => proj M X G W (j 0) ⟨512 + (j 1).val, Nat.add_lt_add_left (j 1).isLt 512⟩

theorem out4 (i : grid0.Coords) (a b : FVec Ideal S256x1024 .f32) (g : FVec Ideal S1x1024 .f32) (w : FVec Ideal S1024x1024 .bf16)
    (R : Fin 256) (q : Fin 512) : @Eq EReal (out0_4 (F := Ideal) i a b g w (ix2 R q)) (k0_pay1 (F := Ideal) i a b g w (ix2 R ⟨q.val, by omega⟩)) := by
  unfold out0_4
  refine (canon_unit _ _ _).trans ?_
  rw [ld_unit, ld_unit, ld_unit, ld_unit]
  pointwise [k0_pay2]

theorem out5 (i : grid0.Coords) (a b : FVec Ideal S256x1024 .f32) (g : FVec Ideal S1x1024 .f32) (w : FVec Ideal S1024x1024 .bf16)
    (R : Fin 256) (q : Fin 512) : @Eq EReal (out0_5 (F := Ideal) i a b g w (ix2 R q)) (k0_pay1 (F := Ideal) i a b g w (ix2 R ⟨512 + q.val, by omega⟩)) := by
  unfold out0_5
  refine (canon_unit _ _ _).trans ?_
  rw [ld_unit, ld_unit, ld_unit, ld_unit]
  pointwise [k0_pay3]

/-- The first result's array after the run. -/
theorem final4 : (dats m 0 c).arrAt 4 cfg0.N = left (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have ht := (idx t).1
  blk_simp
  rw [after0_4]
  obtain ⟨R, q, rfl⟩ : ∃ (R : Fin 256) (q : Fin 512), y = ix2 R q := ⟨y 0, y 1, (ix2_eta (n0 := 256) (n1 := 512) y).symm⟩
  have e : (win0_4.blk t).view.emb (ix2 R q) = ix2 (⟨256 * t.val + R.val, by omega⟩ : Fin 4352) q := by
    blk_ext [idx t]
  rw [e]
  exact (out4 _ _ _ _ _ R q).trans (pay_eq m c t R _ ⟨256 * t.val + R.val, by omega⟩ rfl)

/-- The second result's array after the run. -/
theorem final5 : (dats m 0 c).arrAt 5 cfg0.N = right (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  have ht := (idx t).1
  blk_simp
  rw [after0_5]
  obtain ⟨R, q, rfl⟩ : ∃ (R : Fin 256) (q : Fin 512), y = ix2 R q := ⟨y 0, y 1, (ix2_eta (n0 := 256) (n1 := 512) y).symm⟩
  have e : (win0_5.blk t).view.emb (ix2 R q) = ix2 (⟨256 * t.val + R.val, by omega⟩ : Fin 4352) q := by
    blk_ext [idx t]
  rw [e]
  exact (out5 _ _ _ _ _ R q).trans (pay_eq m c t R _ ⟨256 * t.val + R.val, by omega⟩ rfl)

end Cert.Kernel5Ideal.In

namespace Cert.Reference5Ideal.In

open Idealize.ShloMosaic Idealize.ShloMosaic.TcCoe Idealize.SL.Sem
open Cert.Reference5Ideal Cert.Reference5Ideal.Gen Cert.Reference5Ideal.Read
open Cert.Rows (nrm top)
open Cert.Kernel5Ideal.In (proj left right)

variable (M : FVec Ideal S16x1024 .f32) (X : FVec Ideal S4096x1024 .f32) (G : FVec Ideal S1024 .f32) (W : FVec Ideal S1024x1024 .f32)

/-- The padded rows. -/
theorem v1 (r : Fin 4352) (d : Fin 1024) : @Eq EReal (val_main_v1 (F := Ideal) M X (ix2 r d)) (top M X r d) := by
  unfold top
  pointwise [val_main_v1, val_main_v0, val_main_cst]

/-- The normalised rows. -/
theorem v14 (r : Fin 4352) (d : Fin 1024) :
    @Eq EReal (val_main_v14 (F := Ideal) M X G (ix2 r d)) (nrm 1149239296#32 (top M X r) (fun d => G (ix1 d)) d) := by
  unfold nrm
  pointwise [val_main_v14, val_main_v13, val_main_v12, val_main_v11, val_main_v10, val_main_v9, val_main_v8, val_main_v7, val_main_v6, val_main_v5,
    val_main_v4, val_main_v3, val_main_v2, val_main_cst_0, val_main_cst_1, val_main_cst_2, v1]

theorem v15 (r : Fin 4352) (q : Fin 1024) : @Eq EReal (val_main_v15 (F := Ideal) M X G W (ix2 r q)) (proj M X G W r q) := by
  unfold proj
  pointwise [val_main_v15, v14]

theorem result0 : val_main_v16 (F := Ideal) M X G W = left M X G W := by
  funext j
  obtain ⟨r, q, rfl⟩ : ∃ (r : Fin 4352) (q : Fin 512), j = ix2 r q := ⟨j 0, j 1, (ix2_eta (n0 := 4352) (n1 := 512) j).symm⟩
  refine Eq.trans ?_ (v15 M X G W r ⟨q.val, by omega⟩)
  pointwise [val_main_v16]

theorem result1 : val_main_v17 (F := Ideal) M X G W = right M X G W := by
  funext j
  obtain ⟨r, q, rfl⟩ : ∃ (r : Fin 4352) (q : Fin 512), j = ix2 r q := ⟨j 0, j 1, (ix2_eta (n0 := 4352) (n1 := 512) j).symm⟩
  refine Eq.trans ?_ (v15 M X G W r ⟨512 + q.val, by omega⟩)
  pointwise [val_main_v17]

end Cert.Reference5Ideal.In
-- ==== Proof.InClaims.lean ====
/- The claims of the input projection: both programs run, and they compute the same results. -/
module

public import proofs.«01_k».proof.Defs
public import proofs.«01_k».proof.Proof.Gen.Kernel5
public import proofs.«01_k».proof.Proof.Gen.Reference5Ideal
public import proofs.«01_k».proof.Proof.Gen.Reference5Ideal.Run
public import proofs.«01_k».proof.Proof.InProj

@[expose] public section

noncomputable section

namespace Cert.In

open Idealize.ShloMosaic Idealize.SL.Sem

section Same
variable {F : FTy → Type} [FloatOps F]

/-- The two bodies are one. -/
theorem body_same : @Cert.Kernel5.cc0_in_proj F _ _ = @Cert.Kernel5Ideal.cc0_in_proj F _ _ := rfl

/-- The two tables of bodies are one. -/
theorem table_same : Cert.Kernel5.defs₀ (F := F) = Cert.Kernel5Ideal.defs₀ (F := F) := by
  unfold Cert.Kernel5.defs₀ Cert.Kernel5Ideal.defs₀
  refine congrArg Defs.onTc ?_
  funext l a
  match l with
  | 0 => obtain ⟨t, s⟩ := a; rfl

/-- The two programs' tables are one. -/
theorem defs_same : Cert.Kernel5.defs (F := F) = Cert.Kernel5Ideal.defs (F := F) :=
  congrArg (Pipeline.defs (Cert.Kernel5Ideal.pcfgs (F := F))) table_same

/-- The two programs are one. -/
theorem main_same : Cert.Kernel5.main (F := F) = Cert.Kernel5Ideal.main (F := F) := rfl

end Same

/-- The printed program runs. -/
theorem kernel_runs : Cert.quiescent_Kernel5 (hKernel5 := Cert.Kernel5.Gen.facts) := by
  intro m g _
  rw [main_same, defs_same]
  exact Cert.Kernel5Ideal.Gen.frame (F := Bits) m g

/-- The program over the extended reals runs. -/
theorem ideal_runs : Cert.quiescent_Kernel5Ideal (hKernel5Ideal := Cert.Kernel5Ideal.Gen.facts) := fun m g _ =>
  Cert.Kernel5Ideal.Gen.frame (F := Ideal) m g

/-- The reference runs. -/
theorem reference_runs : Cert.quiescent_Reference5Ideal (hReference5Ideal := Cert.Reference5Ideal.Gen.facts) := fun m g _ =>
  (θ_run Cert.Reference5Ideal.defs _ _).mono (fun r h => ⟨fun c => (h c).2.2, sem_eq_zero_of_no_sems (by decide) r.2⟩)
    (Cert.Reference5Ideal.Value.run (F := Ideal) m g)

/-- From any arguments the kernel and the reference end with the same two results. -/
theorem values : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 4 Cert.Kernel5Ideal.cfg0.N,
    fun c => (Cert.Kernel5Ideal.Gen.dats m 0 c).arrAt 5 Cert.Kernel5Ideal.cfg0.N,
    Cert.Kernel5Ideal.Value.run_blocks m g, (θ_run _ _ _).mono (fun r h c => ?_) (Cert.Reference5Ideal.Value.run (F := Ideal) m' g')⟩
  obtain ⟨a0, a1, a2, a3⟩ := hargs c
  refine ⟨(h c).1.trans ((Cert.Reference5Ideal.Read.val_main_v16_eq _ _ _ _).trans ?_),
    (h c).2.1.trans ((Cert.Reference5Ideal.Read.val_main_v17_eq _ _ _ _).trans ?_), (h c).2.2⟩
  · refine (Cert.Reference5Ideal.In.result0 _ _ _ _).trans (Eq.trans ?_ (Cert.Kernel5Ideal.In.final4 m c).symm)
    rw [a0, a1, a2, a3]
  · refine (Cert.Reference5Ideal.In.result1 _ _ _ _).trans (Eq.trans ?_ (Cert.Kernel5Ideal.In.final5 m c).symm)
    rw [a0, a1, a2, a3]

end Cert.In

end
-- ==== Proof.OutProj.lean ====
/- The output projection's array after the kernel's run, and the reference's result at an index. -/
module

public import proofs.«01_k».proof.Proof.Rows
public import proofs.«01_k».proof.Proof.Gen.Kernel6Ideal.Value
public import proofs.«01_k».proof.Proof.Gen.Reference6Ideal.Read
public import Idealize.ShloMosaic.Lib.Pipeline.ReadBack

@[expose] public section

set_option maxRecDepth 16384

noncomputable section

namespace Cert.Kernel6Ideal.Out

open Idealize.ShloMosaic Idealize.ShloMosaic.TcCoe Idealize.SL.Sem
open Cert.Kernel6Ideal Cert.Kernel6Ideal.Gen
open Cert.Rows (nrm top top_head sel_first sel_next ld_unit canon_unit)

variable (m : (ℓ : Loc nD τ sig) → Buf (Elt Ideal) ℓ) (c : Dev nD)

/-- Each point's blocks. -/
theorem idx : ∀ t : Fin cfg0.N, t.val < 17 ∧ win0_0.index t = ![0, 0] ∧ win0_1.index t = ![t.val - 1, 0] ∧ win0_2.index t = ![t.val, 0]
    ∧ win0_3.index t = ![t.val, 0] ∧ win0_4.index t = ![0, 0] ∧ win0_5.index t = ![0, 0] ∧ win0_6.index t = ![0, 0] ∧ win0_7.index t = ![t.val, 0] :=
  (by decide +kernel : ∀ t : Fin grid0.N, _)

/-- The grid has one coordinate, the point's number. -/
theorem coord : ∀ t : Fin cfg0.N, (grid0.coords t 0).val = t.val := (by decide +kernel : ∀ t : Fin grid0.N, (grid0.coords t 0).val = t.val)

/-- A row's result: the row, and the two normalised rows' projections by the weight's two halves. -/
def res (h : Ideal .f32) (s gs p gp : Fin 512 → Ideal .f32) (w : Fin 1024 → Ideal .f32) : Ideal .f32 :=
  h + (∑ k : Fin 512, nrm 1140850688#32 s gs k * w ⟨k.val, by omega⟩) + (∑ k : Fin 512, nrm 1140850688#32 p gp k * w ⟨512 + k.val, by omega⟩)

/-- The output projection. -/
def mixed (M : FVec Ideal S16x1024 .f32) (X : FVec Ideal S4096x1024 .f32) (Ys Yp : FVec Ideal S4352x512 .f32) (Gs Gp : FVec Ideal S512 .f32)
    (W : FVec Ideal S1024x1024 .f32) (r : Fin 4352) (d : Fin 1024) : Ideal .f32 :=
  res (top M X r d) (fun k => Ys (ix2 r k)) (fun k => Gs (ix1 k)) (fun k => Yp (ix2 r k)) (fun k => Gp (ix1 k)) (fun k => W (ix2 k d))

/-- A tile's norms. -/
theorem pay_three (p : FVec Ideal S256x512 .f32) (g : FVec Ideal S1x512 .f32) (R : Fin 256) (k : Fin 512) :
    @Eq EReal (k0_pay3 (F := Ideal) p g (ix2 R k)) (nrm 1140850688#32 (fun k => p (ix2 R k)) (fun k => g (ix2 0 k)) k) := by
  unfold nrm
  pointwise [k0_pay3]

theorem pay_five (p : FVec Ideal S256x512 .f32) (g : FVec Ideal S1x512 .f32) (R : Fin 256) (k : Fin 512) :
    @Eq EReal (k0_pay5 (F := Ideal) p g (ix2 R k)) (nrm 1140850688#32 (fun k => p (ix2 R k)) (fun k => g (ix2 0 k)) k) := by
  unfold nrm
  pointwise [k0_pay5]

/-- A tile's result from its rows. -/
theorem pay_one (A : FVec Ideal S256x1024 .f32) (s p : FVec Ideal S256x512 .f32) (gs gp : FVec Ideal S1x512 .f32) (lo hi : FVec Ideal S512x1024 .bf16)
    (w : FVec Ideal S1024x1024 .bf16) (hlo : ∀ k d, @Eq EReal (lo (ix2 k d)) (w (ix2 ⟨k.val, by omega⟩ d)))
    (hhi : ∀ k d, @Eq EReal (hi (ix2 k d)) (w (ix2 ⟨512 + k.val, by omega⟩ d))) (R : Fin 256) (d : Fin 1024) :
    @Eq EReal (k0_pay1 (F := Ideal) A (k0_pay3 (F := Ideal) p gp) (k0_pay4 (F := Ideal) lo) (k0_pay5 (F := Ideal) s gs) hi (ix2 R d))
      (res (A (ix2 R d)) (fun k => s (ix2 R k)) (fun k => gs (ix2 0 k)) (fun k => p (ix2 R k)) (fun k => gp (ix2 0 k)) (fun k => w (ix2 k d))) := by
  unfold res
  pointwise [k0_pay1, k0_pay4, pay_three, pay_five, hlo, hhi]

theorem pay_first (i : grid0.Coords) (z : (i 0).val = 0) (a b : FVec Ideal S256x1024 .f32) (R : Fin 256) (d : Fin 1024) :
    @Eq EReal (k0_pay2 (F := Ideal) i a b (ix2 R d)) (a (ix2 R d)) := by
  pointwise [k0_pay2, sel_first (i 0).val z]

theorem pay_next (i : grid0.Coords) (z : ¬ (i 0).val = 0) (a b : FVec Ideal S256x1024 .f32) (R : Fin 256) (d : Fin 1024) :
    @Eq EReal (k0_pay2 (F := Ideal) i a b (ix2 R d)) (b (ix2 R d)) := by
  pointwise [k0_pay2, sel_next (i 0).val (i 0).isLt z]

/-- The first half of the weight, as a point reads it. -/
theorem lo_ld (w : FVec Ideal S1024x1024 .bf16) (k : Fin 512) (d : Fin 1024) :
    @Eq EReal (View.ld (Val := Elt Ideal) (e' := .bf16) w r0_3 (ix2 k d)) (w (ix2 ⟨k.val, by omega⟩ d)) := by
  refine congrArg w (funext fun a => Fin.ext ?_)
  fin_cases a
  · show 0 + 1 * k.val = k.val
    omega
  · show 0 + 1 * d.val = d.val
    omega

/-- The second half of the weight, as a point reads it. -/
theorem hi_ld (w : FVec Ideal S1024x1024 .bf16) (k : Fin 512) (d : Fin 1024) :
    @Eq EReal (View.ld (Val := Elt Ideal) (e' := .bf16) w r0_4 (ix2 k d)) (w (ix2 ⟨512 + k.val, by omega⟩ d)) := by
  refine congrArg w (funext fun a => Fin.ext ?_)
  fin_cases a
  · show 512 + 1 * k.val = 512 + k.val
    omega
  · show 0 + 1 * d.val = d.val
    omega

theorem gs_eq (t : Fin cfg0.N) (d : Fin 512) :
    @Eq EReal ((iblk m c 4 t : FVec Ideal S1x512 .f32) (ix2 0 d)) ((m ((c : Thread nD τ).loc main_arg4) : FVec Ideal S512 .f32) (ix1 d)) := by
  have e : (V m c main_v2 : FVec Ideal S1x512 .f32) = shapeCast S1x512 (m ((c : Thread nD τ).loc main_arg4) : FVec Ideal S512 .f32) rfl := by
    show StableHlo.after hostOps0 _ _ = _
    after_results
    rfl
  have b : (iblk m c 4 t : FVec Ideal S1x512 .f32) (ix2 0 d) = (V m c main_v2 : FVec Ideal S1x512 .f32) (ix2 0 d) := by
    unfold iblk
    blk_ext [idx t]
  rw [b, e]
  pointwise []

theorem gp_eq (t : Fin cfg0.N) (d : Fin 512) :
    @Eq EReal ((iblk m c 5 t : FVec Ideal S1x512 .f32) (ix2 0 d)) ((m ((c : Thread nD τ).loc main_arg5) : FVec Ideal S512 .f32) (ix1 d)) := by
  have e : (V m c main_v3 : FVec Ideal S1x512 .f32) = shapeCast S1x512 (m ((c : Thread nD τ).loc main_arg5) : FVec Ideal S512 .f32) rfl := by
    show StableHlo.after hostOps0 _ _ = _
    after_results
    rfl
  have b : (iblk m c 5 t : FVec Ideal S1x512 .f32) (ix2 0 d) = (V m c main_v3 : FVec Ideal S1x512 .f32) (ix2 0 d) := by
    unfold iblk
    blk_ext [idx t]
  rw [b, e]
  pointwise []

theorem weight_eq (t : Fin cfg0.N) (k q : Fin 1024) :
    @Eq EReal ((iblk m c 6 t : FVec Ideal S1024x1024 .bf16) (ix2 k q)) ((m ((c : Thread nD τ).loc main_arg6) : FVec Ideal S1024x1024 .f32) (ix2 k q)) := by
  have e : (V m c main_v4 : FVec Ideal S1024x1024 .bf16) = truncf (F := Ideal) (φ := .f32) .bf16
      (m ((c : Thread nD τ).loc main_arg6) : FVec Ideal S1024x1024 .f32) bitsLt_bf16_f32 := by
    show StableHlo.after hostOps0 _ _ = _
    after_results
  have b : (iblk m c 6 t : FVec Ideal S1024x1024 .bf16) (ix2 k q) = (V m c main_v4 : FVec Ideal S1024x1024 .bf16) (ix2 k q) := by
    unfold iblk
    blk_ext [idx t]
  rw [b, e]
  pointwise []

theorem head_eq (t : Fin cfg0.N) (R : Fin 256) (d : Fin 1024) :
    @Eq EReal ((iblk m c 0 t : FVec Ideal S256x1024 .f32) (ix2 R d))
      (top (m ((c : Thread nD τ).loc main_arg0)) (m ((c : Thread nD τ).loc main_arg1)) ⟨R.val, by omega⟩ d) := by
  have e : (V m c main_v1 : FVec Ideal S256x1024 .f32) = concatenate S256x1024 0
      [⟨S240x1024, broadcastInDim S240x1024 ![] bcast_S_S240x1024 (constant (F := Ideal) S_ .f32 0#32)⟩,
        ⟨S16x1024, (m ((c : Thread nD τ).loc main_arg0) : FVec Ideal S16x1024 .f32)⟩] concatenates_S240x1024_S16x1024_S256x1024_d0 := by
    show StableHlo.after hostOps0 _ _ = _
    after_results
  have b : (iblk m c 0 t : FVec Ideal S256x1024 .f32) (ix2 R d) = (V m c main_v1 : FVec Ideal S256x1024 .f32) (ix2 R d) := by
    unfold iblk
    blk_ext [idx t]
  rw [b, e]
  refine Eq.trans ?_ (top_head _ _ R ⟨R.val, by omega⟩ rfl d).symm
  pointwise []

theorem seq_eq (t : Fin cfg0.N) (z : ¬ t.val = 0) (R : Fin 256) (d : Fin 1024) (r : Fin 4352) (h : r.val = 256 * t.val + R.val) :
    @Eq EReal ((iblk m c 1 t : FVec Ideal S256x1024 .f32) (ix2 R d))
      (top (m ((c : Thread nD τ).loc main_arg0)) (m ((c : Thread nD τ).loc main_arg1)) r d) := by
  have ht := (idx t).1
  have e : (V m c main_arg1 : FVec Ideal S4096x1024 .f32) = (m ((c : Thread nD τ).loc main_arg1) : FVec Ideal S4096x1024 .f32) := by
    show StableHlo.after hostOps0 _ _ = _
    after_results
  have b : (iblk m c 1 t : FVec Ideal S256x1024 .f32) (ix2 R d) = (V m c main_arg1 : FVec Ideal S4096x1024 .f32) (ix2 ⟨r.val - 240 - 16, by omega⟩ d) := by
    unfold iblk
    blk_ext [idx t]
  rw [b, e]
  unfold top
  rw [dif_neg (by omega), dif_neg (by omega)]

theorem ys_eq (t : Fin cfg0.N) (R : Fin 256) (d : Fin 512) (r : Fin 4352) (h : r.val = 256 * t.val + R.val) :
    @Eq EReal ((iblk m c 2 t : FVec Ideal S256x512 .f32) (ix2 R d)) ((m ((c : Thread nD τ).loc main_arg2) : FVec Ideal S4352x512 .f32) (ix2 r d)) := by
  have e : (V m c main_arg2 : FVec Ideal S4352x512 .f32) = (m ((c : Thread nD τ).loc main_arg2) : FVec Ideal S4352x512 .f32) := by
    show StableHlo.after hostOps0 _ _ = _
    after_results
  have b : (iblk m c 2 t : FVec Ideal S256x512 .f32) (ix2 R d) = (V m c main_arg2 : FVec Ideal S4352x512 .f32) (ix2 r d) := by
    unfold iblk
    blk_ext [idx t]
  rw [b, e]

theorem yp_eq (t : Fin cfg0.N) (R : Fin 256) (d : Fin 512) (r : Fin 4352) (h : r.val = 256 * t.val + R.val) :
    @Eq EReal ((iblk m c 3 t : FVec Ideal S256x512 .f32) (ix2 R d)) ((m ((c : Thread nD τ).loc main_arg3) : FVec Ideal S4352x512 .f32) (ix2 r d)) := by
  have e : (V m c main_arg3 : FVec Ideal S4352x512 .f32) = (m ((c : Thread nD τ).loc main_arg3) : FVec Ideal S4352x512 .f32) := by
    show StableHlo.after hostOps0 _ _ = _
    after_results
  have b : (iblk m c 3 t : FVec Ideal S256x512 .f32) (ix2 R d) = (V m c main_arg3 : FVec Ideal S4352x512 .f32) (ix2 r d) := by
    unfold iblk
    blk_ext [idx t]
  rw [b, e]

/-- The rows' block of a point, chosen by the point. -/
theorem rows_eq (t : Fin cfg0.N) (R : Fin 256) (d : Fin 1024) (r : Fin 4352) (h : r.val = 256 * t.val + R.val) :
    @Eq EReal (k0_pay2 (F := Ideal) (grid0.coords t) (iblk m c 0 t) (iblk m c 1 t) (ix2 R d))
      (top (m ((c : Thread nD τ).loc main_arg0)) (m ((c : Thread nD τ).loc main_arg1)) r d) := by
  by_cases z : (grid0.coords t 0).val = 0
  · refine (pay_first (grid0.coords t) z _ _ R d).trans ?_
    rw [coord] at z
    have hr : r.val = R.val := by omega
    rw [show r = (⟨R.val, by omega⟩ : Fin 4352) from Fin.ext hr]
    exact head_eq m c t R d
  · refine (pay_next (grid0.coords t) z _ _ R d).trans ?_
    rw [coord] at z
    exact seq_eq m c t z R d r h

/-- The result's array after the run. -/
theorem final7 : (dats m 0 c).arrAt 7 cfg0.N = fun j : S4352x1024.Idx => mixed (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (j 0) (j 1) := by
  refine (dats m 0 c).arrAt_eq_of_covers 7 _ (by decide +kernel) fun t hf y => ?_
  have ht := (idx t).1
  blk_simp
  rw [after0_7]
  obtain ⟨R, d, rfl⟩ : ∃ (R : Fin 256) (d : Fin 1024), y = ix2 R d := ⟨y 0, y 1, (ix2_eta (n0 := 256) (n1 := 1024) y).symm⟩
  have e : (win0_7.blk t).view.emb (ix2 R d) = ix2 (⟨256 * t.val + R.val, by omega⟩ : Fin 4352) d := by
    blk_ext [idx t]
  rw [e]
  unfold out0_7
  refine (canon_unit _ _ _).trans ?_
  rw [ld_unit, ld_unit, ld_unit, ld_unit, ld_unit, ld_unit]
  refine (pay_one _ _ _ _ _ _ _ (iblk m c 6 t) (lo_ld _) (hi_ld _) R d).trans ?_
  rw [rows_eq m c t R d ⟨256 * t.val + R.val, by omega⟩ rfl]
  simp only [ys_eq m c t R _ ⟨256 * t.val + R.val, by omega⟩ rfl, yp_eq m c t R _ ⟨256 * t.val + R.val, by omega⟩ rfl, gs_eq, gp_eq, weight_eq]
  rfl

end Cert.Kernel6Ideal.Out

namespace Cert.Reference6Ideal.Out

open Idealize.ShloMosaic Idealize.ShloMosaic.TcCoe Idealize.SL.Sem
open Cert.Reference6Ideal Cert.Reference6Ideal.Gen Cert.Reference6Ideal.Read
open Cert.Rows (nrm top)
open Cert.Kernel6Ideal.Out (res mixed)

variable (M : FVec Ideal S16x1024 .f32) (X : FVec Ideal S4096x1024 .f32) (Ys Yp : FVec Ideal S4352x512 .f32) (Gs Gp : FVec Ideal S512 .f32)
  (W : FVec Ideal S1024x1024 .f32)

/-- The padded rows. -/
theorem v1 (r : Fin 4352) (d : Fin 1024) : @Eq EReal (val_main_v1 (F := Ideal) M X (ix2 r d)) (top M X r d) := by
  unfold top
  pointwise [val_main_v1, val_main_v0, val_main_cst]

/-- The first normalised rows. -/
theorem v14 (r : Fin 4352) (k : Fin 512) :
    @Eq EReal (val_main_v14 (F := Ideal) Ys Gs (ix2 r k)) (nrm 1140850688#32 (fun k => Ys (ix2 r k)) (fun k => Gs (ix1 k)) k) := by
  unfold nrm
  pointwise [val_main_v14, val_main_v13, val_main_v12, val_main_v11, val_main_v10, val_main_v9, val_main_v8, val_main_v7, val_main_v6, val_main_v5,
    val_main_v4, val_main_v3, val_main_v2, val_main_cst_0, val_main_cst_1, val_main_cst_2]

/-- The second normalised rows. -/
theorem v27 (r : Fin 4352) (k : Fin 512) :
    @Eq EReal (val_main_v27 (F := Ideal) Yp Gp (ix2 r k)) (nrm 1140850688#32 (fun k => Yp (ix2 r k)) (fun k => Gp (ix1 k)) k) := by
  unfold nrm
  pointwise [val_main_v27, val_main_v26, val_main_v25, val_main_v24, val_main_v23, val_main_v22, val_main_v21, val_main_v20, val_main_v19, val_main_v18,
    val_main_v17, val_main_v16, val_main_v15, val_main_cst_3, val_main_cst_4, val_main_cst_5]

/-- The joined rows' first half. -/
theorem v28_lo (r : Fin 4352) (k : Fin 512) :
    @Eq EReal (val_main_v28 (F := Ideal) Ys Yp Gs Gp (ix2 r ⟨k.val, by omega⟩)) (nrm 1140850688#32 (fun k => Ys (ix2 r k)) (fun k => Gs (ix1 k)) k) := by
  pointwise [val_main_v28, v14, v27]

/-- The joined rows' second half. -/
theorem v28_hi (r : Fin 4352) (k : Fin 512) :
    @Eq EReal (val_main_v28 (F := Ideal) Ys Yp Gs Gp (ix2 r ⟨512 + k.val, by omega⟩)) (nrm 1140850688#32 (fun k => Yp (ix2 r k)) (fun k => Gp (ix1 k)) k) := by
  pointwise [val_main_v28, v14, v27]

theorem v29 (r : Fin 4352) (d : Fin 1024) : @Eq EReal (val_main_v29 (F := Ideal) Ys Yp Gs Gp W (ix2 r d))
    ((∑ k : Fin 512, nrm 1140850688#32 (fun k => Ys (ix2 r k)) (fun k => Gs (ix1 k)) k * W (ix2 ⟨k.val, by omega⟩ d))
      + ∑ k : Fin 512, nrm 1140850688#32 (fun k => Yp (ix2 r k)) (fun k => Gp (ix1 k)) k * W (ix2 ⟨512 + k.val, by omega⟩ d)) := by
  refine (show _ = ∑ k : Fin 1024, val_main_v28 (F := Ideal) Ys Yp Gs Gp (ix2 r k) * W (ix2 k d) from by pointwise [val_main_v29]).trans ?_
  refine (Fin.sum_univ_add (a := 512) (b := 512) fun k : Fin 1024 => val_main_v28 (F := Ideal) Ys Yp Gs Gp (ix2 r k) * W (ix2 k d)).trans
    (congrArg₂ (· + ·) (Finset.sum_congr rfl fun k _ => ?_) (Finset.sum_congr rfl fun k _ => ?_))
  · exact congrArg (· * W (ix2 ⟨k.val, by omega⟩ d)) (v28_lo Ys Yp Gs Gp r k)
  · exact congrArg (· * W (ix2 ⟨512 + k.val, by omega⟩ d)) (v28_hi Ys Yp Gs Gp r k)

/-- The reference's result. -/
theorem result : val_main_v30 (F := Ideal) M X Ys Yp Gs Gp W = fun j => mixed M X Ys Yp Gs Gp W (j 0) (j 1) := by
  funext j
  obtain ⟨r, d, rfl⟩ : ∃ (r : Fin 4352) (d : Fin 1024), j = ix2 r d := ⟨j 0, j 1, (ix2_eta (n0 := 4352) (n1 := 1024) j).symm⟩
  show _ = mixed M X Ys Yp Gs Gp W r d
  unfold mixed res
  rw [add_assoc, ← v29]
  pointwise [val_main_v30, v1]

end Cert.Reference6Ideal.Out
-- ==== Proof.OutClaims.lean ====
/- The claims of the output projection: both programs run, and they compute the same result. -/
module

public import proofs.«01_k».proof.Defs
public import proofs.«01_k».proof.Proof.Gen.Kernel6
public import proofs.«01_k».proof.Proof.Gen.Reference6Ideal
public import proofs.«01_k».proof.Proof.Gen.Reference6Ideal.Run
public import proofs.«01_k».proof.Proof.OutProj

@[expose] public section

noncomputable section

namespace Cert.Out

open Idealize.ShloMosaic Idealize.SL.Sem

section Same
variable {F : FTy → Type} [FloatOps F]

/-- The two bodies are one. -/
theorem body_same : @Cert.Kernel6.cc0_out_proj F _ _ = @Cert.Kernel6Ideal.cc0_out_proj F _ _ := rfl

/-- The two tables of bodies are one. -/
theorem table_same : Cert.Kernel6.defs₀ (F := F) = Cert.Kernel6Ideal.defs₀ (F := F) := by
  unfold Cert.Kernel6.defs₀ Cert.Kernel6Ideal.defs₀
  refine congrArg Defs.onTc ?_
  funext l a
  match l with
  | 0 => obtain ⟨t, s⟩ := a; rfl

/-- The two programs' tables are one. -/
theorem defs_same : Cert.Kernel6.defs (F := F) = Cert.Kernel6Ideal.defs (F := F) :=
  congrArg (Pipeline.defs (Cert.Kernel6Ideal.pcfgs (F := F))) table_same

/-- The two programs are one. -/
theorem main_same : Cert.Kernel6.main (F := F) = Cert.Kernel6Ideal.main (F := F) := rfl

end Same

/-- The printed program runs. -/
theorem kernel_runs : Cert.quiescent_Kernel6 (hKernel6 := Cert.Kernel6.Gen.facts) := by
  intro m g _
  rw [main_same, defs_same]
  exact Cert.Kernel6Ideal.Gen.frame (F := Bits) m g

/-- The program over the extended reals runs. -/
theorem ideal_runs : Cert.quiescent_Kernel6Ideal (hKernel6Ideal := Cert.Kernel6Ideal.Gen.facts) := fun m g _ =>
  Cert.Kernel6Ideal.Gen.frame (F := Ideal) m g

/-- The reference runs. -/
theorem reference_runs : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

/-- From any arguments the kernel and the reference end with the same result. -/
theorem values : Cert.algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats m 0 c).arrAt 7 Cert.Kernel6Ideal.cfg0.N,
    Cert.Kernel6Ideal.Value.run_blocks m g, (θ_run _ _ _).mono (fun r h c => ?_) (Cert.Reference6Ideal.Value.run (F := Ideal) m' g')⟩
  obtain ⟨a0, a1, a2, a3, a4, a5, a6⟩ := hargs c
  refine ⟨(h c).1.trans ((Cert.Reference6Ideal.Read.val_main_v30_eq _ _ _ _ _ _ _).trans ?_), (h c).2⟩
  refine (Cert.Reference6Ideal.Out.result _ _ _ _ _ _ _).trans (Eq.trans ?_ (Cert.Kernel6Ideal.Out.final7 m c).symm)
  rw [a0, a1, a2, a3, a4, a5, a6]

end Cert.Out

end
-- ==== Proof.lean ====
/- The claims proved: every program runs, and each kernel computes its reference's results. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.ReferenceIdeal.Read
public import proofs.«01_k».proof.Proof.PoolRun
public import proofs.«01_k».proof.Proof.PoolPre
public import proofs.«01_k».proof.Proof.PoolMath
public import proofs.«01_k».proof.Proof.Transport
public import proofs.«01_k».proof.Proof.WgradClaims
public import proofs.«01_k».proof.Proof.FfnClaims
public import proofs.«01_k».proof.Proof.BackClaims
public import proofs.«01_k».proof.Proof.InClaims
public import proofs.«01_k».proof.Proof.OutClaims

@[expose] public section

noncomputable section

namespace Cert.Proof

open Idealize.ShloMosaic Idealize.SL.Sem

/-- The printed program runs. -/
theorem kernel_runs : Cert.quiescent_Kernel (hKernel := Cert.Kernel.Gen.facts) := by
  intro m g _
  rw [main_same, defs_same]
  exact Cert.KernelIdeal.Pool.frame (F := Bits) m g

/-- The program over the extended reals runs. -/
theorem ideal_runs : Cert.quiescent_KernelIdeal (hKernelIdeal := Cert.KernelIdeal.Gen.facts) := fun m g _ =>
  Cert.KernelIdeal.Pool.frame (F := Ideal) m g

/-- The reference runs. -/
theorem reference_runs : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The kernel's run with its three results. -/
theorem ideal_value (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        (r.2.mem ((c.tc : Thread Cert.KernelIdeal.nD Cert.KernelIdeal.τ).loc Cert.KernelIdeal.main_v5)
          = Pipeline.afterTail₀ Cert.KernelIdeal.cfgs (Cert.KernelIdeal.Pool.dats m) 0 (Cert.KernelIdeal.Gen.V0 m) [Cert.KernelIdeal.Gen.hostOps1] c Cert.KernelIdeal.main_v5
        ∧ r.2.mem ((c.tc : Thread Cert.KernelIdeal.nD Cert.KernelIdeal.τ).loc Cert.KernelIdeal.main_v4_1)
          = (Cert.KernelIdeal.Pool.dats m 0 c).arrAt 5 Cert.KernelIdeal.cfg0.N
        ∧ r.2.mem ((c.tc : Thread Cert.KernelIdeal.nD Cert.KernelIdeal.τ).loc Cert.KernelIdeal.main_v6)
          = Pipeline.afterTail₀ Cert.KernelIdeal.cfgs (Cert.KernelIdeal.Pool.dats m) 0 (Cert.KernelIdeal.Gen.V0 m) [Cert.KernelIdeal.Gen.hostOps1] c Cert.KernelIdeal.main_v6)
        ∧ (r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :=
  (θ_run (Cert.KernelIdeal.defs (F := Ideal)) _ _).mono
    (fun r h c => ⟨⟨(h.1 c).2 Cert.KernelIdeal.main_v5 (by decide), (h.1 c).1 5, (h.1 c).2 Cert.KernelIdeal.main_v6 (by decide)⟩, h.2.1 c⟩)
    (θ_run_and (Cert.KernelIdeal.Pool.run_main m g) (Cert.KernelIdeal.Pool.frame m g))

/-- From finite arguments the kernel and the reference end with the same three results. -/
theorem values : Cert.algebraic_KernelIdeal_ReferenceIdeal_pre_finite (hKernelIdeal := Cert.KernelIdeal.Gen.facts)
    (hReferenceIdeal := Cert.ReferenceIdeal.Gen.facts) (hPre_finite := Cert.Pool.pre_facts) := by
  intro m g m' g' hpre hargs
  refine ⟨_, _, _, (θ_run _ _ _).mono (fun r h c => ⟨(h c).1.1, (h c).1.2.1, (h c).1.2.2, (h c).2⟩) (ideal_value m g),
    (θ_run _ _ _).mono (fun r h c => ?_) (Cert.ReferenceIdeal.Value.run (F := Ideal) m' g')⟩
  obtain ⟨p0, p1, p2, p3⟩ := @Cert.Pool.pre_real _ _ _ _ Cert.Pool.pre_facts (hpre c)
  obtain ⟨X0, p0⟩ : ∃ X : Cert.KernelIdeal.S4112x512.Idx → ℝ, ∀ j, m ((c.tc : Thread Cert.KernelIdeal.nD Cert.KernelIdeal.τ).loc Cert.KernelIdeal.main_arg0) j = ((X j : ℝ) : EReal) := ⟨_, p0⟩
  obtain ⟨X1, p1⟩ : ∃ X : Cert.KernelIdeal.S4x128x128.Idx → ℝ, ∀ j, m ((c.tc : Thread Cert.KernelIdeal.nD Cert.KernelIdeal.τ).loc Cert.KernelIdeal.main_arg1) j = ((X j : ℝ) : EReal) := ⟨_, p1⟩
  obtain ⟨X2, p2⟩ : ∃ X : Cert.KernelIdeal.S4x128.Idx → ℝ, ∀ j, m ((c.tc : Thread Cert.KernelIdeal.nD Cert.KernelIdeal.τ).loc Cert.KernelIdeal.main_arg2) j = ((X j : ℝ) : EReal) := ⟨_, p2⟩
  obtain ⟨X3, p3⟩ : ∃ X : Cert.KernelIdeal.S4112x512.Idx → ℝ, ∀ j, m ((c.tc : Thread Cert.KernelIdeal.nD Cert.KernelIdeal.τ).loc Cert.KernelIdeal.main_arg3) j = ((X j : ℝ) : EReal) := ⟨_, p3⟩
  obtain ⟨a0, a1, a2, a3⟩ := hargs c
  have q0 : ∀ j : Cert.KernelIdeal.S4112x512.Idx, m' ((c.tc : Thread Cert.ReferenceIdeal.nD Cert.ReferenceIdeal.τ).loc Cert.ReferenceIdeal.main_arg0) j = ((X0 j : ℝ) : EReal) := fun j => (congrFun a0 j).trans (p0 j)
  have q1 : ∀ j : Cert.KernelIdeal.S4x128x128.Idx, m' ((c.tc : Thread Cert.ReferenceIdeal.nD Cert.ReferenceIdeal.τ).loc Cert.ReferenceIdeal.main_arg1) j = ((X1 j : ℝ) : EReal) := fun j => (congrFun a1 j).trans (p1 j)
  have q2 : ∀ j : Cert.KernelIdeal.S4x128.Idx, m' ((c.tc : Thread Cert.ReferenceIdeal.nD Cert.ReferenceIdeal.τ).loc Cert.ReferenceIdeal.main_arg2) j = ((X2 j : ℝ) : EReal) := fun j => (congrFun a2 j).trans (p2 j)
  have q3 : ∀ j : Cert.KernelIdeal.S4112x512.Idx, m' ((c.tc : Thread Cert.ReferenceIdeal.nD Cert.ReferenceIdeal.τ).loc Cert.ReferenceIdeal.main_arg3) j = ((X3 j : ℝ) : EReal) := fun j => (congrFun a3 j).trans (p3 j)
  refine ⟨(h c).1.trans ((Cert.ReferenceIdeal.Read.val_main_v152_eq _).trans (funext fun j => ?_)),
    (h c).2.1.trans ((Cert.ReferenceIdeal.Read.val_main_v87_eq _).trans (funext fun j => ?_)),
    (h c).2.2.1.trans ((Cert.ReferenceIdeal.Read.val_main_v82_eq _).trans (funext fun j => ?_)), (h c).2.2.2⟩
  · obtain ⟨l, q, rfl⟩ : ∃ (l : Fin 4112) (q : Fin 512), j = ix2 l q := ⟨j 0, j 1, (ix2_eta (n0 := 4112) (n1 := 512) j).symm⟩
    refine (Cert.ReferenceIdeal.Pool.r152 _ _ _ X3 X1 X2 q1 q2 q3 l q).trans (Eq.trans ?_ (Cert.KernelIdeal.Pool.tail5 m c X3 X1 X2 p1 p2 p3 l q).symm)
    exact congrArg (fun r : ℝ => (r : EReal)) (Cert.Pool.dv_eq X3 X1 X2 _ l.val _).symm
  · obtain ⟨k, a, b, rfl⟩ : ∃ (k : Fin 4) (a b : Fin 128), j = ix3 k a b := ⟨j 0, j 1, j 2, (ix3_eta (n0 := 4) (n1 := 128) (n2 := 128) j).symm⟩
    refine (Cert.ReferenceIdeal.Pool.r87 _ _ _ X0 X3 X2 q0 q2 q3 k a b).trans (Eq.trans ?_ (congrFun (Cert.KernelIdeal.Pool.final5 m c X0 X3 X2 p0 p2 p3) _).symm)
    exact congrArg (fun r : ℝ => (r : EReal)) (Cert.Pool.dw_eq X0 X3 X2 k a b).symm
  · obtain ⟨k, b, rfl⟩ : ∃ (k : Fin 4) (b : Fin 128), j = ix2 k b := ⟨j 0, j 1, (ix2_eta (n0 := 4) (n1 := 128) j).symm⟩
    refine (Cert.ReferenceIdeal.Pool.r82 _ _ _ X0 X3 X1 q0 q1 q3 k b).trans (Eq.trans ?_ (Cert.KernelIdeal.Pool.tail6 m c X0 X3 X1 p0 p1 p3 k b).symm)
    exact congrArg (fun r : ℝ => (r : EReal)) (Cert.Pool.ds_eq X0 X3 X1 k b).symm

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts,
  Cert.Reference6Ideal.Gen.facts, Cert.Pool.pre_facts, Cert.Back.pre_facts,
  kernel_runs, ideal_runs, fun m g _ => ideal_runs m g trivial, reference_runs, fun m g _ => reference_runs m g trivial,
  Cert.Wgrad.kernel_runs, Cert.Wgrad.ideal_runs, Cert.Wgrad.reference_runs,
  Cert.Back.kernel_runs, Cert.Back.ideal_runs, fun m g _ => Cert.Back.ideal_runs m g trivial, Cert.Back.reference_runs,
  fun m g _ => Cert.Back.reference_runs m g trivial, Cert.Ffn.kernel_runs, Cert.Ffn.ideal_runs, Cert.Ffn.reference_runs,
  Cert.In.kernel_runs, Cert.In.ideal_runs, Cert.In.reference_runs, Cert.Out.kernel_runs, Cert.Out.ideal_runs, Cert.Out.reference_runs,
  trivial, values, trivial, Cert.Wgrad.values, trivial, Cert.Back.values, trivial, Cert.Ffn.values, trivial, Cert.In.values,
  trivial, Cert.Out.values⟩

end Cert.Proof

end
